-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_over_temp" .f32 0x3F38AA3B#32 (((Real.log 2)⁻¹ * 2⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)) (v8 : (c : Dev Cert.KernelIdeal.nD) → Buf (Elt Ideal) ((c.tc : Thread Cert.KernelIdeal.nD Cert.KernelIdeal.τ).loc Cert.KernelIdeal.main_v4_8)) (v9 : (c : Dev Cert.KernelIdeal.nD) → Buf (Elt Ideal) ((c.tc : Thread Cert.KernelIdeal.nD Cert.KernelIdeal.τ).loc Cert.KernelIdeal.main_v4_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_v4_8) = v8 c
          ∧ r.2.mem ((c.tc : Thread Cert.KernelIdeal.nD Cert.KernelIdeal.τ).loc Cert.KernelIdeal.main_v4_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_v4_7) = v7 c
          ∧ r.2.mem ((c.tc : Thread Cert.ReferenceIdeal.nD Cert.ReferenceIdeal.τ).loc Cert.ReferenceIdeal.main_v4_8) = v8 c
          ∧ r.2.mem ((c.tc : Thread Cert.ReferenceIdeal.nD Cert.ReferenceIdeal.τ).loc Cert.ReferenceIdeal.main_v4_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x2560 : Shape := ⟨3, ![2, 128, 2560]⟩
abbrev S2x128x1152 : Shape := ⟨3, ![2, 128, 1152]⟩
abbrev S131072x2560 : Shape := ⟨2, ![131072, 2560]⟩
abbrev S131072 : Shape := ⟨1, ![131072]⟩
abbrev S131072x1152 : Shape := ⟨2, ![131072, 1152]⟩
abbrev S_ : Shape := ⟨0, ![]⟩

class Facts : Prop where
  bcast_S_S2x128x2560 : S_.BroadcastsInDim S2x128x2560 (![] : Fin 0 → Fin S2x128x2560.rank)
  bcast_S_S2x128x1152 : S_.BroadcastsInDim S2x128x1152 (![] : Fin 0 → Fin S2x128x1152.rank)

variable [Facts]

def fn {F : FTy → Type} [FloatOps F] (main_arg0 : FVec F S2x128x2560 .bf16) (main_arg1 : FVec F S2x128x1152 .bf16) (main_arg2 : FVec F S131072x2560 .fp8e4m3) (main_arg3 : FVec F S131072 .f32) (main_arg4 : FVec F S131072x1152 .fp8e4m3) (main_arg5 : FVec F S131072 .f32) : IVec S2x128x2560 1 × IVec S2x128x1152 1 :=
  let main_v0 : FVec F S2x128x2560 .bf16 := Host.absf main_arg0
  let main_cst : FVec F S_ .bf16 := constant S_ .bf16 0x7F7F#16
  let main_v1 : FVec F S2x128x2560 .bf16 := broadcastInDim S2x128x2560 ![] bcast_S_S2x128x2560 main_cst
  let main_v2 : IVec S2x128x2560 1 := cmpf .ole main_v0 main_v1
  let main_v3 : FVec F S2x128x1152 .bf16 := Host.absf main_arg1
  let main_cst_0 : FVec F S_ .bf16 := constant S_ .bf16 0x7F7F#16
  let main_v4 : FVec F S2x128x1152 .bf16 := broadcastInDim S2x128x1152 ![] bcast_S_S2x128x1152 main_cst_0
  let main_v5 : IVec S2x128x1152 1 := cmpf .ole main_v3 main_v4
  (main_v2, main_v5)
-- ==== Kernel.lean ====
abbrev S2x128x2560 : Shape := ⟨3, ![2, 128, 2560]⟩
abbrev S2x128x1152 : Shape := ⟨3, ![2, 128, 1152]⟩
abbrev S131072x2560 : Shape := ⟨2, ![131072, 2560]⟩
abbrev S131072 : Shape := ⟨1, ![131072]⟩
abbrev S131072x1152 : Shape := ⟨2, ![131072, 1152]⟩
abbrev S256x2560 : Shape := ⟨2, ![256, 2560]⟩
abbrev S256x1152 : Shape := ⟨2, ![256, 1152]⟩
abbrev S1x131072 : Shape := ⟨2, ![1, 131072]⟩
abbrev S256x1 : Shape := ⟨2, ![256, 1]⟩
abbrev S256x4 : Shape := ⟨2, ![256, 4]⟩
abbrev S1024x2560 : Shape := ⟨2, ![1024, 2560]⟩
abbrev S1x1024 : Shape := ⟨2, ![1, 1024]⟩
abbrev S1024x1152 : Shape := ⟨2, ![1024, 1152]⟩
abbrev S256x128 : Shape := ⟨2, ![256, 128]⟩
abbrev S3x256x128 : Shape := ⟨3, ![3, 256, 128]⟩
abbrev S32x2560 : Shape := ⟨2, ![32, 2560]⟩
abbrev S32 : Shape := ⟨1, ![32]⟩
abbrev S32x1 : Shape := ⟨2, ![32, 1]⟩
abbrev S32x255 : Shape := ⟨2, ![32, 255]⟩
abbrev S32x128 : Shape := ⟨2, ![32, 128]⟩
abbrev S32x1152 : Shape := ⟨2, ![32, 1152]⟩
abbrev S512x2560 : Shape := ⟨2, ![512, 2560]⟩
abbrev S256x512 : Shape := ⟨2, ![256, 512]⟩
abbrev S512x1152 : Shape := ⟨2, ![512, 1152]⟩
abbrev S8x128 : Shape := ⟨2, ![8, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S1x256x4 : Shape := ⟨3, ![1, 256, 4]⟩
abbrev S256 : Shape := ⟨1, ![256]⟩

abbrev nBuf : Space → Nat
  | .hbm => 20
  | .vmem => 28
  | .smem => 0
  | _ => 0

abbrev bufTy : (tb : Table) → Fin (tcTables nBuf tb) → BufTy
  | .hbm, ⟨0, _⟩ => ⟨S2x128x2560, .bf16⟩
  | .hbm, ⟨1, _⟩ => ⟨S2x128x1152, .bf16⟩
  | .hbm, ⟨2, _⟩ => ⟨S131072x2560, .fp8e4m3⟩
  | .hbm, ⟨3, _⟩ => ⟨S131072, .f32⟩
  | .hbm, ⟨4, _⟩ => ⟨S131072x1152, .fp8e4m3⟩
  | .hbm, ⟨5, _⟩ => ⟨S131072, .f32⟩
  | .hbm, ⟨6, _⟩ => ⟨S256x2560, .bf16⟩
  | .hbm, ⟨7, _⟩ => ⟨S256x1152, .bf16⟩
  | .hbm, ⟨8, _⟩ => ⟨S1x131072, .f32⟩
  | .hbm, ⟨9, _⟩ => ⟨S1x131072, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x4, .f32⟩
  | .hbm, ⟨14, _⟩ => ⟨S256x4, .f32⟩
  | .hbm, ⟨15, _⟩ => ⟨S256x4, .f32⟩
  | .hbm, ⟨16, _⟩ => ⟨S256x2560, .fp8e4m3⟩
  | .hbm, ⟨17, _⟩ => ⟨S256x1, .f32⟩
  | .hbm, ⟨18, _⟩ => ⟨S256x1152, .fp8e4m3⟩
  | .hbm, ⟨19, _⟩ => ⟨S256x1, .f32⟩
  | .local _ .vmem, ⟨0, _⟩ => ⟨S256x2560, .bf16⟩
  | .local _ .vmem, ⟨1, _⟩ => ⟨S256x1152, .bf16⟩
  | .local _ .vmem, ⟨2, _⟩ => ⟨S1024x2560, .fp8e4m3⟩
  | .local _ .vmem, ⟨3, _⟩ => ⟨S1024x2560, .fp8e4m3⟩
  | .local _ .vmem, ⟨4, _⟩ => ⟨S1x1024, .f32⟩
  | .local _ .vmem, ⟨5, _⟩ => ⟨S1x1024, .f32⟩
  | .local _ .vmem, ⟨6, _⟩ => ⟨S1024x1152, .fp8e4m3⟩
  | .local _ .vmem, ⟨7, _⟩ => ⟨S1024x1152, .fp8e4m3⟩
  | .local _ .vmem, ⟨8, _⟩ => ⟨S1x1024, .f32⟩
  | .local _ .vmem, ⟨9, _⟩ => ⟨S1x1024, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x4, .f32⟩
  | .local _ .vmem, ⟨14, _⟩ => ⟨S256x4, .f32⟩
  | .local _ .vmem, ⟨15, _⟩ => ⟨S256x4, .f32⟩
  | .local _ .vmem, ⟨16, _⟩ => ⟨S256x2560, .fp8e4m3⟩
  | .local _ .vmem, ⟨17, _⟩ => ⟨S256x1, .f32⟩
  | .local _ .vmem, ⟨18, _⟩ => ⟨S256x1152, .fp8e4m3⟩
  | .local _ .vmem, ⟨19, _⟩ => ⟨S256x1, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S3x256x128, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev main_v4_9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19

abbrev nD : Nat := 1
abbrev τ : Topo := Topo.v7x

variable {F : FTy → Type} [FloatOps F]

abbrev grid0 : Pipeline.Grid := ⟨1, ![128], ![false]⟩

def k0_cond4 (i : grid0.Coords) : BitVec 1 :=
  let arg0 : BitVec 32 := BitVec.ofNat 32 (i 0).val
  let c127_i32 : BitVec 32 := 127#32
  let v7789 : BitVec 1 := Scalar.cmpi .eq arg0 c127_i32
  let v7790 : BitVec 32 := Scalar.extui v7789
  let c0_i32_2555 : BitVec 32 := 0#32
  let v7791 : BitVec 1 := Scalar.cmpi .ne v7790 c0_i32_2555
  v7791

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1152 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2560 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1152 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log2e_over_temp" => some (((Real.log 2)⁻¹ * 2⁻¹ : ℝ) : EReal)
  | _ => none
-- ==== ReferenceIdeal.lean ====
abbrev S2x128x2560 : Shape := ⟨3, ![2, 128, 2560]⟩
abbrev S2x128x1152 : Shape := ⟨3, ![2, 128, 1152]⟩
abbrev S131072x2560 : Shape := ⟨2, ![131072, 2560]⟩
abbrev S131072 : Shape := ⟨1, ![131072]⟩
abbrev S131072x1152 : Shape := ⟨2, ![131072, 1152]⟩
abbrev S256x2560 : Shape := ⟨2, ![256, 2560]⟩
abbrev S256x1152 : Shape := ⟨2, ![256, 1152]⟩
abbrev S1x131072 : Shape := ⟨2, ![1, 131072]⟩
abbrev S256x1 : Shape := ⟨2, ![256, 1]⟩
abbrev S256x4 : Shape := ⟨2, ![256, 4]⟩
abbrev S256 : Shape := ⟨1, ![256]⟩
abbrev S1x253 : Shape := ⟨2, ![1, 253]⟩
abbrev S256x253 : Shape := ⟨2, ![256, 253]⟩
abbrev S256x131072 : Shape := ⟨2, ![256, 131072]⟩
abbrev S256x4x32768 : Shape := ⟨3, ![256, 4, 32768]⟩
abbrev S256x4x1 : Shape := ⟨3, ![256, 4, 1]⟩

abbrev nBuf : Space → Nat
  | .hbm => 20
  | .vmem => 16
  | .smem => 0
  | _ => 0

abbrev bufTy : (tb : Table) → Fin (tcTables nBuf tb) → BufTy
  | .hbm, ⟨0, _⟩ => ⟨S2x128x2560, .bf16⟩
  | .hbm, ⟨1, _⟩ => ⟨S2x128x1152, .bf16⟩
  | .hbm, ⟨2, _⟩ => ⟨S131072x2560, .fp8e4m3⟩
  | .hbm, ⟨3, _⟩ => ⟨S131072, .f32⟩
  | .hbm, ⟨4, _⟩ => ⟨S131072x1152, .fp8e4m3⟩
  | .hbm, ⟨5, _⟩ => ⟨S131072, .f32⟩
  | .hbm, ⟨6, _⟩ => ⟨S256x2560, .bf16⟩
  | .hbm, ⟨7, _⟩ => ⟨S256x1152, .bf16⟩
  | .hbm, ⟨8, _⟩ => ⟨S1x131072, .f32⟩
  | .hbm, ⟨9, _⟩ => ⟨S1x131072, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x4, .f32⟩
  | .hbm, ⟨14, _⟩ => ⟨S256x4, .f32⟩
  | .hbm, ⟨15, _⟩ => ⟨S256x4, .f32⟩
  | .hbm, ⟨16, _⟩ => ⟨S256x2560, .fp8e4m3⟩
  | .hbm, ⟨17, _⟩ => ⟨S256x1, .f32⟩
  | .hbm, ⟨18, _⟩ => ⟨S256x1152, .fp8e4m3⟩
  | .hbm, ⟨19, _⟩ => ⟨S256x1, .f32⟩
  | .local _ .vmem, ⟨0, _⟩ => ⟨S256x2560, .bf16⟩
  | .local _ .vmem, ⟨1, _⟩ => ⟨S256x1152, .bf16⟩
  | .local _ .vmem, ⟨2, _⟩ => ⟨S131072x2560, .fp8e4m3⟩
  | .local _ .vmem, ⟨3, _⟩ => ⟨S1x131072, .f32⟩
  | .local _ .vmem, ⟨4, _⟩ => ⟨S131072x1152, .fp8e4m3⟩
  | .local _ .vmem, ⟨5, _⟩ => ⟨S1x131072, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x4, .f32⟩
  | .local _ .vmem, ⟨10, _⟩ => ⟨S256x4, .f32⟩
  | .local _ .vmem, ⟨11, _⟩ => ⟨S256x4, .f32⟩
  | .local _ .vmem, ⟨12, _⟩ => ⟨S256x2560, .fp8e4m3⟩
  | .local _ .vmem, ⟨13, _⟩ => ⟨S256x1, .f32⟩
  | .local _ .vmem, ⟨14, _⟩ => ⟨S256x1152, .fp8e4m3⟩
  | .local _ .vmem, ⟨15, _⟩ => ⟨S256x1, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev main_v4_9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S131072x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x131072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S131072x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x131072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x2560 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x1152 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Kernel.Spec.lean ====
/-
  The kernel body restated with its unrolled loops as loops: blocks of 32 rows in the quantiser, blocks of 8 rows in
  the accumulation over the vocabulary tile, blocks of 64 rows where a shard ends. `body_eq` says that the printed body,
  which repeats each block's text at literal offsets, is this program.
-/
module

public import proofs.«01_k».proof.Proof.Gen.Kernel
public import Idealize.ShloMosaic.Lib.Tactic

@[expose] public section

noncomputable section

namespace Cert.Kernel.Body

open Cert.Kernel Cert.Kernel.Gen
open Idealize.ShloMosaic Idealize.SL.Sem

variable {F : FTy → Type} [FloatOps F]

/-- The named constants. -/
def cTemp : F .f32 := Scalar.ofBits .f32 0x3F38AA3B#32
def cLog2e : F .f32 := Scalar.ofBits .f32 0x3FB8AA3B#32
def cLn2 : F .f32 := Scalar.ofBits .f32 0x3F317218#32

/-- The programs the body is made of. -/
abbrev P (F : FTy → Type) [FloatOps F] (α : Type) : Type 1 := Prog (TpuEff nD τ sig (Elt F) Λ₀ .tc) α

/-- `p 0`, `p 1`, …, `p (n - 1)`, in this order: the last `k` of them. -/
def each {n : Nat} (p : Fin n → P F PUnit) : (k : Nat) → k ≤ n → P F PUnit
  | 0, _ => pure ⟨⟩
  | k + 1, h => do
    p ⟨n - (k + 1), by omega⟩
    each p k (by omega)

/-! ### Where the blocks lie -/

theorem inb8 (r : Fin 32) : ∀ a, (![8 * r.val, 0] : Fin 2 → Nat) a + S8x128.size a ≤ S256x128.size a := by
  intro a; fin_cases a
  · show 8 * r.val + 8 ≤ 256; omega
  · show 0 + 128 ≤ 128; omega
theorem inb32 (r : Fin 8) : ∀ a, (![32 * r.val, 0] : Fin 2 → Nat) a + S32x128.size a ≤ S256x128.size a := by
  intro a; fin_cases a
  · show 32 * r.val + 32 ≤ 256; omega
  · show 0 + 128 ≤ 128; omega
theorem inb64 (r : Fin 4) : ∀ a, (![64 * r.val, 0] : Fin 2 → Nat) a + S64x128.size a ≤ S256x128.size a := by
  intro a; fin_cases a
  · show 64 * r.val + 64 ≤ 256; omega
  · show 0 + 128 ≤ 128; omega
theorem inbCol (r : Fin 8) : ∀ a, (![32 * r.val, 0] : Fin 2 → Nat) a + S32x1.size a ≤ S256x1.size a := by
  intro a; fin_cases a
  · show 32 * r.val + 32 ≤ 256; omega
  · show 0 + 1 ≤ 1; omega
theorem inbT (r : Fin 8) : ∀ a, (![32 * r.val, 0] : Fin 2 → Nat) a + S32x2560.size a ≤ S256x2560.size a := by
  intro a; fin_cases a
  · show 32 * r.val + 32 ≤ 256; omega
  · show 0 + 2560 ≤ 2560; omega
theorem inbS (r : Fin 8) : ∀ a, (![32 * r.val, 0] : Fin 2 → Nat) a + S32x1152.size a ≤ S256x1152.size a := by
  intro a; fin_cases a
  · show 32 * r.val + 32 ≤ 256; omega
  · show 0 + 1152 ≤ 1152; omega
theorem inbCols (q : Fin 3) (r : Fin 4) : ∀ a, (![q.val, 64 * r.val, 0] : Fin 3 → Nat) a + S1x64x128.size a ≤ S3x256x128.size a := by
  intro a; fin_cases a
  · show q.val + 1 ≤ 3; omega
  · show 64 * r.val + 64 ≤ 256; omega
  · show 0 + 128 ≤ 128; omega
theorem inbHead (q : Fin 3) : ∀ a, (![q.val, 0, 0] : Fin 3 → Nat) a + S1x256x4.size a ≤ S3x256x128.size a := by
  intro a; fin_cases a
  · show q.val + 1 ≤ 3; omega
  · show 0 + 256 ≤ 256; omega
  · show 0 + 4 ≤ 128; omega
theorem inbScale (n : Fin 2) (l : Fin 4) : ∀ a, (![0, 512 * n.val + 128 * l.val] : Fin 2 → Nat) a + S1x128.size a ≤ S1x1024.size a := by
  intro a; fin_cases a
  · show 0 + 1 ≤ 1; omega
  · show 512 * n.val + 128 * l.val + 128 ≤ 1024; omega
theorem inbWT (n : Fin 2) : ∀ a, (![512 * n.val, 0] : Fin 2 → Nat) a + S512x2560.size a ≤ S1024x2560.size a := by
  intro a; fin_cases a
  · show 512 * n.val + 512 ≤ 1024; omega
  · show 0 + 2560 ≤ 2560; omega
theorem inbWS (n : Fin 2) : ∀ a, (![512 * n.val, 0] : Fin 2 → Nat) a + S512x1152.size a ≤ S1024x1152.size a := by
  intro a; fin_cases a
  · show 512 * n.val + 512 ≤ 1024; omega
  · show 0 + 1152 ≤ 1152; omega
theorem slices8 (r : Fin 32) (l : Fin 4) : S256x512.Slices (![8 * r.val, 128 * l.val] : Fin 2 → Nat) S8x128 := by
  refine ⟨rfl, fun a => ?_⟩; fin_cases a
  · show 8 * r.val + 8 ≤ 256; omega
  · show 128 * l.val + 128 ≤ 512; omega
theorem packedT (r : Fin 8) : (Rect.unit (s := S256x2560) ![32 * r.val, 0] S32x2560.size (inbT r)).PackedRows (EltTy.packing .fp8e4m3) := by
  revert r; decide
theorem packedS (r : Fin 8) : (Rect.unit (s := S256x1152) ![32 * r.val, 0] S32x1152.size (inbS r)).PackedRows (EltTy.packing .fp8e4m3) := by
  revert r; decide

abbrev rc8 (r : Fin 32) : Rect S256x128 := Rect.unit (s := S256x128) ![8 * r.val, 0] S8x128.size (inb8 r)
abbrev rc32 (r : Fin 8) : Rect S256x128 := Rect.unit (s := S256x128) ![32 * r.val, 0] S32x128.size (inb32 r)
abbrev rc64 (r : Fin 4) : Rect S256x128 := Rect.unit (s := S256x128) ![64 * r.val, 0] S64x128.size (inb64 r)
abbrev rcCol (r : Fin 8) : Rect S256x1 := Rect.unit (s := S256x1) ![32 * r.val, 0] S32x1.size (inbCol r)
abbrev rcT (r : Fin 8) : Rect S256x2560 := Rect.unit (s := S256x2560) ![32 * r.val, 0] S32x2560.size (inbT r)
abbrev rcS (r : Fin 8) : Rect S256x1152 := Rect.unit (s := S256x1152) ![32 * r.val, 0] S32x1152.size (inbS r)
abbrev rcCols (q : Fin 3) (r : Fin 4) : Rect S3x256x128 := Rect.unit (s := S3x256x128) ![q.val, 64 * r.val, 0] S1x64x128.size (inbCols q r)
abbrev rcHead (q : Fin 3) : Rect S3x256x128 := Rect.unit (s := S3x256x128) ![q.val, 0, 0] S1x256x4.size (inbHead q)
abbrev rcScale (n : Fin 2) (l : Fin 4) : Rect S1x1024 := Rect.unit (s := S1x1024) ![0, 512 * n.val + 128 * l.val] S1x128.size (inbScale n l)
abbrev rcWT (n : Fin 2) : Rect S1024x2560 := Rect.unit (s := S1024x2560) ![512 * n.val, 0] S512x2560.size (inbWT n)
abbrev rcWS (n : Fin 2) : Rect S1024x1152 := Rect.unit (s := S1024x1152) ![512 * n.val, 0] S512x1152.size (inbWS n)
abbrev rcAll : Rect S256x128 := Rect.unit (s := S256x128) ![0, 0] S256x128.size inb_S256x128_S256x128_0_0
abbrev rcAllCol : Rect S256x1 := Rect.unit (s := S256x1) ![0, 0] S256x1.size inb_S256x1_S256x1_0_0
abbrev rcAllSh : Rect S256x4 := Rect.unit (s := S256x4) ![0, 0] S256x4.size inb_S256x4_S256x4_0_0
abbrev rcAllT : Rect S256x2560 := Rect.unit (s := S256x2560) ![0, 0] S256x2560.size inb_S256x2560_S256x2560_0_0
abbrev rcAllS : Rect S256x1152 := Rect.unit (s := S256x1152) ![0, 0] S256x1152.size inb_S256x1152_S256x1152_0_0

/-! ### What the quantiser computes of 32 rows -/

/-- The exponent of each row's scale, from the row's largest magnitude. -/
def qExp (a : FVec F S32x1 .f32) : IVec S32x1 32 :=
  select (cmpf .oeq a (broadcast S32x1 (Scalar.ofBits .f32 0x00000000#32))) (broadcast S32x1 0#32)
    (subi (shapeCast S32x1 (multiReductionI .add [1] S32
        (extui 32 (cmpf .oge (broadcastTo S32x255 (mulf a (broadcast S32x1 (Scalar.ofBits .f32 0x3B124925#32))) broadcasts_S32x1_S32x255)
          (bitcastToFloat .f32 (shli (addi (iota .tc S32x255 32 [1] iota_S32x255_d1_w32) (broadcast S32x255 1#32)) (broadcast S32x255 23#32)))) natLt_1_32)
        0#32 reduces_S32x255_S32 rfl) shapeCasts_S32_S32x1) (broadcast S32x1 126#32))

def qScale (a : FVec F S32x1 .f32) : FVec F S32x1 .f32 :=
  bitcastToFloat .f32 (shli (addi (qExp a) (broadcast S32x1 127#32)) (broadcast S32x1 23#32))

def qInv (a : FVec F S32x1 .f32) : FVec F S32x1 .f32 :=
  bitcastToFloat .f32 (shli (subi (broadcast S32x1 127#32) (qExp a)) (broadcast S32x1 23#32))

/-- The scale a token's logits take, in units of log 2 and over the temperature, on every lane. -/
def qTok (s : FVec F S32x1 .f32) : FVec F S32x128 .f32 :=
  shapeCast S32x128 (broadcastTo S32x128 (shapeCast S32x1 (mulf s (broadcast S32x1 cTemp)) shapeCasts_S32x1_S32x1) broadcasts_S32x1_S32x128) shapeCasts_S32x128_S32x128

def vT (v : Vec F S32x2560 .bf16) : FVec F S32x2560 .f32 :=
  extf .f32 (shapeCast S32x2560 v shapeCasts_S32x2560_S32x2560 : FVec F S32x2560 .bf16) bitsLt_bf16_f32
def aT (v : Vec F S32x2560 .bf16) : FVec F S32x1 .f32 :=
  shapeCast S32x1 (multiReduction .maximumf [1] S32 (absf (vT v)) 0xFF800000#32 reduces_S32x2560_S32 (.inl rfl) rfl) shapeCasts_S32_S32x1
def codesT (v : Vec F S32x2560 .bf16) : FVec F S32x2560 .fp8e4m3 :=
  truncf .fp8e4m3 (minimumf (broadcast S32x2560 (Scalar.ofBits .f32 0x43E00000#32))
    (maximumf (broadcast S32x2560 (Scalar.ofBits .f32 0xC3E00000#32)) (mulf (vT v) (broadcastTo S32x2560 (qInv (aT v)) broadcasts_S32x1_S32x2560)))) bitsLt_fp8e4m3_f32

def vS (v : Vec F S32x1152 .bf16) : FVec F S32x1152 .f32 :=
  extf .f32 (shapeCast S32x1152 v shapeCasts_S32x1152_S32x1152 : FVec F S32x1152 .bf16) bitsLt_bf16_f32
def aS (v : Vec F S32x1152 .bf16) : FVec F S32x1 .f32 :=
  shapeCast S32x1 (multiReduction .maximumf [1] S32 (absf (vS v)) 0xFF800000#32 reduces_S32x1152_S32 (.inl rfl) rfl) shapeCasts_S32_S32x1
def codesS (v : Vec F S32x1152 .bf16) : FVec F S32x1152 .fp8e4m3 :=
  truncf .fp8e4m3 (minimumf (broadcast S32x1152 (Scalar.ofBits .f32 0x43E00000#32))
    (maximumf (broadcast S32x1152 (Scalar.ofBits .f32 0xC3E00000#32)) (mulf (vS v) (broadcastTo S32x1152 (qInv (aS v)) broadcasts_S32x1_S32x1152)))) bitsLt_fp8e4m3_f32

/-- The quantiser's block of rows `32 r …`, of the teacher's activations, -/
def quantT (arg1 : Memref sig .tc .vmem S256x2560 .bf16) (arg13 : Memref sig .tc .vmem S256x2560 .fp8e4m3) (harg13 : arg13.IsWhole)
    (arg14 : Memref sig .tc .vmem S256x1 .f32) (arg17 : Memref sig .tc .vmem S256x128 .f32) (r : Fin 8) : P F PUnit := do
  let v : Vec F S32x2560 .bf16 ← Prog.lift (.load arg1 (rcT r).toLoadRect (View.loadsAt_vmem h_S32x2560))
  let _ : Vec F S32x2560 .fp8e4m3 ← Prog.lift (.load arg13 (rcT r).toLoadRect (View.loadsAt_vmem h_S32x2560))
  Prog.lift (.store arg13 (rcT r) (codesT v) Finset.univ (View.stores_vmem h_S32x2560 (harg13.storeExact_slice rfl _ (packedT r)) (fun _ => rfl)) (.inl rfl))
  let _ : Vec F S32x1 .f32 ← Prog.lift (.load arg14 (rcCol r).toLoadRect (View.loadsAt_vmem h_S32x1))
  Prog.lift (.store arg14 (rcCol r) (qScale (aT v)) Finset.univ (View.stores_vmem_bits_univ h_S32x1 rfl) (.inl rfl))
  let _ : Vec F S32x128 .f32 ← Prog.lift (.load arg17 (rc32 r).toLoadRect (View.loadsAt_vmem h_S32x128))
  Prog.lift (.store arg17 (rc32 r) (qTok (qScale (aT v))) Finset.univ (View.stores_vmem_bits_univ h_S32x128 rfl) (.inl rfl))

/-- and of the student's. -/
def quantS (arg2 : Memref sig .tc .vmem S256x1152 .bf16) (arg15 : Memref sig .tc .vmem S256x1152 .fp8e4m3) (harg15 : arg15.IsWhole)
    (arg16 : Memref sig .tc .vmem S256x1 .f32) (arg18 : Memref sig .tc .vmem S256x128 .f32) (r : Fin 8) : P F PUnit := do
  let v : Vec F S32x1152 .bf16 ← Prog.lift (.load arg2 (rcS r).toLoadRect (View.loadsAt_vmem h_S32x1152))
  let _ : Vec F S32x1152 .fp8e4m3 ← Prog.lift (.load arg15 (rcS r).toLoadRect (View.loadsAt_vmem h_S32x1152))
  Prog.lift (.store arg15 (rcS r) (codesS v) Finset.univ (View.stores_vmem h_S32x1152 (harg15.storeExact_slice rfl _ (packedS r)) (fun _ => rfl)) (.inl rfl))
  let _ : Vec F S32x1 .f32 ← Prog.lift (.load arg16 (rcCol r).toLoadRect (View.loadsAt_vmem h_S32x1))
  Prog.lift (.store arg16 (rcCol r) (qScale (aS v)) Finset.univ (View.stores_vmem_bits_univ h_S32x1 rfl) (.inl rfl))
  let _ : Vec F S32x128 .f32 ← Prog.lift (.load arg18 (rc32 r).toLoadRect (View.loadsAt_vmem h_S32x128))
  Prog.lift (.store arg18 (rc32 r) (qTok (qScale (aS v))) Finset.univ (View.stores_vmem_bits_univ h_S32x128 rfl) (.inl rfl))

/-! ### The reset at a shard's first step -/

def negInf : FVec F S256x128 .f32 := shapeCast S256x128 (broadcast S256x128 (Scalar.ofBits .f32 0xFF800000#32) : FVec F S256x128 .f32) shapeCasts_S256x128_S256x128
def zeros : FVec F S256x128 .f32 := shapeCast S256x128 (broadcast S256x128 (Scalar.ofBits .f32 0x00000000#32) : FVec F S256x128 .f32) shapeCasts_S256x128_S256x128

/-- A scratch array filled with one value. -/
def fill (a : Memref sig .tc .vmem S256x128 .f32) (v : FVec F S256x128 .f32) : P F PUnit := do
  let _ : Vec F S256x128 .f32 ← Prog.lift (.load a rcAll.toLoadRect (View.loadsAt_vmem h_S256x128))
  Prog.lift (.store a rcAll v Finset.univ (View.stores_vmem_bits_univ h_S256x128 rfl) (.inl rfl))

/-! ### The accumulation over half a vocabulary tile -/

def accT (ct : Vec F S256x2560 .fp8e4m3) (w : Vec F S512x2560 .fp8e4m3) : FVec F S256x512 .f32 :=
  matmul dot_S256x2560_S512x2560_S256x512_1_1_0_0_n_n none (shapeCast S256x2560 ct shapeCasts_S256x2560_S256x2560 : FVec F S256x2560 .fp8e4m3) w (constant S256x512 .f32 0x00000000#32)
def accS (cs : Vec F S256x1152 .fp8e4m3) (w : Vec F S512x1152 .fp8e4m3) : FVec F S256x512 .f32 :=
  matmul dot_S256x1152_S512x1152_S256x512_1_1_0_0_n_n none (shapeCast S256x1152 cs shapeCasts_S256x1152_S256x1152 : FVec F S256x1152 .fp8e4m3) w (constant S256x512 .f32 0x00000000#32)

/-- The scaled logits of 8 rows by 128 lanes. -/
def logit (acc : FVec F S256x512 .f32) (r : Fin 32) (l : Fin 4) (tok : Vec F S8x128 .f32) (w : Vec F S1x128 .f32) : FVec F S8x128 .f32 :=
  mulf (mulf (extractStridedSlice S8x128 ![8 * r.val, 128 * l.val] acc (slices8 r l)) tok)
    (broadcastTo S8x128 (shapeCast S1x128 w shapeCasts_S1x128_S1x128 : FVec F S1x128 .f32) broadcasts_S1x128_S8x128)

/-- The running maximum after four more logits, -/
def newM (m x0 x1 x2 x3 : FVec F S8x128 .f32) : FVec F S8x128 .f32 := maximumf (maximumf (maximumf (maximumf m x0) x1) x2) x3
/-- the running sum of exponentials under the new maximum, -/
def newS (m s x0 x1 x2 x3 : FVec F S8x128 .f32) : FVec F S8x128 .f32 :=
  addf (addf (addf (addf (mulf s (exp2 (subf m (newM m x0 x1 x2 x3)))) (exp2 (subf x0 (newM m x0 x1 x2 x3)))) (exp2 (subf x1 (newM m x0 x1 x2 x3))))
    (exp2 (subf x2 (newM m x0 x1 x2 x3)))) (exp2 (subf x3 (newM m x0 x1 x2 x3)))
/-- and the running sum of exponentials times the difference of the two models' logits. -/
def newA (m a x0 x1 x2 x3 y0 y1 y2 y3 : FVec F S8x128 .f32) : FVec F S8x128 .f32 :=
  addf (addf (addf (addf (mulf a (exp2 (subf m (newM m x0 x1 x2 x3)))) (mulf (exp2 (subf x0 (newM m x0 x1 x2 x3))) (subf x0 y0)))
    (mulf (exp2 (subf x1 (newM m x0 x1 x2 x3))) (subf x1 y1))) (mulf (exp2 (subf x2 (newM m x0 x1 x2 x3))) (subf x2 y2)))
    (mulf (exp2 (subf x3 (newM m x0 x1 x2 x3))) (subf x3 y3))

/-- An 8-row block of a scratch array read, -/
def ld8 (a : Memref sig .tc .vmem S256x128 .f32) (r : Fin 32) : P F (Vec F S8x128 .f32) :=
  Prog.lift (.load a (rc8 r).toLoadRect (View.loadsAt_vmem h_S8x128))
/-- and written. -/
def st8 (a : Memref sig .tc .vmem S256x128 .f32) (r : Fin 32) (v : FVec F S8x128 .f32) : P F PUnit := do
  let _ ← ld8 (F := F) a r
  Prog.lift (.store a (rc8 r) (shapeCast S8x128 v shapeCasts_S8x128_S8x128) Finset.univ (View.stores_vmem_bits_univ h_S8x128 rfl) (.inl rfl))
def ldScale (a : Memref sig .tc .vmem S1x1024 .f32) (n : Fin 2) (l : Fin 4) : P F (Vec F S1x128 .f32) :=
  Prog.lift (.load a (rcScale n l).toLoadRect (View.loadsAt_vmem h_S1x128))

/-- One block of 8 rows of the accumulation. -/
def rowBlk (arg4 arg6 : Memref sig .tc .vmem S1x1024 .f32) (arg17 arg18 arg19 arg20 arg21 arg22 arg23 : Memref sig .tc .vmem S256x128 .f32)
    (n : Fin 2) (at' as' : FVec F S256x512 .f32) (r : Fin 32) : P F PUnit := do
  let tt ← ld8 (F := F) arg17 r
  let ts ← ld8 (F := F) arg18 r
  let w0 ← ldScale (F := F) arg4 n 0
  let u0 ← ldScale (F := F) arg6 n 0
  let w1 ← ldScale (F := F) arg4 n 1
  let u1 ← ldScale (F := F) arg6 n 1
  let w2 ← ldScale (F := F) arg4 n 2
  let u2 ← ldScale (F := F) arg6 n 2
  let w3 ← ldScale (F := F) arg4 n 3
  let u3 ← ldScale (F := F) arg6 n 3
  let m ← ld8 (F := F) arg19 r
  let ms ← ld8 (F := F) arg22 r
  let s ← ld8 (F := F) arg20 r
  let a ← ld8 (F := F) arg21 r
  let ss ← ld8 (F := F) arg23 r
  st8 arg19 r (newM m (logit at' r 0 tt w0) (logit at' r 1 tt w1) (logit at' r 2 tt w2) (logit at' r 3 tt w3))
  st8 arg22 r (newM ms (logit as' r 0 ts u0) (logit as' r 1 ts u1) (logit as' r 2 ts u2) (logit as' r 3 ts u3))
  st8 arg20 r (newS m s (logit at' r 0 tt w0) (logit at' r 1 tt w1) (logit at' r 2 tt w2) (logit at' r 3 tt w3))
  st8 arg21 r (newA m a (logit at' r 0 tt w0) (logit at' r 1 tt w1) (logit at' r 2 tt w2) (logit at' r 3 tt w3)
    (logit as' r 0 ts u0) (logit as' r 1 ts u1) (logit as' r 2 ts u2) (logit as' r 3 ts u3))
  st8 arg23 r (newS ms ss (logit as' r 0 ts u0) (logit as' r 1 ts u1) (logit as' r 2 ts u2) (logit as' r 3 ts u3))

/-- Half a vocabulary tile: the two products, then every block of rows. -/
def half (arg3 : Memref sig .tc .vmem S1024x2560 .fp8e4m3) (arg4 : Memref sig .tc .vmem S1x1024 .f32) (arg5 : Memref sig .tc .vmem S1024x1152 .fp8e4m3) (arg6 : Memref sig .tc .vmem S1x1024 .f32)
    (arg13 : Memref sig .tc .vmem S256x2560 .fp8e4m3) (arg15 : Memref sig .tc .vmem S256x1152 .fp8e4m3)
    (arg17 arg18 arg19 arg20 arg21 arg22 arg23 : Memref sig .tc .vmem S256x128 .f32) (n : Fin 2) : P F PUnit := do
  let ct : Vec F S256x2560 .fp8e4m3 ← Prog.lift (.load arg13 rcAllT.toLoadRect (View.loadsAt_vmem h_S256x2560))
  let wt : Vec F S512x2560 .fp8e4m3 ← Prog.lift (.load arg3 (rcWT n).toLoadRect (View.loadsAt_vmem h_S512x2560))
  let cs : Vec F S256x1152 .fp8e4m3 ← Prog.lift (.load arg15 rcAllS.toLoadRect (View.loadsAt_vmem h_S256x1152))
  let ws : Vec F S512x1152 .fp8e4m3 ← Prog.lift (.load arg5 (rcWS n).toLoadRect (View.loadsAt_vmem h_S512x1152))
  each (rowBlk arg4 arg6 arg17 arg18 arg19 arg20 arg21 arg22 arg23 n (accT ct wt) (accS cs ws)) 32 le_rfl

/-! ### A shard's end -/

/-- The shard a step belongs to, as the kernel computes it, -/
def shardOf (arg0 : BitVec 32) : BitVec 32 :=
  Scalar.select (Scalar.andi
      (Scalar.cmpi .ne (Scalar.subi (Scalar.extui (Scalar.cmpi .sgt arg0 0#32) : BitVec 32) (Scalar.extui (Scalar.cmpi .slt arg0 0#32)))
        (Scalar.subi (Scalar.extui (Scalar.cmpi .sgt 32#32 0#32) : BitVec 32) (Scalar.extui (Scalar.cmpi .slt 32#32 0#32))))
      (Scalar.cmpi .ne (Scalar.remsi arg0 32#32) 0#32))
    (Scalar.subi (Scalar.divsi arg0 32#32) 1#32) (Scalar.divsi arg0 32#32)
/-- and the step's place in it. -/
def placeOf (arg0 : BitVec 32) : BitVec 32 :=
  Scalar.select (Scalar.andi
      (Scalar.xori (Scalar.cmpi .slt (Scalar.remsi arg0 (Scalar.select (Scalar.cmpi .eq 32#32 0#32) 1#32 32#32)) 0#32)
        (Scalar.cmpi .slt (Scalar.select (Scalar.cmpi .eq 32#32 0#32) 1#32 32#32) 0#32))
      (Scalar.cmpi .ne (Scalar.remsi arg0 (Scalar.select (Scalar.cmpi .eq 32#32 0#32) 1#32 32#32)) 0#32))
    (Scalar.addi (Scalar.remsi arg0 (Scalar.select (Scalar.cmpi .eq 32#32 0#32) 1#32 32#32)) (Scalar.select (Scalar.cmpi .eq 32#32 0#32) 1#32 32#32))
    (Scalar.remsi arg0 (Scalar.select (Scalar.cmpi .eq 32#32 0#32) 1#32 32#32))

def rowMax (m : Vec F S64x128 .f32) : FVec F S64x1 .f32 :=
  shapeCast S64x1 (multiReduction .maximumf [1] S64 (m : FVec F S64x128 .f32) 0xFF800000#32 reduces_S64x128_S64 (.inl rfl) rfl) shapeCasts_S64_S64x1
/-- The sum over the lanes of `s`, each lane brought to the row's maximum. -/
def rowSum (m m' s : Vec F S64x128 .f32) : FVec F S64x1 .f32 :=
  shapeCast S64x1 (multiReduction .add [1] S64 (mulf (s : FVec F S64x128 .f32) (exp2 (subf (m' : FVec F S64x128 .f32) (broadcastTo S64x128 (rowMax m) broadcasts_S64x1_S64x128)))) 0x00000000#32 reduces_S64x128_S64 (.inl rfl) rfl) shapeCasts_S64_S64x1
def lseCol (m s : FVec F S64x1 .f32) : FVec F S64x1 .f32 := mulf (addf m (mulf (log s) (broadcast S64x1 cLog2e))) (broadcast S64x1 cLn2)
def quotCol (a s : FVec F S64x1 .f32) : FVec F S64x1 .f32 := mulf (divf a s) (broadcast S64x1 cLn2)
/-- A column put on lane `k` of the block, the other lanes kept. -/
def putCol (k : BitVec 32) (v : FVec F S64x1 .f32) (old : Vec F S1x64x128 .f32) : FVec F S1x64x128 .f32 :=
  shapeCast S1x64x128 (select (cmpi .eq (iota .tc S64x128 32 [1] iota_S64x128_d1_w32) (broadcast S64x128 k))
    (broadcastTo S64x128 (shapeCast S64x1 v shapeCasts_S64x1_S64x1) broadcasts_S64x1_S64x128)
    (shapeCast S64x128 old shapeCasts_S1x64x128_S64x128 : FVec F S64x128 .f32)) shapeCasts_S64x128_S1x64x128

def ld64 (a : Memref sig .tc .vmem S256x128 .f32) (r : Fin 4) : P F (Vec F S64x128 .f32) :=
  Prog.lift (.load a (rc64 r).toLoadRect (View.loadsAt_vmem h_S64x128))
def putPlane (arg24 : Memref sig .tc .vmem S3x256x128 .f32) (q : Fin 3) (r : Fin 4) (k : BitVec 32) (v : FVec F S64x1 .f32) : P F PUnit := do
  let old : Vec F S1x64x128 .f32 ← Prog.lift (.load arg24 (rcCols q r).toLoadRect (View.loadsAt_vmem h_S1x64x128))
  let _ : Vec F S1x64x128 .f32 ← Prog.lift (.load arg24 (rcCols q r).toLoadRect (View.loadsAt_vmem h_S1x64x128))
  Prog.lift (.store arg24 (rcCols q r) (putCol k v old) Finset.univ (View.stores_vmem_bits_univ h_S1x64x128 rfl) (.inl rfl))

/-- The shard's three columns of 64 rows. -/
def endBlk (arg19 arg20 arg21 arg22 arg23 : Memref sig .tc .vmem S256x128 .f32) (arg24 : Memref sig .tc .vmem S3x256x128 .f32) (k : BitVec 32) (r : Fin 4) : P F PUnit := do
  let m ← ld64 (F := F) arg19 r
  let m' ← ld64 (F := F) arg19 r
  let s ← ld64 (F := F) arg20 r
  let a ← ld64 (F := F) arg21 r
  let ms ← ld64 (F := F) arg22 r
  let ss ← ld64 (F := F) arg23 r
  let ms' ← ld64 (F := F) arg22 r
  putPlane arg24 0 r k (lseCol (rowMax m) (rowSum m m' s))
  putPlane arg24 1 r k (lseCol (rowMax ms) (rowSum ms ms' ss))
  putPlane arg24 2 r k (quotCol (rowSum m m' a) (rowSum m m' s))

/-! ### The last step -/

def head (c : Vec F S1x256x4 .f32) : FVec F S256x4 .f32 := shapeCast S256x4 c shapeCasts_S1x256x4_S256x4
def lseSh (x : FVec F S256x4 .f32) : FVec F S256x1 .f32 :=
  addf (shapeCast S256x1 (multiReduction .maximumf [1] S256 x 0xFF800000#32 reduces_S256x4_S256 (.inl rfl) rfl) shapeCasts_S256_S256x1)
    (log (shapeCast S256x1 (multiReduction .add [1] S256 (exp (subf x (broadcastTo S256x4
      (shapeCast S256x1 (multiReduction .maximumf [1] S256 x 0xFF800000#32 reduces_S256x4_S256 (.inl rfl) rfl) shapeCasts_S256_S256x1) broadcasts_S256x1_S256x4)))
      0x00000000#32 reduces_S256x4_S256 (.inl rfl) rfl) shapeCasts_S256_S256x1))
def klOf (lt ls a : FVec F S256x4 .f32) : FVec F S256x1 .f32 :=
  addf (subf (shapeCast S256x1 (multiReduction .add [1] S256 (mulf (exp (subf lt (broadcastTo S256x4 (lseSh lt) broadcasts_S256x1_S256x4))) a)
    0x00000000#32 reduces_S256x4_S256 (.inl rfl) rfl) shapeCasts_S256_S256x1) (lseSh lt)) (lseSh ls)
def lessShard (x : FVec F S256x4 .f32) : FVec F S256x4 .f32 := subf x (broadcast S256x4 (Scalar.ofBits .f32 0x41265AF6#32))
def lessVocab (x : FVec F S256x1 .f32) : FVec F S256x1 .f32 := subf x (broadcast S256x1 (Scalar.ofBits .f32 0x413C8939#32))

def ldHead (arg24 : Memref sig .tc .vmem S3x256x128 .f32) (q : Fin 3) : P F (Vec F S1x256x4 .f32) :=
  Prog.lift (.load arg24 (rcHead q).toLoadRect (View.loadsAt_vmem h_S1x256x4))
def setSh (a : Memref sig .tc .vmem S256x4 .f32) (v : FVec F S256x4 .f32) : P F PUnit := do
  let _ : Vec F S256x4 .f32 ← Prog.lift (.load a rcAllSh.toLoadRect (View.loadsAt_vmem h_S256x4))
  Prog.lift (.store a rcAllSh v Finset.univ (View.stores_vmem_bits_univ h_S256x4 rfl) (.inl rfl))
def setCol (a : Memref sig .tc .vmem S256x1 .f32) (v : FVec F S256x1 .f32) : P F PUnit := do
  let _ : Vec F S256x1 .f32 ← Prog.lift (.load a rcAllCol.toLoadRect (View.loadsAt_vmem h_S256x1))
  Prog.lift (.store a rcAllCol v Finset.univ (View.stores_vmem_bits_univ h_S256x1 rfl) (.inl rfl))

def last (arg7 arg8 arg9 : Memref sig .tc .vmem S256x1 .f32) (arg10 arg11 arg12 : Memref sig .tc .vmem S256x4 .f32) (arg24 : Memref sig .tc .vmem S3x256x128 .f32) : P F PUnit := do
  let lt ← ldHead (F := F) arg24 0
  let ls ← ldHead (F := F) arg24 1
  let a ← ldHead (F := F) arg24 2
  setSh arg10 (lessShard (head lt))
  setSh arg11 (lessShard (head ls))
  setSh arg12 (head a)
  setCol arg7 (klOf (head lt) (head ls) (head a))
  setCol arg8 (lessVocab (lseSh (head lt)))
  setCol arg9 (lessVocab (lseSh (head ls)))

/-- The conditions of the body's two inner branches. -/
def atStart (i : grid0.Coords) : BitVec 1 :=
  Scalar.cmpi .ne (Scalar.extui (Scalar.cmpi .eq (placeOf (BitVec.ofNat 32 (i 0).val)) 0#32) : BitVec 32) 0#32
def atEnd (i : grid0.Coords) : BitVec 1 :=
  Scalar.cmpi .ne (Scalar.extui (Scalar.cmpi .eq (placeOf (BitVec.ofNat 32 (i 0).val)) 31#32) : BitVec 32) 0#32

def quant (arg1 : Memref sig .tc .vmem S256x2560 .bf16) (arg2 : Memref sig .tc .vmem S256x1152 .bf16)
    (arg13 : Memref sig .tc .vmem S256x2560 .fp8e4m3) (harg13 : arg13.IsWhole) (arg14 : Memref sig .tc .vmem S256x1 .f32)
    (arg15 : Memref sig .tc .vmem S256x1152 .fp8e4m3) (harg15 : arg15.IsWhole) (arg16 : Memref sig .tc .vmem S256x1 .f32)
    (arg17 arg18 : Memref sig .tc .vmem S256x128 .f32) : P F PUnit := do
  each (quantT arg1 arg13 harg13 arg14 arg17) 8 le_rfl
  each (quantS arg2 arg15 harg15 arg16 arg18) 8 le_rfl

def reset (arg19 arg20 arg21 arg22 arg23 : Memref sig .tc .vmem S256x128 .f32) : P F PUnit := do
  fill arg19 negInf
  fill arg22 negInf
  fill arg20 zeros
  fill arg21 zeros
  fill arg23 zeros

/-- The quantiser, at the first step only. -/
def condQ (i : grid0.Coords) (arg1 : Memref sig .tc .vmem S256x2560 .bf16) (arg2 : Memref sig .tc .vmem S256x1152 .bf16)
    (arg13 : Memref sig .tc .vmem S256x2560 .fp8e4m3) (harg13 : arg13.IsWhole) (arg14 : Memref sig .tc .vmem S256x1 .f32)
    (arg15 : Memref sig .tc .vmem S256x1152 .fp8e4m3) (harg15 : arg15.IsWhole) (arg16 : Memref sig .tc .vmem S256x1 .f32)
    (arg17 arg18 : Memref sig .tc .vmem S256x128 .f32) : P F PUnit :=
  dite (k0_cond1 i = 1#1) (fun _ => quant arg1 arg2 arg13 harg13 arg14 arg15 harg15 arg16 arg17 arg18) (fun _ => pure ⟨⟩)

/-- The reset, at each shard's first step. -/
def condR (i : grid0.Coords) (arg19 arg20 arg21 arg22 arg23 : Memref sig .tc .vmem S256x128 .f32) : P F PUnit :=
  dite (atStart i = 1#1) (fun _ => reset arg19 arg20 arg21 arg22 arg23) (fun _ => pure ⟨⟩)

/-- The three columns, at each shard's last step. -/
def condE (i : grid0.Coords) (arg19 arg20 arg21 arg22 arg23 : Memref sig .tc .vmem S256x128 .f32) (arg24 : Memref sig .tc .vmem S3x256x128 .f32) : P F PUnit :=
  dite (atEnd i = 1#1) (fun _ => each (endBlk arg19 arg20 arg21 arg22 arg23 arg24 (shardOf (BitVec.ofNat 32 (i 0).val))) 4 le_rfl) (fun _ => pure ⟨⟩)

/-- The results, at the last step. -/
def condL (i : grid0.Coords) (arg7 arg8 arg9 : Memref sig .tc .vmem S256x1 .f32) (arg10 arg11 arg12 : Memref sig .tc .vmem S256x4 .f32)
    (arg24 : Memref sig .tc .vmem S3x256x128 .f32) : P F PUnit :=
  dite (k0_cond4 i = 1#1) (fun _ => last arg7 arg8 arg9 arg10 arg11 arg12 arg24) (fun _ => pure ⟨⟩)

/-- The body. -/
def body (i : grid0.Coords) (arg1 : Memref sig .tc .vmem S256x2560 .bf16) (arg2 : Memref sig .tc .vmem S256x1152 .bf16)
    (arg3 : Memref sig .tc .vmem S1024x2560 .fp8e4m3) (arg4 : Memref sig .tc .vmem S1x1024 .f32) (arg5 : Memref sig .tc .vmem S1024x1152 .fp8e4m3) (arg6 : Memref sig .tc .vmem S1x1024 .f32)
    (arg7 arg8 arg9 : Memref sig .tc .vmem S256x1 .f32) (arg10 arg11 arg12 : Memref sig .tc .vmem S256x4 .f32)
    (arg13 : Memref sig .tc .vmem S256x2560 .fp8e4m3) (harg13 : arg13.IsWhole) (arg14 : Memref sig .tc .vmem S256x1 .f32)
    (arg15 : Memref sig .tc .vmem S256x1152 .fp8e4m3) (harg15 : arg15.IsWhole) (arg16 : Memref sig .tc .vmem S256x1 .f32)
    (arg17 arg18 arg19 arg20 arg21 arg22 arg23 : Memref sig .tc .vmem S256x128 .f32) (arg24 : Memref sig .tc .vmem S3x256x128 .f32) : P F PUnit := do
  condQ i arg1 arg2 arg13 harg13 arg14 arg15 harg15 arg16 arg17 arg18
  condR i arg19 arg20 arg21 arg22 arg23
  half arg3 arg4 arg5 arg6 arg13 arg15 arg17 arg18 arg19 arg20 arg21 arg22 arg23 0
  half arg3 arg4 arg5 arg6 arg13 arg15 arg17 arg18 arg19 arg20 arg21 arg22 arg23 1
  condE i arg19 arg20 arg21 arg22 arg23 arg24
  condL i arg7 arg8 arg9 arg10 arg11 arg12 arg24

end Cert.Kernel.Body

end
-- ==== Proof.Kernel.SpecEq.lean ====
module

public import proofs.«01_k».proof.Proof.Kernel.Spec

@[expose] public section

set_option maxRecDepth 100000
set_option maxHeartbeats 4000000

noncomputable section

namespace Cert.Kernel.Body

open Cert.Kernel Cert.Kernel.Gen
open Idealize.ShloMosaic Idealize.SL.Sem

variable {F : FTy → Type} [FloatOps F]

theorem op_congr {α β : Type} (e e' : TpuEff nD τ sig (Elt F) Λ₀ .tc β) (k k' : β → P F α) (h1 : e = e') (h : ∀ x, k x = k' x) : Prog.op e k = Prog.op e' k' := by
  subst h1; exact congrArg _ (funext h)

/-- The first two branches, of which the printed text puts what follows into either arm. -/
theorem head_eq {c1 c2 : Prop} [Decidable c1] [Decidable c2] {α β : Type} (Q R : P F PUnit) (T : P F α) (K1 : α → P F β) (K2 : β → P F PUnit) :
    ((dite c1 (fun _ => Q >>= fun _ => dite c2 (fun _ => R >>= fun _ => T) (fun _ => T)) (fun _ => dite c2 (fun _ => R >>= fun _ => T) (fun _ => T))) >>= K1) >>= K2
      = (dite c1 (fun _ => Q) (fun _ => pure ⟨⟩)) >>= fun _ => (dite c2 (fun _ => R) (fun _ => pure ⟨⟩)) >>= fun _ => (T >>= K1) >>= K2 := by
  by_cases h1 : c1 <;> by_cases h2 : c2 <;> simp only [h1, h2, dif_pos, dif_neg, not_false_iff, bind_assoc, pure_bind]

/-- The last two, as the printed text has them. -/
theorem tail_eq {c3 c4 : Prop} [Decidable c3] [Decidable c4] (A E L : P F PUnit) :
    (A >>= fun _ => dite c3 (fun _ => E >>= fun _ => dite c4 (fun _ => L >>= fun _ => pure ⟨⟩) (fun _ => pure ⟨⟩)) (fun _ => dite c4 (fun _ => L >>= fun _ => pure ⟨⟩) (fun _ => pure ⟨⟩)))
      = A >>= fun _ => (dite c3 (fun _ => E) (fun _ => pure ⟨⟩)) >>= fun _ => dite c4 (fun _ => L) (fun _ => pure ⟨⟩) := by
  have hL : (L >>= fun _ => pure ⟨⟩) = L := bind_pure L
  by_cases h1 : c3 <;> by_cases h2 : c4 <;> simp only [h1, h2, dif_pos, dif_neg, not_false_iff, bind_assoc, pure_bind, hL]

theorem body_eq (i : grid0.Coords) (arg1 : Memref sig .tc .vmem S256x2560 .bf16) (harg1 : arg1.IsWhole) (arg2 : Memref sig .tc .vmem S256x1152 .bf16) (harg2 : arg2.IsWhole)
    (arg3 : Memref sig .tc .vmem S1024x2560 .fp8e4m3) (harg3 : arg3.IsWhole) (arg4 : Memref sig .tc .vmem S1x1024 .f32) (harg4 : arg4.IsWhole) (arg5 : Memref sig .tc .vmem S1024x1152 .fp8e4m3) (harg5 : arg5.IsWhole) (arg6 : Memref sig .tc .vmem S1x1024 .f32) (harg6 : arg6.IsWhole)
    (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (arg10 : Memref sig .tc .vmem S256x4 .f32) (harg10 : arg10.IsWhole) (arg11 : Memref sig .tc .vmem S256x4 .f32) (harg11 : arg11.IsWhole) (arg12 : Memref sig .tc .vmem S256x4 .f32) (harg12 : arg12.IsWhole)
    (arg13 : Memref sig .tc .vmem S256x2560 .fp8e4m3) (harg13 : arg13.IsWhole) (arg14 : Memref sig .tc .vmem S256x1 .f32) (harg14 : arg14.IsWhole)
    (arg15 : Memref sig .tc .vmem S256x1152 .fp8e4m3) (harg15 : arg15.IsWhole) (arg16 : Memref sig .tc .vmem S256x1 .f32) (harg16 : arg16.IsWhole)
    (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S3x256x128 .f32) (harg24 : arg24.IsWhole) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      = body i arg1 arg2 arg3 arg4 arg5 arg6 arg7 arg8 arg9 arg10 arg11 arg12 arg13 harg13 arg14 arg15 harg15 arg16 arg17 arg18 arg19 arg20 arg21 arg22 arg23 arg24 := by
  refine Eq.trans (head_eq (c1 := k0_cond1 i = 1#1) (c2 := atStart i = 1#1) (quant arg1 arg2 arg13 harg13 arg14 arg15 harg15 arg16 arg17 arg18) (reset arg19 arg20 arg21 arg22 arg23) _ _ _) ?_
  refine congrArg (condQ i arg1 arg2 arg13 harg13 arg14 arg15 harg15 arg16 arg17 arg18 >>= ·) (funext fun _ => congrArg (condR i arg19 arg20 arg21 arg22 arg23 >>= ·) (funext fun _ => ?_))
  refine Eq.trans ?_ ((tail_eq (c3 := atEnd i = 1#1) (c4 := k0_cond4 i = 1#1)
    (half arg3 arg4 arg5 arg6 arg13 arg15 arg17 arg18 arg19 arg20 arg21 arg22 arg23 0 >>= fun _ => half arg3 arg4 arg5 arg6 arg13 arg15 arg17 arg18 arg19 arg20 arg21 arg22 arg23 1)
    (each (endBlk arg19 arg20 arg21 arg22 arg23 arg24 (shardOf (BitVec.ofNat 32 (i 0).val))) 4 le_rfl)
    (last arg7 arg8 arg9 arg10 arg11 arg12 arg24)).trans (bind_assoc _ _ _))
  repeat (refine op_congr _ _ _ _ rfl (fun _ => ?_))
  rfl

end Cert.Kernel.Body

end
-- ==== Proof.Common.lean ====
/-
  Loads and stores of a memref by the values it holds, in the form a program's next step takes them: the program is
  `op >>= k`, and what is left to prove speaks of `k`.
-/
module

public import Idealize.ShloMosaic.Lib.VecWindow
public import Idealize.ShloMosaic.Lib.Writes
public import Idealize.ShloMosaic.Lib.ReshapeSlab
public import Idealize.ShloMosaic.Lib.Tactic

@[expose] public section

noncomputable section

namespace Cert.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} {𝒱 : Variants} {c : Thread nD τ} {bd : Option 𝒱.V} {E : Set Name}
variable {s : Shape} {e : EltTy} {α : Type} {Q : α → sProp (MT nD τ sig Ix Val Name U Lvl)}

/-- The rest of a program is proved when its weakest precondition is. -/
abbrev WP (defs : Defs nD τ sig Val Λ) (𝒱 : Variants) (c : Thread nD τ) (bd : Option 𝒱.V) (E : Set Name)
    (p : Prog (TpuEff nD τ sig Val Λ c.2) α) (Q : α → sProp (MT nD τ sig Ix Val Name U Lvl)) : sProp (MT nD τ sig Ix Val Name U Lvl) :=
  wp frame (wpE defs 𝒱 c bd) E p Q

/-- A load of a window. -/
theorem ld {cs : CoreSpace} {m : Memref sig c.2.kind cs s e} {off size : Fin s.rank → ℕ} {inb : ∀ a, off a + size a ≤ s.size a}
    {hl : m.view.LoadsAt (Rect.unit off size inb).toLoadRect} {q : PosShare TreeShare} {x : s.Idx → Val e}
    {k : ((Rect.unit off size inb).shape.Idx → Val e) → Prog (TpuEff nD τ sig Val Λ c.2) α} :
    owns c m q x ⊢ iprop((owns c m q x -∗ WP defs 𝒱 c bd E (k (window x off size inb)) Q)
      -∗ WP defs 𝒱 c bd E (Prog.lift (.load m (Rect.unit off size inb).toLoadRect hl) >>= k) Q) := by
  unfold owns
  iintro ⟨%f, %hf, H⟩ Hk
  subst hf
  iapply (wp_load 𝒱 c bd E (k := k) (hl := hl) (f := f) (m.view.setOn_subset_set _)) $$ H
  iintro H
  iapply Hk
  iexists f
  isplitr
  · ipureintro; rfl
  · iexact H

/-- An unmasked store of a window. -/
theorem st {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {x : s.Idx → Val e} {k : PUnit → Prog (TpuEff nD τ sig Val Λ c.2) α} :
    owns c m fullShare x ⊢ iprop((owns c m fullShare (put x off size w) -∗ WP defs 𝒱 c bd E (k ⟨⟩) Q)
      -∗ WP defs 𝒱 c bd E (Prog.lift (.store m (Rect.unit off size inb) w Finset.univ hx hm) >>= k) Q) := by
  unfold owns
  iintro ⟨%f, %hf, H⟩ Hk
  subst hf
  iapply (wp_store_writes₀ 𝒱 c bd E (k := k) (hx := hx) (hm := hm) (w := w) (f := f) (m.set_access_subset_setOn _ |>.trans (m.view.setOn_subset_set _))) $$ H
  iintro H
  iapply Hk
  iexists (m.view.writes Val f [⟨Rect.unit off size inb, w⟩])
  isplitr
  · ipureintro; exact View.read_writes_cons_put m.view f inb w [] rfl
  · iexact H

/-- A load of all of it. -/
theorem ldAll {cs : CoreSpace} {m : Memref sig c.2.kind cs s e} {off : Fin s.rank → ℕ} {inb : ∀ a, off a + s.size a ≤ s.size a}
    {hl : m.view.LoadsAt (Rect.unit off s.size inb).toLoadRect} {q : PosShare TreeShare} {x : s.Idx → Val e}
    {k : (s.Idx → Val e) → Prog (TpuEff nD τ sig Val Λ c.2) α} :
    owns c m q x ⊢ iprop((owns c m q x -∗ WP defs 𝒱 c bd E (k x) Q)
      -∗ WP defs 𝒱 c bd E (Prog.lift (.load m (Rect.unit off s.size inb).toLoadRect hl) >>= k) Q) := by
  have h : window x off s.size inb = x := funext fun y => congrArg x (Rect.emb_unit_full inb y)
  have := ld (defs := defs) (𝒱 := 𝒱) (bd := bd) (E := E) (Q := Q) (m := m) (inb := inb) (hl := hl) (q := q) (x := x) (k := k)
  rwa [h] at this

/-- A store of all of it. -/
theorem stAll {cs : CoreSpace} {m : Memref sig c.2.kind cs s e} {off : Fin s.rank → ℕ} {inb : ∀ a, off a + s.size a ≤ s.size a}
    {w : s.Idx → Val e}
    {hx : (m.access (Rect.unit off s.size inb)).Stores Finset.univ} {hm : Finset.univ = Finset.univ ∨ ∀ a, (Rect.unit off s.size inb).stride a = 1}
    {x : s.Idx → Val e} {k : PUnit → Prog (TpuEff nD τ sig Val Λ c.2) α} :
    owns c m fullShare x ⊢ iprop((owns c m fullShare w -∗ WP defs 𝒱 c bd E (k ⟨⟩) Q)
      -∗ WP defs 𝒱 c bd E (Prog.lift (.store m (Rect.unit off s.size inb) w Finset.univ hx hm) >>= k) Q) := by
  have h : put x off s.size w = w := by
    funext y
    have hoff : ∀ a, off a = 0 := fun a => by have := inb a; omega
    have hy : ∀ a, off a ≤ (y a).val ∧ (y a).val < off a + s.size a := fun a => by have := hoff a; have := (y a).isLt; omega
    unfold put
    rw [dif_pos hy]
    exact congrArg w (funext fun a => Fin.ext (by show (y a).val - off a = (y a).val; have := hoff a; omega))
  have := st (defs := defs) (𝒱 := 𝒱) (bd := bd) (E := E) (Q := Q) (m := m) (inb := inb) (hx := hx) (hm := hm) (w := w) (x := x) (k := k)
  rwa [h] at this

/-- The state after the first `k` of `n` steps. -/
def iter {n : Nat} {S : Type} (f : Fin n → S → S) (s : S) : Nat → S
  | 0 => s
  | k + 1 => if h : k < n then f ⟨k, h⟩ (iter f s k) else iter f s k

theorem iter_succ {n : Nat} {S : Type} (f : Fin n → S → S) (s : S) (r : Fin n) : iter f s (r.val + 1) = f r (iter f s r.val) := by
  show (if h : r.val < n then f ⟨r.val, h⟩ (iter f s r.val) else iter f s r.val) = _
  rw [dif_pos r.isLt]

/-- A store read inside the block, -/
theorem put_in {s : Shape} {α : Type} (x : s.Idx → α) (off size : Fin s.rank → ℕ) (w : ((a : Fin s.rank) → Fin (size a)) → α) (y : s.Idx)
    (h : ∀ a, off a ≤ (y a).val ∧ (y a).val < off a + size a) : put x off size w y = w (Rect.unitLocal (s := s) (off := off) (size := size) y h) := dif_pos h
/-- and outside it. -/
theorem put_out {s : Shape} {α : Type} (x : s.Idx → α) (off size : Fin s.rank → ℕ) (w : ((a : Fin s.rank) → Fin (size a)) → α) (y : s.Idx)
    (h : ¬ ∀ a, off a ≤ (y a).val ∧ (y a).val < off a + size a) : put x off size w y = x y := dif_neg h

/-- Steps that each write their own block of every array, reading no other block: each block ends as its own step
    leaves it from the state at the start. -/
theorem iter_blocks {n : Nat} {S ι α : Type} {s : Shape} (get : ι → S → s.Idx → α) (f : Fin n → S → S) (off : Fin n → Fin s.rank → ℕ) (size : Fin s.rank → ℕ)
    (w : ι → Fin n → S → ((a : Fin s.rank) → Fin (size a)) → α)
    (hf : ∀ i r X, get i (f r X) = put (get i X) (off r) size (w i r X))
    (hw : ∀ r X X', (∀ i y, (∀ a, off r a ≤ (y a).val ∧ (y a).val < off r a + size a) → get i X y = get i X' y) → ∀ i, w i r X = w i r X')
    (hdis : ∀ r r' (y : s.Idx), (∀ a, off r a ≤ (y a).val ∧ (y a).val < off r a + size a) → (∀ a, off r' a ≤ (y a).val ∧ (y a).val < off r' a + size a) → r = r')
    (X : S) (r : Fin n) (i : ι) (y : s.Idx) (hy : ∀ a, off r a ≤ (y a).val ∧ (y a).val < off r a + size a) :
    get i (iter f X n) y = w i r X (Rect.unitLocal (s := s) (off := off r) (size := size) y hy) := by
  have key : ∀ k, k ≤ n → (∀ (r : Fin n) i y (hy : ∀ a, off r a ≤ (y a).val ∧ (y a).val < off r a + size a),
      (r.val < k → get i (iter f X k) y = w i r X (Rect.unitLocal (s := s) (off := off r) (size := size) y hy)) ∧ (k ≤ r.val → get i (iter f X k) y = get i X y)) := by
    intro k
    induction k with
    | zero => exact fun _ r i y hy => ⟨fun h => absurd h (Nat.not_lt_zero _), fun _ => rfl⟩
    | succ k ih =>
      intro hk r i y hy
      have hk' : k < n := hk
      have e : iter f X (k + 1) = f ⟨k, hk'⟩ (iter f X k) := iter_succ f X ⟨k, hk'⟩
      have hwk : w i ⟨k, hk'⟩ (iter f X k) = w i ⟨k, hk'⟩ X :=
        hw ⟨k, hk'⟩ _ _ (fun i y hy => (ih hk'.le ⟨k, hk'⟩ i y hy).2 le_rfl) i
      rw [e, hf, hwk]
      by_cases h : r.val = k
      · obtain rfl : r = ⟨k, hk'⟩ := Fin.ext h
        exact ⟨fun _ => put_in _ _ _ _ y hy, fun h => absurd h (by show ¬ k + 1 ≤ k; omega)⟩
      · have hn : ¬ ∀ a, off ⟨k, hk'⟩ a ≤ (y a).val ∧ (y a).val < off ⟨k, hk'⟩ a + size a := fun h' => h (congrArg Fin.val (hdis r ⟨k, hk'⟩ y hy h'))
        rw [put_out _ _ _ _ y hn]
        exact ⟨fun hr => (ih hk'.le r i y hy).1 (by omega), fun hr => (ih hk'.le r i y hy).2 (by omega)⟩
  exact (key n le_rfl r i y hy).1 r.isLt

end Cert.Common

end
-- ==== Proof.Kernel.Step.lean ====
/-
  What each block of the body does to the memrefs it is given: the state before, the state after as a plain function of
  it (loads read `window`s of arrays, stores `put` payloads over them), and the rule that says so.
-/
module

public import proofs.«01_k».proof.Proof.Kernel.Spec
public import proofs.«01_k».proof.Proof.Common

@[expose] public section

set_option maxRecDepth 16384

noncomputable section

namespace Cert.Kernel.Body

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ (UR sig nD τ) ℕ

/-- The weakest precondition of the rest of the body. -/
abbrev W (c : Dev nD) (E : Set ℕ) (p : P F PUnit) (Q : PUnit → sProp 𝕄) : sProp 𝕄 :=
  wp frame (wpE (defs₀ (F := F)) Variants.none (c : Thread nD τ) none) E p Q

/-- A memref held at an array. -/
abbrev at_ (c : Dev nD) {s : Shape} {e : EltTy} (m : Memref sig .tc .vmem s e) (x : Vec F s e) : sProp 𝕄 := owns (c : Thread nD τ) m fullShare x

/-- A loop, from an invariant. -/
theorem each_wp {c : Dev nD} {E : Set ℕ} {Q : PUnit → sProp 𝕄} {n : Nat} {p : Fin n → P F PUnit} (I : ℕ → sProp 𝕄)
    (h : ∀ (r : Fin n) (k : PUnit → P F PUnit), I r.val ⊢ iprop((I (r.val + 1) -∗ W c E (k ⟨⟩) Q) -∗ W c E (p r >>= k) Q))
    (k : PUnit → P F PUnit) : I 0 ⊢ iprop((I n -∗ W c E (k ⟨⟩) Q) -∗ W c E (each p n le_rfl >>= k) Q) := by
  have key : ∀ (j : ℕ) (hj : j ≤ n), I (n - j) ⊢ iprop((I n -∗ W c E (k ⟨⟩) Q) -∗ W c E (each p j hj >>= k) Q) := by
    intro j
    induction j with
    | zero =>
      intro hj
      iintro H Hk
      iapply Hk
      iexact H
    | succ j ih =>
      intro hj
      have e1 : n - (j + 1) + 1 = n - j := by omega
      have h1 := h ⟨n - (j + 1), by omega⟩ (fun _ => each p j (by omega) >>= k)
      rw [show ((⟨n - (j + 1), by omega⟩ : Fin n).val + 1) = n - j from e1] at h1
      have e2 : (each p (j + 1) hj >>= k) = p ⟨n - (j + 1), by omega⟩ >>= fun _ => each p j (by omega) >>= k := bind_assoc _ _ _
      rw [e2]
      iintro H Hk
      iapply h1 $$ H
      iintro H
      iapply (ih _) $$ H
      iexact Hk
  have := key n le_rfl
  rwa [Nat.sub_self] at this

/-! ### The accumulation -/

/-- The five running arrays: the teacher's maximum, sum and weighted difference, the student's maximum and sum. -/
structure Acc (F : FTy → Type) where
  m : Vec F S256x128 .f32
  s : Vec F S256x128 .f32
  a : Vec F S256x128 .f32
  ms : Vec F S256x128 .f32
  ss : Vec F S256x128 .f32

def w8 (x : Vec F S256x128 .f32) (r : Fin 32) : Vec F S8x128 .f32 := window x ![8 * r.val, 0] S8x128.size (inb8 r)
def p8 (x : Vec F S256x128 .f32) (r : Fin 32) (v : FVec F S8x128 .f32) : Vec F S256x128 .f32 :=
  put x ![8 * r.val, 0] S8x128.size (shapeCast S8x128 v shapeCasts_S8x128_S8x128)
def wScale (x : Vec F S1x1024 .f32) (n : Fin 2) (l : Fin 4) : Vec F S1x128 .f32 := window x ![0, 512 * n.val + 128 * l.val] S1x128.size (inbScale n l)

/-- One block of 8 rows. -/
def rowStep (wt ws : Vec F S1x1024 .f32) (tT tS : Vec F S256x128 .f32) (n : Fin 2) (at' as' : FVec F S256x512 .f32) (r : Fin 32) (A : Acc F) : Acc F where
  m := p8 A.m r (newM (w8 A.m r) (logit at' r 0 (w8 tT r) (wScale wt n 0)) (logit at' r 1 (w8 tT r) (wScale wt n 1)) (logit at' r 2 (w8 tT r) (wScale wt n 2)) (logit at' r 3 (w8 tT r) (wScale wt n 3)))
  s := p8 A.s r (newS (w8 A.m r) (w8 A.s r) (logit at' r 0 (w8 tT r) (wScale wt n 0)) (logit at' r 1 (w8 tT r) (wScale wt n 1)) (logit at' r 2 (w8 tT r) (wScale wt n 2)) (logit at' r 3 (w8 tT r) (wScale wt n 3)))
  a := p8 A.a r (newA (w8 A.m r) (w8 A.a r) (logit at' r 0 (w8 tT r) (wScale wt n 0)) (logit at' r 1 (w8 tT r) (wScale wt n 1)) (logit at' r 2 (w8 tT r) (wScale wt n 2)) (logit at' r 3 (w8 tT r) (wScale wt n 3))
    (logit as' r 0 (w8 tS r) (wScale ws n 0)) (logit as' r 1 (w8 tS r) (wScale ws n 1)) (logit as' r 2 (w8 tS r) (wScale ws n 2)) (logit as' r 3 (w8 tS r) (wScale ws n 3)))
  ms := p8 A.ms r (newM (w8 A.ms r) (logit as' r 0 (w8 tS r) (wScale ws n 0)) (logit as' r 1 (w8 tS r) (wScale ws n 1)) (logit as' r 2 (w8 tS r) (wScale ws n 2)) (logit as' r 3 (w8 tS r) (wScale ws n 3)))
  ss := p8 A.ss r (newS (w8 A.ms r) (w8 A.ss r) (logit as' r 0 (w8 tS r) (wScale ws n 0)) (logit as' r 1 (w8 tS r) (wScale ws n 1)) (logit as' r 2 (w8 tS r) (wScale ws n 2)) (logit as' r 3 (w8 tS r) (wScale ws n 3)))

theorem ld8_wp {c : Dev nD} {E : Set ℕ} {Q : PUnit → sProp 𝕄} {m : Memref sig .tc .vmem S256x128 .f32} {r : Fin 32} {x : Vec F S256x128 .f32} {k : Vec F S8x128 .f32 → P F PUnit} :
    (at_ c m x : sProp 𝕄) ⊢ iprop((at_ c m x -∗ W c E (k (w8 x r)) Q) -∗ W c E (ld8 m r >>= k) Q) := ld
theorem ldScale_wp {c : Dev nD} {E : Set ℕ} {Q : PUnit → sProp 𝕄} {m : Memref sig .tc .vmem S1x1024 .f32} {n : Fin 2} {l : Fin 4} {x : Vec F S1x1024 .f32} {k : Vec F S1x128 .f32 → P F PUnit} :
    (at_ c m x : sProp 𝕄) ⊢ iprop((at_ c m x -∗ W c E (k (wScale x n l)) Q) -∗ W c E (ldScale m n l >>= k) Q) := ld
theorem st8_wp {c : Dev nD} {E : Set ℕ} {Q : PUnit → sProp 𝕄} {m : Memref sig .tc .vmem S256x128 .f32} {r : Fin 32} {x : Vec F S256x128 .f32} {v : FVec F S8x128 .f32} {k : PUnit → P F PUnit} :
    (at_ c m x : sProp 𝕄) ⊢ iprop((at_ c m (p8 x r v) -∗ W c E (k ⟨⟩) Q) -∗ W c E (st8 m r v >>= k) Q) := by
  unfold st8
  rw [bind_assoc]
  iintro H Hk
  iapply ld8_wp $$ H
  iintro H
  iapply st $$ H
  iexact Hk

/-- The five arrays held. -/
def accs (c : Dev nD) (arg19 arg20 arg21 arg22 arg23 : Memref sig .tc .vmem S256x128 .f32) (A : Acc F) : sProp 𝕄 :=
  iprop(at_ c arg19 A.m ∗ at_ c arg20 A.s ∗ at_ c arg21 A.a ∗ at_ c arg22 A.ms ∗ at_ c arg23 A.ss)

/-- The scales held. -/
def scales (c : Dev nD) (arg4 arg6 : Memref sig .tc .vmem S1x1024 .f32) (arg17 arg18 : Memref sig .tc .vmem S256x128 .f32)
    (wt ws : Vec F S1x1024 .f32) (tT tS : Vec F S256x128 .f32) : sProp 𝕄 :=
  iprop(at_ c arg4 wt ∗ at_ c arg6 ws ∗ at_ c arg17 tT ∗ at_ c arg18 tS)

theorem rowBlk_wp {c : Dev nD} {E : Set ℕ} {Q : PUnit → sProp 𝕄} {arg4 arg6 : Memref sig .tc .vmem S1x1024 .f32} {arg17 arg18 arg19 arg20 arg21 arg22 arg23 : Memref sig .tc .vmem S256x128 .f32}
    {wt ws : Vec F S1x1024 .f32} {tT tS : Vec F S256x128 .f32} {n : Fin 2} {at' as' : FVec F S256x512 .f32} (r : Fin 32) (A : Acc F) (k : PUnit → P F PUnit) :
    iprop(scales c arg4 arg6 arg17 arg18 wt ws tT tS ∗ accs c arg19 arg20 arg21 arg22 arg23 A)
      ⊢ iprop((iprop(scales c arg4 arg6 arg17 arg18 wt ws tT tS ∗ accs c arg19 arg20 arg21 arg22 arg23 (rowStep wt ws tT tS n at' as' r A)) -∗ W c E (k ⟨⟩) Q)
        -∗ W c E (rowBlk arg4 arg6 arg17 arg18 arg19 arg20 arg21 arg22 arg23 n at' as' r >>= k) Q) := by
  unfold rowBlk scales accs
  simp only [bind_assoc]
  iintro ⟨⟨H4, H6, H17, H18⟩, H19, H20, H21, H22, H23⟩ Hk
  iapply ld8_wp $$ H17; iintro H17
  iapply ld8_wp $$ H18; iintro H18
  iapply ldScale_wp $$ H4; iintro H4
  iapply ldScale_wp $$ H6; iintro H6
  iapply ldScale_wp $$ H4; iintro H4
  iapply ldScale_wp $$ H6; iintro H6
  iapply ldScale_wp $$ H4; iintro H4
  iapply ldScale_wp $$ H6; iintro H6
  iapply ldScale_wp $$ H4; iintro H4
  iapply ldScale_wp $$ H6; iintro H6
  iapply ld8_wp $$ H19; iintro H19
  iapply ld8_wp $$ H22; iintro H22
  iapply ld8_wp $$ H20; iintro H20
  iapply ld8_wp $$ H21; iintro H21
  iapply ld8_wp $$ H23; iintro H23
  iapply st8_wp $$ H19; iintro H19
  iapply st8_wp $$ H22; iintro H22
  iapply st8_wp $$ H20; iintro H20
  iapply st8_wp $$ H21; iintro H21
  iapply st8_wp $$ H23; iintro H23
  iapply Hk
  isplitl [H4 H6 H17 H18]
  · isplitl [H4]; · iexact H4
    isplitl [H6]; · iexact H6
    isplitl [H17]; · iexact H17
    iexact H18
  isplitl [H19]; · iexact H19
  isplitl [H20]; · iexact H20
  isplitl [H21]; · iexact H21
  isplitl [H22]; · iexact H22
  iexact H23

/-- Half a tile. -/
def halfStep (ct : Vec F S256x2560 .fp8e4m3) (cs : Vec F S256x1152 .fp8e4m3) (w : Vec F S1024x2560 .fp8e4m3) (u : Vec F S1024x1152 .fp8e4m3)
    (wt ws : Vec F S1x1024 .f32) (tT tS : Vec F S256x128 .f32) (n : Fin 2) (A : Acc F) : Acc F :=
  iter (rowStep wt ws tT tS n (accT ct (window w ![512 * n.val, 0] S512x2560.size (inbWT n))) (accS cs (window u ![512 * n.val, 0] S512x1152.size (inbWS n)))) A 32

/-- The weights held. -/
def weights (c : Dev nD) (arg3 : Memref sig .tc .vmem S1024x2560 .fp8e4m3) (arg5 : Memref sig .tc .vmem S1024x1152 .fp8e4m3)
    (w : Vec F S1024x2560 .fp8e4m3) (u : Vec F S1024x1152 .fp8e4m3) : sProp 𝕄 := iprop(at_ c arg3 w ∗ at_ c arg5 u)

/-- The codes held. -/
def codes (c : Dev nD) (arg13 : Memref sig .tc .vmem S256x2560 .fp8e4m3) (arg15 : Memref sig .tc .vmem S256x1152 .fp8e4m3)
    (ct : Vec F S256x2560 .fp8e4m3) (cs : Vec F S256x1152 .fp8e4m3) : sProp 𝕄 := iprop(at_ c arg13 ct ∗ at_ c arg15 cs)

theorem half_wp {c : Dev nD} {E : Set ℕ} {Q : PUnit → sProp 𝕄} {arg3 : Memref sig .tc .vmem S1024x2560 .fp8e4m3} {arg5 : Memref sig .tc .vmem S1024x1152 .fp8e4m3}
    {arg4 arg6 : Memref sig .tc .vmem S1x1024 .f32} {arg13 : Memref sig .tc .vmem S256x2560 .fp8e4m3} {arg15 : Memref sig .tc .vmem S256x1152 .fp8e4m3}
    {arg17 arg18 arg19 arg20 arg21 arg22 arg23 : Memref sig .tc .vmem S256x128 .f32} {w : Vec F S1024x2560 .fp8e4m3} {u : Vec F S1024x1152 .fp8e4m3}
    {wt ws : Vec F S1x1024 .f32} {tT tS : Vec F S256x128 .f32} {ct : Vec F S256x2560 .fp8e4m3} {cs : Vec F S256x1152 .fp8e4m3} (n : Fin 2) (A : Acc F) (k : PUnit → P F PUnit) :
    iprop(weights c arg3 arg5 w u ∗ codes c arg13 arg15 ct cs ∗ scales c arg4 arg6 arg17 arg18 wt ws tT tS ∗ accs c arg19 arg20 arg21 arg22 arg23 A)
      ⊢ iprop((iprop(weights c arg3 arg5 w u ∗ codes c arg13 arg15 ct cs ∗ scales c arg4 arg6 arg17 arg18 wt ws tT tS ∗ accs c arg19 arg20 arg21 arg22 arg23 (halfStep ct cs w u wt ws tT tS n A)) -∗ W c E (k ⟨⟩) Q)
        -∗ W c E (half arg3 arg4 arg5 arg6 arg13 arg15 arg17 arg18 arg19 arg20 arg21 arg22 arg23 n >>= k) Q) := by
  unfold half weights codes
  simp only [bind_assoc]
  iintro ⟨⟨H3, H5⟩, ⟨H13, H15⟩, Hs, Ha⟩ Hk
  iapply ldAll $$ H13; iintro H13
  iapply ld $$ H3; iintro H3
  iapply ldAll $$ H15; iintro H15
  iapply ld $$ H5; iintro H5
  iapply (each_wp (fun r => iprop(scales c arg4 arg6 arg17 arg18 wt ws tT tS ∗ accs c arg19 arg20 arg21 arg22 arg23
      (iter (rowStep wt ws tT tS n (accT ct (window w ![512 * n.val, 0] S512x2560.size (inbWT n))) (accS cs (window u ![512 * n.val, 0] S512x1152.size (inbWS n)))) A r)))
      (fun r k => by rw [iter_succ]; exact rowBlk_wp r _ k)) $$ [Hs Ha]
  · isplitl [Hs]; · iexact Hs
    iexact Ha
  iintro ⟨Hs, Ha⟩
  iapply Hk
  isplitl [H3 H5]
  · isplitl [H3]; · iexact H3
    iexact H5
  isplitl [H13 H15]
  · isplitl [H13]; · iexact H13
    iexact H15
  isplitl [Hs]; · iexact Hs
  iexact Ha

/-! ### The reset -/

def resetAcc : Acc F := ⟨negInf, zeros, zeros, negInf, zeros⟩

theorem fill_wp {c : Dev nD} {E : Set ℕ} {Q : PUnit → sProp 𝕄} {m : Memref sig .tc .vmem S256x128 .f32} {x : Vec F S256x128 .f32} {v : FVec F S256x128 .f32} {k : PUnit → P F PUnit} :
    (at_ c m x : sProp 𝕄) ⊢ iprop((at_ c m (v : Vec F S256x128 .f32) -∗ W c E (k ⟨⟩) Q) -∗ W c E (fill m v >>= k) Q) := by
  unfold fill
  rw [bind_assoc]
  iintro H Hk
  iapply ldAll $$ H
  iintro H
  iapply stAll $$ H
  iexact Hk

theorem condR_wp {c : Dev nD} {E : Set ℕ} {Q : PUnit → sProp 𝕄} {arg19 arg20 arg21 arg22 arg23 : Memref sig .tc .vmem S256x128 .f32} (i : grid0.Coords) (A : Acc F) (k : PUnit → P F PUnit) :
    accs c arg19 arg20 arg21 arg22 arg23 A ⊢ iprop((accs c arg19 arg20 arg21 arg22 arg23 (if atStart i = 1#1 then resetAcc else A) -∗ W c E (k ⟨⟩) Q)
        -∗ W c E (condR i arg19 arg20 arg21 arg22 arg23 >>= k) Q) := by
  unfold condR
  by_cases h : atStart i = 1#1
  · rw [dif_pos h, if_pos h]
    unfold accs reset
    simp only [bind_assoc]
    iintro ⟨H19, H20, H21, H22, H23⟩ Hk
    iapply fill_wp $$ H19; iintro H19
    iapply fill_wp $$ H22; iintro H22
    iapply fill_wp $$ H20; iintro H20
    iapply fill_wp $$ H21; iintro H21
    iapply fill_wp $$ H23; iintro H23
    iapply Hk
    isplitl [H19]; · iexact H19
    isplitl [H20]; · iexact H20
    isplitl [H21]; · iexact H21
    isplitl [H22]; · iexact H22
    iexact H23
  · rw [dif_neg h, if_neg h]
    iintro H Hk
    iapply Hk
    iexact H

/-! ### The quantiser -/

/-- The teacher's codes, scales and scaled scales; -/
structure QT (F : FTy → Type) where
  ct : Vec F S256x2560 .fp8e4m3
  st : Vec F S256x1 .f32
  tT : Vec F S256x128 .f32
/-- the student's. -/
structure QS (F : FTy → Type) where
  cs : Vec F S256x1152 .fp8e4m3
  ss : Vec F S256x1 .f32
  tS : Vec F S256x128 .f32

def rowsT (h : Vec F S256x2560 .bf16) (r : Fin 8) : Vec F S32x2560 .bf16 := window h ![32 * r.val, 0] S32x2560.size (inbT r)
def rowsS (h : Vec F S256x1152 .bf16) (r : Fin 8) : Vec F S32x1152 .bf16 := window h ![32 * r.val, 0] S32x1152.size (inbS r)

def quantStepT (h : Vec F S256x2560 .bf16) (r : Fin 8) (X : QT F) : QT F where
  ct := put X.ct ![32 * r.val, 0] S32x2560.size (codesT (rowsT h r))
  st := put X.st ![32 * r.val, 0] S32x1.size (qScale (aT (rowsT h r)))
  tT := put X.tT ![32 * r.val, 0] S32x128.size (qTok (qScale (aT (rowsT h r))))
def quantStepS (h : Vec F S256x1152 .bf16) (r : Fin 8) (X : QS F) : QS F where
  cs := put X.cs ![32 * r.val, 0] S32x1152.size (codesS (rowsS h r))
  ss := put X.ss ![32 * r.val, 0] S32x1.size (qScale (aS (rowsS h r)))
  tS := put X.tS ![32 * r.val, 0] S32x128.size (qTok (qScale (aS (rowsS h r))))

def heldT (c : Dev nD) (arg13 : Memref sig .tc .vmem S256x2560 .fp8e4m3) (arg14 : Memref sig .tc .vmem S256x1 .f32) (arg17 : Memref sig .tc .vmem S256x128 .f32) (X : QT F) : sProp 𝕄 :=
  iprop(at_ c arg13 X.ct ∗ at_ c arg14 X.st ∗ at_ c arg17 X.tT)
def heldS (c : Dev nD) (arg15 : Memref sig .tc .vmem S256x1152 .fp8e4m3) (arg16 : Memref sig .tc .vmem S256x1 .f32) (arg18 : Memref sig .tc .vmem S256x128 .f32) (X : QS F) : sProp 𝕄 :=
  iprop(at_ c arg15 X.cs ∗ at_ c arg16 X.ss ∗ at_ c arg18 X.tS)

theorem quantT_wp {c : Dev nD} {E : Set ℕ} {Q : PUnit → sProp 𝕄} {arg1 : Memref sig .tc .vmem S256x2560 .bf16} {arg13 : Memref sig .tc .vmem S256x2560 .fp8e4m3} {harg13 : arg13.IsWhole}
    {arg14 : Memref sig .tc .vmem S256x1 .f32} {arg17 : Memref sig .tc .vmem S256x128 .f32} {h : Vec F S256x2560 .bf16} (r : Fin 8) (X : QT F) (k : PUnit → P F PUnit) :
    iprop(at_ c arg1 h ∗ heldT c arg13 arg14 arg17 X)
      ⊢ iprop((iprop(at_ c arg1 h ∗ heldT c arg13 arg14 arg17 (quantStepT h r X)) -∗ W c E (k ⟨⟩) Q)
        -∗ W c E (quantT arg1 arg13 harg13 arg14 arg17 r >>= k) Q) := by
  unfold quantT heldT
  simp only [bind_assoc]
  iintro ⟨H1, H13, H14, H17⟩ Hk
  iapply ld $$ H1; iintro H1
  iapply ld $$ H13; iintro H13
  iapply st $$ H13; iintro H13
  iapply ld $$ H14; iintro H14
  iapply st $$ H14; iintro H14
  iapply ld $$ H17; iintro H17
  iapply st $$ H17; iintro H17
  iapply Hk
  isplitl [H1]; · iexact H1
  isplitl [H13]; · iexact H13
  isplitl [H14]; · iexact H14
  iexact H17

theorem quantS_wp {c : Dev nD} {E : Set ℕ} {Q : PUnit → sProp 𝕄} {arg2 : Memref sig .tc .vmem S256x1152 .bf16} {arg15 : Memref sig .tc .vmem S256x1152 .fp8e4m3} {harg15 : arg15.IsWhole}
    {arg16 : Memref sig .tc .vmem S256x1 .f32} {arg18 : Memref sig .tc .vmem S256x128 .f32} {h : Vec F S256x1152 .bf16} (r : Fin 8) (X : QS F) (k : PUnit → P F PUnit) :
    iprop(at_ c arg2 h ∗ heldS c arg15 arg16 arg18 X)
      ⊢ iprop((iprop(at_ c arg2 h ∗ heldS c arg15 arg16 arg18 (quantStepS h r X)) -∗ W c E (k ⟨⟩) Q)
        -∗ W c E (quantS arg2 arg15 harg15 arg16 arg18 r >>= k) Q) := by
  unfold quantS heldS
  simp only [bind_assoc]
  iintro ⟨H1, H13, H14, H17⟩ Hk
  iapply ld $$ H1; iintro H1
  iapply ld $$ H13; iintro H13
  iapply st $$ H13; iintro H13
  iapply ld $$ H14; iintro H14
  iapply st $$ H14; iintro H14
  iapply ld $$ H17; iintro H17
  iapply st $$ H17; iintro H17
  iapply Hk
  isplitl [H1]; · iexact H1
  isplitl [H13]; · iexact H13
  isplitl [H14]; · iexact H14
  iexact H17

theorem condQ_wp {c : Dev nD} {E : Set ℕ} {Q : PUnit → sProp 𝕄} {arg1 : Memref sig .tc .vmem S256x2560 .bf16} {arg2 : Memref sig .tc .vmem S256x1152 .bf16}
    {arg13 : Memref sig .tc .vmem S256x2560 .fp8e4m3} {harg13 : arg13.IsWhole} {arg14 : Memref sig .tc .vmem S256x1 .f32}
    {arg15 : Memref sig .tc .vmem S256x1152 .fp8e4m3} {harg15 : arg15.IsWhole} {arg16 : Memref sig .tc .vmem S256x1 .f32}
    {arg17 arg18 : Memref sig .tc .vmem S256x128 .f32} {h1 : Vec F S256x2560 .bf16} {h2 : Vec F S256x1152 .bf16}
    (i : grid0.Coords) (X : QT F) (Y : QS F) (k : PUnit → P F PUnit) :
    iprop(at_ c arg1 h1 ∗ at_ c arg2 h2 ∗ heldT c arg13 arg14 arg17 X ∗ heldS c arg15 arg16 arg18 Y)
      ⊢ iprop((iprop(at_ c arg1 h1 ∗ at_ c arg2 h2 ∗ heldT c arg13 arg14 arg17 (if k0_cond1 i = 1#1 then iter (quantStepT h1) X 8 else X)
          ∗ heldS c arg15 arg16 arg18 (if k0_cond1 i = 1#1 then iter (quantStepS h2) Y 8 else Y)) -∗ W c E (k ⟨⟩) Q)
        -∗ W c E (condQ i arg1 arg2 arg13 harg13 arg14 arg15 harg15 arg16 arg17 arg18 >>= k) Q) := by
  unfold condQ
  by_cases h : k0_cond1 i = 1#1
  · rw [dif_pos h, if_pos h, if_pos h]
    unfold quant
    rw [bind_assoc]
    iintro ⟨H1, H2, HX, HY⟩ Hk
    iapply (each_wp (fun r => iprop(at_ c arg1 h1 ∗ heldT c arg13 arg14 arg17 (iter (quantStepT h1) X r)))
      (fun r k => by rw [iter_succ]; exact quantT_wp r _ k)) $$ [H1 HX]
    · isplitl [H1]; · iexact H1
      iexact HX
    iintro ⟨H1, HX⟩
    iapply (each_wp (fun r => iprop(at_ c arg2 h2 ∗ heldS c arg15 arg16 arg18 (iter (quantStepS h2) Y r)))
      (fun r k => by rw [iter_succ]; exact quantS_wp r _ k)) $$ [H2 HY]
    · isplitl [H2]; · iexact H2
      iexact HY
    iintro ⟨H2, HY⟩
    iapply Hk
    isplitl [H1]; · iexact H1
    isplitl [H2]; · iexact H2
    isplitl [HX]; · iexact HX
    iexact HY
  · rw [dif_neg h, if_neg h, if_neg h]
    iintro H Hk
    iapply Hk
    iexact H

/-! ### A shard's end -/

def w64 (x : Vec F S256x128 .f32) (r : Fin 4) : Vec F S64x128 .f32 := window x ![64 * r.val, 0] S64x128.size (inb64 r)
def planeStep (q : Fin 3) (r : Fin 4) (k : BitVec 32) (v : FVec F S64x1 .f32) (x : Vec F S3x256x128 .f32) : Vec F S3x256x128 .f32 :=
  put x ![q.val, 64 * r.val, 0] S1x64x128.size (putCol k v (window x ![q.val, 64 * r.val, 0] S1x64x128.size (inbCols q r)))
def endStep (A : Acc F) (k : BitVec 32) (r : Fin 4) (x : Vec F S3x256x128 .f32) : Vec F S3x256x128 .f32 :=
  planeStep 2 r k (quotCol (rowSum (w64 A.m r) (w64 A.m r) (w64 A.a r)) (rowSum (w64 A.m r) (w64 A.m r) (w64 A.s r)))
    (planeStep 1 r k (lseCol (rowMax (w64 A.ms r)) (rowSum (w64 A.ms r) (w64 A.ms r) (w64 A.ss r)))
      (planeStep 0 r k (lseCol (rowMax (w64 A.m r)) (rowSum (w64 A.m r) (w64 A.m r) (w64 A.s r))) x))

theorem ld64_wp {c : Dev nD} {E : Set ℕ} {Q : PUnit → sProp 𝕄} {m : Memref sig .tc .vmem S256x128 .f32} {r : Fin 4} {x : Vec F S256x128 .f32} {k : Vec F S64x128 .f32 → P F PUnit} :
    (at_ c m x : sProp 𝕄) ⊢ iprop((at_ c m x -∗ W c E (k (w64 x r)) Q) -∗ W c E (ld64 m r >>= k) Q) := ld
theorem putPlane_wp {c : Dev nD} {E : Set ℕ} {Q : PUnit → sProp 𝕄} {m : Memref sig .tc .vmem S3x256x128 .f32} {q : Fin 3} {r : Fin 4} {l : BitVec 32} {v : FVec F S64x1 .f32} {x : Vec F S3x256x128 .f32} {k : PUnit → P F PUnit} :
    (at_ c m x : sProp 𝕄) ⊢ iprop((at_ c m (planeStep q r l v x) -∗ W c E (k ⟨⟩) Q) -∗ W c E (putPlane m q r l v >>= k) Q) := by
  unfold putPlane
  simp only [bind_assoc]
  iintro H Hk
  iapply ld $$ H; iintro H
  iapply ld $$ H; iintro H
  iapply st $$ H
  iexact Hk

theorem endBlk_wp {c : Dev nD} {E : Set ℕ} {Q : PUnit → sProp 𝕄} {arg19 arg20 arg21 arg22 arg23 : Memref sig .tc .vmem S256x128 .f32} {arg24 : Memref sig .tc .vmem S3x256x128 .f32} {A : Acc F} {l : BitVec 32}
    (r : Fin 4) (x : Vec F S3x256x128 .f32) (k : PUnit → P F PUnit) :
    iprop(accs c arg19 arg20 arg21 arg22 arg23 A ∗ at_ c arg24 x)
      ⊢ iprop((iprop(accs c arg19 arg20 arg21 arg22 arg23 A ∗ at_ c arg24 (endStep A l r x)) -∗ W c E (k ⟨⟩) Q) -∗ W c E (endBlk arg19 arg20 arg21 arg22 arg23 arg24 l r >>= k) Q) := by
  unfold endBlk accs
  simp only [bind_assoc]
  iintro ⟨⟨H19, H20, H21, H22, H23⟩, H⟩ Hk
  iapply ld64_wp $$ H19; iintro H19
  iapply ld64_wp $$ H19; iintro H19
  iapply ld64_wp $$ H20; iintro H20
  iapply ld64_wp $$ H21; iintro H21
  iapply ld64_wp $$ H22; iintro H22
  iapply ld64_wp $$ H23; iintro H23
  iapply ld64_wp $$ H22; iintro H22
  iapply putPlane_wp $$ H; iintro H
  iapply putPlane_wp $$ H; iintro H
  iapply putPlane_wp $$ H; iintro H
  iapply Hk
  isplitr [H]
  · isplitl [H19]; · iexact H19
    isplitl [H20]; · iexact H20
    isplitl [H21]; · iexact H21
    isplitl [H22]; · iexact H22
    iexact H23
  iexact H

/-- The columns after a step. -/
def endCols (i : grid0.Coords) (A : Acc F) (x : Vec F S3x256x128 .f32) : Vec F S3x256x128 .f32 :=
  if atEnd i = 1#1 then iter (endStep A (shardOf (BitVec.ofNat 32 (i 0).val))) x 4 else x

theorem condE_wp {c : Dev nD} {E : Set ℕ} {Q : PUnit → sProp 𝕄} {arg19 arg20 arg21 arg22 arg23 : Memref sig .tc .vmem S256x128 .f32} {arg24 : Memref sig .tc .vmem S3x256x128 .f32} {A : Acc F}
    (i : grid0.Coords) (x : Vec F S3x256x128 .f32) (k : PUnit → P F PUnit) :
    iprop(accs c arg19 arg20 arg21 arg22 arg23 A ∗ at_ c arg24 x)
      ⊢ iprop((iprop(accs c arg19 arg20 arg21 arg22 arg23 A ∗ at_ c arg24 (endCols i A x)) -∗ W c E (k ⟨⟩) Q) -∗ W c E (condE i arg19 arg20 arg21 arg22 arg23 arg24 >>= k) Q) := by
  unfold condE endCols
  by_cases h : atEnd i = 1#1
  · rw [dif_pos h, if_pos h]
    exact each_wp (fun r => iprop(accs c arg19 arg20 arg21 arg22 arg23 A ∗ at_ c arg24 (iter (endStep A (shardOf (BitVec.ofNat 32 (i 0).val))) x r)))
      (fun r k => by rw [iter_succ]; exact endBlk_wp r _ k) k
  · rw [dif_neg h, if_neg h]
    iintro H Hk
    iapply Hk
    iexact H

/-! ### The results -/

/-- The six results written at the last step. -/
structure Out (F : FTy → Type) where
  kl : Vec F S256x1 .f32
  lt : Vec F S256x1 .f32
  ls : Vec F S256x1 .f32
  sht : Vec F S256x4 .f32
  shs : Vec F S256x4 .f32
  sha : Vec F S256x4 .f32

def plane (x : Vec F S3x256x128 .f32) (q : Fin 3) : FVec F S256x4 .f32 := head (window x ![q.val, 0, 0] S1x256x4.size (inbHead q))
def lastOut (x : Vec F S3x256x128 .f32) : Out F where
  kl := klOf (plane x 0) (plane x 1) (plane x 2)
  lt := lessVocab (lseSh (plane x 0))
  ls := lessVocab (lseSh (plane x 1))
  sht := lessShard (plane x 0)
  shs := lessShard (plane x 1)
  sha := plane x 2

def heldO (c : Dev nD) (arg7 arg8 arg9 : Memref sig .tc .vmem S256x1 .f32) (arg10 arg11 arg12 : Memref sig .tc .vmem S256x4 .f32) (O : Out F) : sProp 𝕄 :=
  iprop(at_ c arg7 O.kl ∗ at_ c arg8 O.lt ∗ at_ c arg9 O.ls ∗ at_ c arg10 O.sht ∗ at_ c arg11 O.shs ∗ at_ c arg12 O.sha)

theorem setSh_wp {c : Dev nD} {E : Set ℕ} {Q : PUnit → sProp 𝕄} {m : Memref sig .tc .vmem S256x4 .f32} {x : Vec F S256x4 .f32} {v : FVec F S256x4 .f32} {k : PUnit → P F PUnit} :
    (at_ c m x : sProp 𝕄) ⊢ iprop((at_ c m (v : Vec F S256x4 .f32) -∗ W c E (k ⟨⟩) Q) -∗ W c E (setSh m v >>= k) Q) := by
  unfold setSh
  rw [bind_assoc]
  iintro H Hk
  iapply ldAll $$ H
  iintro H
  iapply stAll $$ H
  iexact Hk
theorem setCol_wp {c : Dev nD} {E : Set ℕ} {Q : PUnit → sProp 𝕄} {m : Memref sig .tc .vmem S256x1 .f32} {x : Vec F S256x1 .f32} {v : FVec F S256x1 .f32} {k : PUnit → P F PUnit} :
    (at_ c m x : sProp 𝕄) ⊢ iprop((at_ c m (v : Vec F S256x1 .f32) -∗ W c E (k ⟨⟩) Q) -∗ W c E (setCol m v >>= k) Q) := by
  unfold setCol
  rw [bind_assoc]
  iintro H Hk
  iapply ldAll $$ H
  iintro H
  iapply stAll $$ H
  iexact Hk
theorem ldHead_wp {c : Dev nD} {E : Set ℕ} {Q : PUnit → sProp 𝕄} {m : Memref sig .tc .vmem S3x256x128 .f32} {q : Fin 3} {x : Vec F S3x256x128 .f32} {k : Vec F S1x256x4 .f32 → P F PUnit} :
    (at_ c m x : sProp 𝕄) ⊢ iprop((at_ c m x -∗ W c E (k (window x ![q.val, 0, 0] S1x256x4.size (inbHead q))) Q) -∗ W c E (ldHead m q >>= k) Q) := ld

theorem condL_wp {c : Dev nD} {E : Set ℕ} {Q : PUnit → sProp 𝕄} {arg7 arg8 arg9 : Memref sig .tc .vmem S256x1 .f32} {arg10 arg11 arg12 : Memref sig .tc .vmem S256x4 .f32}
    {arg24 : Memref sig .tc .vmem S3x256x128 .f32} (i : grid0.Coords) (x : Vec F S3x256x128 .f32) (O : Out F) (k : PUnit → P F PUnit) :
    iprop(at_ c arg24 x ∗ heldO c arg7 arg8 arg9 arg10 arg11 arg12 O)
      ⊢ iprop((iprop(at_ c arg24 x ∗ heldO c arg7 arg8 arg9 arg10 arg11 arg12 (if k0_cond4 i = 1#1 then lastOut x else O)) -∗ W c E (k ⟨⟩) Q)
        -∗ W c E (condL i arg7 arg8 arg9 arg10 arg11 arg12 arg24 >>= k) Q) := by
  unfold condL
  by_cases h : k0_cond4 i = 1#1
  · rw [dif_pos h, if_pos h]
    unfold last heldO
    simp only [bind_assoc]
    iintro ⟨H, H7, H8, H9, H10, H11, H12⟩ Hk
    iapply ldHead_wp $$ H; iintro H
    iapply ldHead_wp $$ H; iintro H
    iapply ldHead_wp $$ H; iintro H
    iapply setSh_wp $$ H10; iintro H10
    iapply setSh_wp $$ H11; iintro H11
    iapply setSh_wp $$ H12; iintro H12
    iapply setCol_wp $$ H7; iintro H7
    iapply setCol_wp $$ H8; iintro H8
    iapply setCol_wp $$ H9; iintro H9
    iapply Hk
    isplitl [H]; · iexact H
    isplitl [H7]; · iexact H7
    isplitl [H8]; · iexact H8
    isplitl [H9]; · iexact H9
    isplitl [H10]; · iexact H10
    isplitl [H11]; · iexact H11
    iexact H12
  · rw [dif_neg h, if_neg h]
    iintro H Hk
    iapply Hk
    iexact H

/-! ### The body -/

/-- What the body reads: the activations, and the step's tile of the weights and of their scales. -/
structure In (F : FTy → Type) where
  h1 : Vec F S256x2560 .bf16
  h2 : Vec F S256x1152 .bf16
  w : Vec F S1024x2560 .fp8e4m3
  wt : Vec F S1x1024 .f32
  u : Vec F S1024x1152 .fp8e4m3
  ws : Vec F S1x1024 .f32

def heldI (c : Dev nD) (arg1 : Memref sig .tc .vmem S256x2560 .bf16) (arg2 : Memref sig .tc .vmem S256x1152 .bf16)
    (arg3 : Memref sig .tc .vmem S1024x2560 .fp8e4m3) (arg4 : Memref sig .tc .vmem S1x1024 .f32) (arg5 : Memref sig .tc .vmem S1024x1152 .fp8e4m3) (arg6 : Memref sig .tc .vmem S1x1024 .f32)
    (I : In F) : sProp 𝕄 :=
  iprop(at_ c arg1 I.h1 ∗ at_ c arg2 I.h2 ∗ at_ c arg3 I.w ∗ at_ c arg4 I.wt ∗ at_ c arg5 I.u ∗ at_ c arg6 I.ws)

/-- What the body keeps from step to step. -/
structure St (F : FTy → Type) where
  X : QT F
  Y : QS F
  A : Acc F
  cols : Vec F S3x256x128 .f32

/-- The quantised activations after a step, -/
def stepX (i : grid0.Coords) (I : In F) (X : QT F) : QT F := if k0_cond1 i = 1#1 then iter (quantStepT I.h1) X 8 else X
def stepY (i : grid0.Coords) (I : In F) (Y : QS F) : QS F := if k0_cond1 i = 1#1 then iter (quantStepS I.h2) Y 8 else Y
/-- the running arrays, from the activations the step accumulates with, -/
def stepA (i : grid0.Coords) (I : In F) (X : QT F) (Y : QS F) (A : Acc F) : Acc F :=
  halfStep X.ct Y.cs I.w I.u I.wt I.ws X.tT Y.tS 1 (halfStep X.ct Y.cs I.w I.u I.wt I.ws X.tT Y.tS 0 (if atStart i = 1#1 then resetAcc else A))
/-- and all of it. -/
def stepSt (i : grid0.Coords) (I : In F) (S : St F) : St F where
  X := stepX i I S.X
  Y := stepY i I S.Y
  A := stepA i I (stepX i I S.X) (stepY i I S.Y) S.A
  cols := endCols i (stepA i I (stepX i I S.X) (stepY i I S.Y) S.A) S.cols
/-- The results after a step that left the columns at `x`. -/
def stepO (i : grid0.Coords) (x : Vec F S3x256x128 .f32) (O : Out F) : Out F := if k0_cond4 i = 1#1 then lastOut x else O

theorem body_wp {c : Dev nD} {E : Set ℕ} {Q : PUnit → sProp 𝕄} {arg1 : Memref sig .tc .vmem S256x2560 .bf16} {arg2 : Memref sig .tc .vmem S256x1152 .bf16}
    {arg3 : Memref sig .tc .vmem S1024x2560 .fp8e4m3} {arg4 : Memref sig .tc .vmem S1x1024 .f32} {arg5 : Memref sig .tc .vmem S1024x1152 .fp8e4m3} {arg6 : Memref sig .tc .vmem S1x1024 .f32}
    {arg7 arg8 arg9 : Memref sig .tc .vmem S256x1 .f32} {arg10 arg11 arg12 : Memref sig .tc .vmem S256x4 .f32}
    {arg13 : Memref sig .tc .vmem S256x2560 .fp8e4m3} {harg13 : arg13.IsWhole} {arg14 : Memref sig .tc .vmem S256x1 .f32}
    {arg15 : Memref sig .tc .vmem S256x1152 .fp8e4m3} {harg15 : arg15.IsWhole} {arg16 : Memref sig .tc .vmem S256x1 .f32}
    {arg17 arg18 arg19 arg20 arg21 arg22 arg23 : Memref sig .tc .vmem S256x128 .f32} {arg24 : Memref sig .tc .vmem S3x256x128 .f32}
    (i : grid0.Coords) (I : In F) (S : St F) (O : Out F) :
    iprop(heldI c arg1 arg2 arg3 arg4 arg5 arg6 I ∗ heldO c arg7 arg8 arg9 arg10 arg11 arg12 O ∗ heldT c arg13 arg14 arg17 S.X ∗ heldS c arg15 arg16 arg18 S.Y
        ∗ accs c arg19 arg20 arg21 arg22 arg23 S.A ∗ at_ c arg24 S.cols)
      ⊢ iprop((iprop(heldI c arg1 arg2 arg3 arg4 arg5 arg6 I ∗ heldO c arg7 arg8 arg9 arg10 arg11 arg12 (stepO i (stepSt i I S).cols O) ∗ heldT c arg13 arg14 arg17 (stepSt i I S).X
          ∗ heldS c arg15 arg16 arg18 (stepSt i I S).Y ∗ accs c arg19 arg20 arg21 arg22 arg23 (stepSt i I S).A ∗ at_ c arg24 (stepSt i I S).cols) -∗ Q ⟨⟩)
        -∗ W c E (body i arg1 arg2 arg3 arg4 arg5 arg6 arg7 arg8 arg9 arg10 arg11 arg12 arg13 harg13 arg14 arg15 harg15 arg16 arg17 arg18 arg19 arg20 arg21 arg22 arg23 arg24) Q) := by
  unfold body
  rw [← bind_pure (condL i arg7 arg8 arg9 arg10 arg11 arg12 arg24)]
  unfold heldI
  iintro ⟨⟨H1, H2, H3, H4, H5, H6⟩, HO, HX, HY, HA, HC⟩ Hk
  iapply (condQ_wp i S.X S.Y _) $$ [H1 H2 HX HY]
  · isplitl [H1]; · iexact H1
    isplitl [H2]; · iexact H2
    isplitl [HX]; · iexact HX
    iexact HY
  iintro ⟨H1, H2, HX, HY⟩
  iapply (condR_wp i S.A _) $$ HA; iintro HA
  unfold heldT heldS
  icases HX with ⟨H13, H14, H17⟩
  icases HY with ⟨H15, H16, H18⟩
  iapply (half_wp 0 _ _) $$ [H3 H5 H13 H15 H4 H6 H17 H18 HA]
  · unfold weights codes scales
    isplitl [H3 H5]
    · isplitl [H3]; · iexact H3
      iexact H5
    isplitl [H13 H15]
    · isplitl [H13]; · iexact H13
      iexact H15
    isplitl [H4 H6 H17 H18]
    · isplitl [H4]; · iexact H4
      isplitl [H6]; · iexact H6
      isplitl [H17]; · iexact H17
      iexact H18
    iexact HA
  iintro H
  iapply (half_wp 1 _ _) $$ H
  unfold weights codes scales
  iintro ⟨⟨H3, H5⟩, ⟨H13, H15⟩, ⟨H4, H6, H17, H18⟩, HA⟩
  iapply (condE_wp i S.cols _) $$ [HA HC]
  · isplitl [HA]; · iexact HA
    iexact HC
  iintro ⟨HA, HC⟩
  iapply (condL_wp i _ O _) $$ [HC HO]
  · isplitl [HC]; · iexact HC
    iexact HO
  iintro ⟨HC, HO⟩
  iapply (show Q ⟨⟩ ⊢ W c E (pure ⟨⟩) Q from fupd_intro)
  iapply Hk
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HO]; · iexact HO
  isplitl [H13 H14 H17]
  · isplitl [H13]; · iexact H13
    isplitl [H14]; · iexact H14
    iexact H17
  isplitl [H15 H16 H18]
  · isplitl [H15]; · iexact H15
    isplitl [H16]; · iexact H16
    iexact H18
  isplitl [HA]; · iexact HA
  iexact HC

end Cert.Kernel.Body

end
-- ==== Proof.Kernel.Conds.lean ====
/-
  The body's four conditions and its shard number, at each point of the grid.
-/
module

public import proofs.«01_k».proof.Proof.Kernel.Spec

@[expose] public section

set_option maxRecDepth 16384

namespace Cert.Kernel.Body

open Cert.Kernel Cert.Kernel.Gen
open Idealize.ShloMosaic

theorem place_all : ∀ n : Fin 128, placeOf (BitVec.ofNat 32 n.val) = BitVec.ofNat 32 (n.val % 32) := by decide
theorem shard_all : ∀ n : Fin 128, shardOf (BitVec.ofNat 32 n.val) = BitVec.ofNat 32 (n.val / 32) := by decide
theorem ne_eq_word : ∀ (a b : Fin 128), Scalar.cmpi .ne (Scalar.extui (Scalar.cmpi .eq (BitVec.ofNat 32 a.val) (BitVec.ofNat 32 b.val)) : BitVec 32) 0#32 = 1#1 ↔ a = b := by
  intro a b
  have h : (BitVec.ofNat 32 a.val = BitVec.ofNat 32 b.val) ↔ a = b :=
    ⟨fun h => by
      have := congrArg BitVec.toNat h
      rw [BitVec.toNat_ofNat, BitVec.toNat_ofNat, Nat.mod_eq_of_lt (by omega), Nat.mod_eq_of_lt (by omega)] at this
      exact Fin.ext this, fun h => by rw [h]⟩
  rw [← h]
  by_cases hh : BitVec.ofNat 32 a.val = BitVec.ofNat 32 b.val
  · rw [hh]
    have : Scalar.cmpi .eq (BitVec.ofNat 32 b.val) (BitVec.ofNat 32 b.val) = 1#1 := by
      show BitVec.ofBool (BitVec.ofNat 32 b.val == BitVec.ofNat 32 b.val) = 1#1
      rw [beq_self_eq_true]; rfl
    rw [this]; exact ⟨fun _ => rfl, fun _ => by decide⟩
  · have : Scalar.cmpi .eq (BitVec.ofNat 32 a.val) (BitVec.ofNat 32 b.val) = 0#1 := by
      show BitVec.ofBool (BitVec.ofNat 32 a.val == BitVec.ofNat 32 b.val) = 0#1
      rw [beq_eq_false_iff_ne.mpr hh]; rfl
    rw [this]
    exact ⟨fun h => absurd h (by decide), fun h => absurd h hh⟩

variable (i : grid0.Coords)

theorem coord_lt : (i 0).val < 128 := (i 0).isLt

theorem condQ_iff : k0_cond1 i = 1#1 ↔ (i 0).val = 0 := by
  have := ne_eq_word ⟨(i 0).val, coord_lt i⟩ ⟨0, by decide⟩
  exact this.trans ⟨fun h => congrArg Fin.val h, fun h => Fin.ext h⟩
theorem condL_iff : k0_cond4 i = 1#1 ↔ (i 0).val = 127 := by
  have := ne_eq_word ⟨(i 0).val, coord_lt i⟩ ⟨127, by decide⟩
  exact this.trans ⟨fun h => congrArg Fin.val h, fun h => Fin.ext h⟩
theorem atStart_iff : atStart i = 1#1 ↔ (i 0).val % 32 = 0 := by
  have := ne_eq_word ⟨(i 0).val % 32, by omega⟩ ⟨0, by decide⟩
  unfold atStart
  rw [place_all ⟨(i 0).val, coord_lt i⟩]
  exact this.trans ⟨fun h => congrArg Fin.val h, fun h => Fin.ext h⟩
theorem atEnd_iff : atEnd i = 1#1 ↔ (i 0).val % 32 = 31 := by
  have := ne_eq_word ⟨(i 0).val % 32, by omega⟩ ⟨31, by decide⟩
  unfold atEnd
  rw [place_all ⟨(i 0).val, coord_lt i⟩]
  exact this.trans ⟨fun h => congrArg Fin.val h, fun h => Fin.ext h⟩
theorem shardOf_eq : shardOf (BitVec.ofNat 32 (i 0).val) = BitVec.ofNat 32 ((i 0).val / 32) := shard_all ⟨(i 0).val, coord_lt i⟩

theorem coords_val (t : Fin cfg0.N) : (cfg0.grid.coords t 0).val = t.val := by
  revert t; decide

end Cert.Kernel.Body
-- ==== Proof.Kernel.State.lean ====
/-
  What the scratch arrays and the results hold after each step, as functions of what the steps read.
-/
module

public import proofs.«01_k».proof.Proof.Kernel.Step
public import proofs.«01_k».proof.Proof.Kernel.Conds

@[expose] public section

set_option maxRecDepth 16384

noncomputable section

namespace Cert.Kernel.Body

open Cert.Kernel Cert.Kernel.Gen Cert.Common
open Idealize.ShloMosaic Idealize.ShloMosaic.VecWindow

variable {F : FTy → Type} [FloatOps F]

/-! ### The quantised activations -/

/-- An index of a two-axis array in a block of rows. -/
abbrev InRows {R C : Nat} (b r : Nat) (y : (⟨2, ![R, C]⟩ : Shape).Idx) : Prop :=
  ∀ a, (![b * r, 0] : Fin 2 → ℕ) a ≤ (y a).val ∧ (y a).val < (![b * r, 0] : Fin 2 → ℕ) a + (![b, C] : Fin 2 → ℕ) a

theorem inRows {R C : Nat} (b r : Nat) (hb : 0 < b) (y : (⟨2, ![R, C]⟩ : Shape).Idx) (h : (y 0).val / b = r) : InRows b r y := by
  subst h
  intro a
  have h1 : b * ((y 0).val / b) ≤ (y 0).val := Nat.mul_div_le _ _
  have h2 : (y 0).val < b * ((y 0).val / b) + b := by have := Nat.lt_mul_div_succ (y 0).val hb; rw [Nat.mul_add, Nat.mul_one] at this; exact this
  have h3 : (y 1).val < C := (y 1).isLt
  match a with
  | ⟨0, _⟩ => exact ⟨h1, h2⟩
  | ⟨1, _⟩ => exact ⟨Nat.zero_le _, by show (y 1).val < 0 + C; omega⟩

theorem inRows_row {R C : Nat} (b r : Nat) (y : (⟨2, ![R, C]⟩ : Shape).Idx) (h : InRows b r y) : (y 0).val / b = r := by
  have h0 := h 0
  change b * r ≤ (y 0).val ∧ (y 0).val < b * r + b at h0
  refine Nat.div_eq_of_lt_le ?_ ?_
  · rw [Nat.mul_comm]; exact h0.1
  · rw [Nat.succ_mul, Nat.mul_comm r b]; exact h0.2

theorem rows_apart {n R C : Nat} (b : Nat) (r r' : Fin n) (y : (⟨2, ![R, C]⟩ : Shape).Idx) (h : InRows b r.val y) (h' : InRows b r'.val y) : r = r' :=
  Fin.ext ((inRows_row b _ y h).symm.trans (inRows_row b _ y h'))

variable (h : Vec F S256x2560 .bf16) (h' : Vec F S256x1152 .bf16)

theorem quantT_ct (X : QT F) (r : Fin 8) (y : S256x2560.Idx) (hy : InRows 32 r.val y) :
    (iter (quantStepT h) X 8).ct y = codesT (rowsT h r) (Rect.unitLocal (s := S256x2560) (off := ![32 * r.val, 0]) (size := S32x2560.size) y hy) :=
  iter_blocks (ι := Unit) (s := S256x2560) (fun _ X => X.ct) (quantStepT h) (fun r => ![32 * r.val, 0]) S32x2560.size (fun _ r _ => codesT (rowsT h r))
    (fun _ _ _ => rfl) (fun _ _ _ _ _ => rfl) (fun r r' y => rows_apart 32 r r' y) X r () y hy
theorem quantT_st (X : QT F) (r : Fin 8) (y : S256x1.Idx) (hy : InRows 32 r.val y) :
    (iter (quantStepT h) X 8).st y = qScale (aT (rowsT h r)) (Rect.unitLocal (s := S256x1) (off := ![32 * r.val, 0]) (size := S32x1.size) y hy) :=
  iter_blocks (ι := Unit) (s := S256x1) (fun _ X => X.st) (quantStepT h) (fun r => ![32 * r.val, 0]) S32x1.size (fun _ r _ => qScale (aT (rowsT h r)))
    (fun _ _ _ => rfl) (fun _ _ _ _ _ => rfl) (fun r r' y => rows_apart 32 r r' y) X r () y hy
theorem quantT_tT (X : QT F) (r : Fin 8) (y : S256x128.Idx) (hy : InRows 32 r.val y) :
    (iter (quantStepT h) X 8).tT y = qTok (qScale (aT (rowsT h r))) (Rect.unitLocal (s := S256x128) (off := ![32 * r.val, 0]) (size := S32x128.size) y hy) :=
  iter_blocks (ι := Unit) (s := S256x128) (fun _ X => X.tT) (quantStepT h) (fun r => ![32 * r.val, 0]) S32x128.size (fun _ r _ => qTok (qScale (aT (rowsT h r))))
    (fun _ _ _ => rfl) (fun _ _ _ _ _ => rfl) (fun r r' y => rows_apart 32 r r' y) X r () y hy
theorem quantS_cs (X : QS F) (r : Fin 8) (y : S256x1152.Idx) (hy : InRows 32 r.val y) :
    (iter (quantStepS h') X 8).cs y = codesS (rowsS h' r) (Rect.unitLocal (s := S256x1152) (off := ![32 * r.val, 0]) (size := S32x1152.size) y hy) :=
  iter_blocks (ι := Unit) (s := S256x1152) (fun _ X => X.cs) (quantStepS h') (fun r => ![32 * r.val, 0]) S32x1152.size (fun _ r _ => codesS (rowsS h' r))
    (fun _ _ _ => rfl) (fun _ _ _ _ _ => rfl) (fun r r' y => rows_apart 32 r r' y) X r () y hy
theorem quantS_ss (X : QS F) (r : Fin 8) (y : S256x1.Idx) (hy : InRows 32 r.val y) :
    (iter (quantStepS h') X 8).ss y = qScale (aS (rowsS h' r)) (Rect.unitLocal (s := S256x1) (off := ![32 * r.val, 0]) (size := S32x1.size) y hy) :=
  iter_blocks (ι := Unit) (s := S256x1) (fun _ X => X.ss) (quantStepS h') (fun r => ![32 * r.val, 0]) S32x1.size (fun _ r _ => qScale (aS (rowsS h' r)))
    (fun _ _ _ => rfl) (fun _ _ _ _ _ => rfl) (fun r r' y => rows_apart 32 r r' y) X r () y hy
theorem quantS_tS (X : QS F) (r : Fin 8) (y : S256x128.Idx) (hy : InRows 32 r.val y) :
    (iter (quantStepS h') X 8).tS y = qTok (qScale (aS (rowsS h' r))) (Rect.unitLocal (s := S256x128) (off := ![32 * r.val, 0]) (size := S32x128.size) y hy) :=
  iter_blocks (ι := Unit) (s := S256x128) (fun _ X => X.tS) (quantStepS h') (fun r => ![32 * r.val, 0]) S32x128.size (fun _ r _ => qTok (qScale (aS (rowsS h' r))))
    (fun _ _ _ => rfl) (fun _ _ _ _ _ => rfl) (fun r r' y => rows_apart 32 r r' y) X r () y hy

/-- The block of 32 rows an index lies in. -/
def blk {C : Nat} (y : (⟨2, ![256, C]⟩ : Shape).Idx) : Fin 8 := ⟨(y 0).val / 32, by have : (y 0).val < 256 := (y 0).isLt; omega⟩
theorem in_blk {C : Nat} (y : (⟨2, ![256, C]⟩ : Shape).Idx) : InRows 32 (blk y).val y := inRows 32 _ (by decide) y rfl

/-- The quantised activations, whatever was there before. -/
def qT : QT F := iter (quantStepT h) ⟨constant S256x2560 .fp8e4m3 0#8, constant S256x1 .f32 0#32, constant S256x128 .f32 0#32⟩ 8
def qS : QS F := iter (quantStepS h') ⟨constant S256x1152 .fp8e4m3 0#8, constant S256x1 .f32 0#32, constant S256x128 .f32 0#32⟩ 8

theorem QT.ext' {X X' : QT F} (h1 : X.ct = X'.ct) (h2 : X.st = X'.st) (h3 : X.tT = X'.tT) : X = X' := by cases X; cases X'; cases h1; cases h2; cases h3; rfl
theorem QS.ext' {X X' : QS F} (h1 : X.cs = X'.cs) (h2 : X.ss = X'.ss) (h3 : X.tS = X'.tS) : X = X' := by cases X; cases X'; cases h1; cases h2; cases h3; rfl

theorem qT_eq (X : QT F) : iter (quantStepT h) X 8 = qT h :=
  QT.ext' (funext fun y => (quantT_ct h X _ y (in_blk y)).trans (quantT_ct h _ _ y (in_blk y)).symm)
    (funext fun y => (quantT_st h X _ y (in_blk y)).trans (quantT_st h _ _ y (in_blk y)).symm)
    (funext fun y => (quantT_tT h X _ y (in_blk y)).trans (quantT_tT h _ _ y (in_blk y)).symm)
theorem qS_eq (X : QS F) : iter (quantStepS h') X 8 = qS h' :=
  QS.ext' (funext fun y => (quantS_cs h' X _ y (in_blk y)).trans (quantS_cs h' _ _ y (in_blk y)).symm)
    (funext fun y => (quantS_ss h' X _ y (in_blk y)).trans (quantS_ss h' _ _ y (in_blk y)).symm)
    (funext fun y => (quantS_tS h' X _ y (in_blk y)).trans (quantS_tS h' _ _ y (in_blk y)).symm)

/-! ### The columns -/

/-- What a shard's end writes for 64 rows: the two log-sum-exps and the mean difference. -/
def colVal (A : Acc F) (q : Fin 3) (r : Fin 4) : FVec F S64x1 .f32 :=
  match q with
  | 0 => lseCol (rowMax (w64 A.m r)) (rowSum (w64 A.m r) (w64 A.m r) (w64 A.s r))
  | 1 => lseCol (rowMax (w64 A.ms r)) (rowSum (w64 A.ms r) (w64 A.ms r) (w64 A.ss r))
  | 2 => quotCol (rowSum (w64 A.m r) (w64 A.m r) (w64 A.a r)) (rowSum (w64 A.m r) (w64 A.m r) (w64 A.s r))

end Cert.Kernel.Body
-- ==== Proof.Kernel.Cols.lean ====
/-
  The columns scratch after each shard's end.
-/
module

public import proofs.«01_k».proof.Proof.Kernel.State
public import Idealize.ShloMosaic.Lib.PointwiseCore
public import Idealize.ShloMosaic.Lib.WordCmp

@[expose] public section

set_option maxRecDepth 16384

noncomputable section

namespace Cert.Kernel.Body

open Cert.Kernel Cert.Kernel.Gen Cert.Common
open Idealize.ShloMosaic Idealize.ShloMosaic.VecWindow

variable {F : FTy → Type} [FloatOps F]

theorem putCol_apply (k : Nat) (hk : k < 128) (v : FVec F S64x1 .f32) (old : Vec F S1x64x128 .f32) (b : Fin 64) (c : Fin 128) :
    putCol (BitVec.ofNat 32 k) v old (ix3 0 b c) = if c.val = k then v (ix2 b 0) else old (ix3 0 b c) := by
  pointwise [putCol]
  by_cases h : c.val = k
  · subst h
    rw [if_pos rfl]
    have : IntOp.cmpi .eq (BitVec.ofNat 32 c.val) (BitVec.ofNat 32 c.val) = 1#1 := by rw [WordCmp.cmpi_eq_ofNat_eq_one_iff (by omega) (by omega)]
    rw [this]; rfl
  · rw [if_neg h]
    have : IntOp.cmpi .eq (BitVec.ofNat 32 c.val) (BitVec.ofNat 32 k) = 0#1 := by rw [WordCmp.cmpi_eq_ofNat_eq_zero_iff (by omega) (by omega)]; exact h
    rw [this]; rfl

theorem planeStep_apply (q : Fin 3) (r : Fin 4) (k : Nat) (hk : k < 128) (v : FVec F S64x1 .f32) (x : Vec F S3x256x128 .f32) (a : Fin 3) (b : Fin 256) (c : Fin 128) :
    planeStep q r (BitVec.ofNat 32 k) v x (ix3 a b c) = if a = q ∧ b.val / 64 = r.val ∧ c.val = k then v (ix2 ⟨b.val % 64, by omega⟩ 0) else x (ix3 a b c) := by
  unfold planeStep
  by_cases h : a = q ∧ b.val / 64 = r.val
  · obtain ⟨rfl, hb⟩ := h
    have hy : ∀ d, (![a.val, 64 * r.val, 0] : Fin 3 → ℕ) d ≤ (ix3 a b c d).val ∧ (ix3 a b c d).val < (![a.val, 64 * r.val, 0] : Fin 3 → ℕ) d + S1x64x128.size d := by
      intro d
      match d with
      | ⟨0, _⟩ => exact ⟨le_rfl, Nat.lt_succ_self _⟩
      | ⟨1, _⟩ => exact ⟨by show 64 * r.val ≤ b.val; omega, by show b.val < 64 * r.val + 64; omega⟩
      | ⟨2, _⟩ => exact ⟨Nat.zero_le _, by show c.val < 0 + 128; omega⟩
    rw [put_in _ _ _ _ _ hy]
    have e : (Rect.unitLocal (s := S3x256x128) (off := ![a.val, 64 * r.val, 0]) (size := S1x64x128.size) (ix3 a b c) hy) = ix3 (0 : Fin 1) (⟨b.val % 64, by omega⟩ : Fin 64) c := by
      funext d
      match d with
      | ⟨0, _⟩ => exact Fin.ext (Nat.sub_self _)
      | ⟨1, _⟩ => exact Fin.ext (by show b.val - 64 * r.val = b.val % 64; omega)
      | ⟨2, _⟩ => exact Fin.ext (by show c.val - 0 = c.val; omega)
    have e' : (window x ![a.val, 64 * r.val, 0] S1x64x128.size (inbCols a r)) (ix3 (0 : Fin 1) (⟨b.val % 64, by omega⟩ : Fin 64) c) = x (ix3 a b c) := by
      refine congrArg x (funext fun d => ?_)
      match d with
      | ⟨0, _⟩ => exact Fin.ext (by show a.val + 1 * 0 = a.val; omega)
      | ⟨1, _⟩ => exact Fin.ext (by show 64 * r.val + 1 * (b.val % 64) = b.val; omega)
      | ⟨2, _⟩ => exact Fin.ext (by show 0 + 1 * c.val = c.val; omega)
    rw [e]
    refine (putCol_apply k hk v _ _ c).trans ?_
    rw [e']
    exact if_congr ⟨fun h => ⟨rfl, hb, h⟩, fun h => h.2.2⟩ rfl rfl
  · rw [if_neg (fun h' => h ⟨h'.1, h'.2.1⟩)]
    refine put_out _ _ _ _ _ (fun hy => h ⟨?_, ?_⟩)
    · have := hy 0
      change q.val ≤ a.val ∧ a.val < q.val + 1 at this
      exact Fin.ext (by omega)
    · have := hy 1
      change 64 * r.val ≤ b.val ∧ b.val < 64 * r.val + 64 at this
      omega

theorem endStep_apply (A : Acc F) (r : Fin 4) (k : Nat) (hk : k < 128) (x : Vec F S3x256x128 .f32) (a : Fin 3) (b : Fin 256) (c : Fin 128) :
    endStep A (BitVec.ofNat 32 k) r x (ix3 a b c) = if b.val / 64 = r.val ∧ c.val = k then colVal A a r (ix2 ⟨b.val % 64, by omega⟩ 0) else x (ix3 a b c) := by
  unfold endStep
  rw [planeStep_apply _ _ k hk, planeStep_apply _ _ k hk, planeStep_apply _ _ k hk]
  by_cases h : b.val / 64 = r.val ∧ c.val = k
  · rw [if_pos h]
    match a with
    | 0 => rw [if_neg (by rintro ⟨h, _⟩; exact absurd h (by decide)), if_neg (by rintro ⟨h, _⟩; exact absurd h (by decide)), if_pos ⟨rfl, h⟩]; rfl
    | 1 => rw [if_neg (by rintro ⟨h, _⟩; exact absurd h (by decide)), if_pos ⟨rfl, h⟩]; rfl
    | 2 => rw [if_pos ⟨rfl, h⟩]; rfl
  · rw [if_neg h, if_neg (fun h' => h h'.2), if_neg (fun h' => h h'.2), if_neg (fun h' => h h'.2)]

/-- A shard's end writes its lane of every row. -/
theorem endAll_apply (A : Acc F) (k : Nat) (hk : k < 128) (x : Vec F S3x256x128 .f32) (a : Fin 3) (b : Fin 256) (c : Fin 128) :
    iter (endStep A (BitVec.ofNat 32 k)) x 4 (ix3 a b c) = if c.val = k then colVal A a ⟨b.val / 64, by omega⟩ (ix2 ⟨b.val % 64, by omega⟩ 0) else x (ix3 a b c) := by
  have key : ∀ n, n ≤ 4 → iter (endStep A (BitVec.ofNat 32 k)) x n (ix3 a b c)
      = if b.val / 64 < n ∧ c.val = k then colVal A a ⟨b.val / 64, by omega⟩ (ix2 ⟨b.val % 64, by omega⟩ 0) else x (ix3 a b c) := by
    intro n
    induction n with
    | zero => intro _; rw [if_neg (fun h => absurd h.1 (Nat.not_lt_zero _))]; rfl
    | succ n ih =>
      intro hn
      have e : iter (endStep A (BitVec.ofNat 32 k)) x (n + 1) = endStep A (BitVec.ofNat 32 k) ⟨n, hn⟩ (iter (endStep A (BitVec.ofNat 32 k)) x n) := iter_succ _ x ⟨n, hn⟩
      rw [e, endStep_apply _ _ k hk, ih (Nat.le_of_succ_le hn)]
      by_cases h : c.val = k
      · by_cases h1 : b.val / 64 = n
        · subst h1
          rw [if_pos ⟨rfl, h⟩, if_pos ⟨Nat.lt_succ_self _, h⟩]
        · rw [if_neg (fun h' => h1 h'.1)]
          exact if_congr (and_congr (by omega) Iff.rfl) rfl rfl
      · rw [if_neg (fun h' => h h'.2), if_neg (fun h' => h h'.2), if_neg (fun h' => h h'.2)]
  refine (key 4 le_rfl).trans (if_congr ?_ rfl rfl)
  have := b.isLt
  omega

end Cert.Kernel.Body
-- ==== Proof.Kernel.Seq.lean ====
/-
  The states step by step, from what each step reads.
-/
module

public import proofs.«01_k».proof.Proof.Kernel.Cols
public import Idealize.ShloMosaic.Lib.Pointwise.Sums

@[expose] public section

set_option maxRecDepth 16384

noncomputable section

namespace Cert.Kernel.Body

open Cert.Kernel Cert.Kernel.Gen Cert.Common
open Idealize.ShloMosaic Idealize.ShloMosaic.VecWindow

variable {F : FTy → Type} [FloatOps F]

variable (I : Fin cfg0.N → In F)

theorem N0 : cfg0.N = 128 := by decide
/-- The first step. -/
def t0 : Fin cfg0.N := ⟨0, by rw [N0]; decide⟩

/-- The quantised activations, -/
def XT : QT F := qT (I t0).h1
def YS : QS F := qS (I t0).h2
/-- the running arrays before step `n`, -/
def accAt : ℕ → Acc F
  | 0 => resetAcc
  | n + 1 => if h : n < cfg0.N then stepA (cfg0.grid.coords ⟨n, h⟩) (I ⟨n, h⟩) (XT I) (YS I) (accAt n) else accAt n
/-- the columns before step `n`, from what they held at the start. -/
def colsAt (x0 : Vec F S3x256x128 .f32) : ℕ → Vec F S3x256x128 .f32
  | 0 => x0
  | n + 1 => if h : n < cfg0.N then endCols (cfg0.grid.coords ⟨n, h⟩) (accAt I (n + 1)) (colsAt x0 n) else colsAt x0 n

theorem accAt_succ (t : Fin cfg0.N) : accAt I (t.val + 1) = stepA (cfg0.grid.coords t) (I t) (XT I) (YS I) (accAt I t.val) := dif_pos t.isLt
theorem colsAt_succ (x0 : Vec F S3x256x128 .f32) (t : Fin cfg0.N) : colsAt I x0 (t.val + 1) = endCols (cfg0.grid.coords t) (accAt I (t.val + 1)) (colsAt I x0 t.val) := dif_pos t.isLt

theorem stepA_reset (i : grid0.Coords) (h : (i 0).val % 32 = 0) (J : In F) (X : QT F) (Y : QS F) (A A' : Acc F) : stepA i J X Y A = stepA i J X Y A' := by
  unfold stepA
  rw [if_pos ((atStart_iff i).2 h), if_pos ((atStart_iff i).2 h)]

/-- A step takes each state to the next. -/
theorem step_state (t : Fin cfg0.N) (x0 : Vec F S3x256x128 .f32) (X : QT F) (Y : QS F) (A : Acc F)
    (hX : t.val ≠ 0 → X = XT I ∧ Y = YS I ∧ A = accAt I t.val) :
    stepSt (cfg0.grid.coords t) (I t) ⟨X, Y, A, colsAt I x0 t.val⟩ = ⟨XT I, YS I, accAt I (t.val + 1), colsAt I x0 (t.val + 1)⟩ := by
  have hx : stepX (cfg0.grid.coords t) (I t) X = XT I := by
    unfold stepX
    by_cases h : t.val = 0
    · obtain rfl : t = t0 := Fin.ext h
      rw [if_pos ((condQ_iff _).2 ((coords_val t0).trans h))]
      exact qT_eq _ X
    · rw [if_neg (fun h' => h ((coords_val t).symm.trans ((condQ_iff _).1 h'))), (hX h).1]
  have hy : stepY (cfg0.grid.coords t) (I t) Y = YS I := by
    unfold stepY
    by_cases h : t.val = 0
    · obtain rfl : t = t0 := Fin.ext h
      rw [if_pos ((condQ_iff _).2 ((coords_val t0).trans h))]
      exact qS_eq _ Y
    · rw [if_neg (fun h' => h ((coords_val t).symm.trans ((condQ_iff _).1 h'))), (hX h).2.1]
  have ha : stepA (cfg0.grid.coords t) (I t) (XT I) (YS I) A = accAt I (t.val + 1) := by
    rw [accAt_succ]
    by_cases h : t.val = 0
    · exact stepA_reset _ (by rw [coords_val t, h]) _ _ _ _ _
    · rw [(hX h).2.2]
  unfold stepSt
  rw [hx, hy, ha, colsAt_succ]

/-- A lane of a shard holds what the shard's end wrote. -/
theorem colsAt_apply (x0 : Vec F S3x256x128 .f32) (a : Fin 3) (b : Fin 256) (c : Fin 4) :
    colsAt I x0 128 (ix3 a b (⟨c.val, by omega⟩ : Fin 128))
      = colVal (accAt I (32 * (c.val + 1))) a ⟨b.val / 64, by omega⟩ (ix2 ⟨b.val % 64, by omega⟩ 0) := by
  have key : ∀ n, n ≤ 128 → 32 * (c.val + 1) ≤ n → colsAt I x0 n (ix3 a b (⟨c.val, by omega⟩ : Fin 128))
      = colVal (accAt I (32 * (c.val + 1))) a ⟨b.val / 64, by omega⟩ (ix2 ⟨b.val % 64, by omega⟩ 0) := by
    intro n
    induction n with
    | zero => intro _ h; omega
    | succ n ih =>
      intro hn hc
      have hN : n < cfg0.N := by rw [N0]; exact hn
      rw [show colsAt I x0 (n + 1) = _ from colsAt_succ I x0 ⟨n, hN⟩]
      unfold endCols
      by_cases h : n % 32 = 31
      · rw [if_pos ((atEnd_iff _).2 (by rw [coords_val]; exact h)), shardOf_eq, coords_val, endAll_apply _ _ (by show n / 32 < 128; omega)]
        show (if c.val = n / 32 then _ else _) = _
        by_cases h1 : c.val = n / 32
        · rw [if_pos h1]
          have : n + 1 = 32 * (c.val + 1) := by omega
          show colVal (accAt I (n + 1)) _ _ _ = _
          rw [this]
        · rw [if_neg h1]
          exact ih (by omega) (by omega)
      · rw [if_neg (fun h' => h (by have := (atEnd_iff _).1 h'; rwa [coords_val] at this))]
        exact ih (by omega) (by omega)
  exact key 128 le_rfl (by omega)

theorem plane_apply (x : Vec F S3x256x128 .f32) (q : Fin 3) (b : Fin 256) (c : Fin 4) : plane x q (ix2 b c) = x (ix3 q b (⟨c.val, by omega⟩ : Fin 128)) := by
  unfold plane
  pointwise [head]
  refine congrArg x (funext fun d => ?_)
  match d with
  | ⟨0, _⟩ => exact Fin.ext (by show q.val + 1 * 0 = q.val; omega)
  | ⟨1, _⟩ => exact Fin.ext (by show 0 + 1 * b.val = b.val; omega)
  | ⟨2, _⟩ => exact Fin.ext (by show 0 + 1 * c.val = c.val; omega)

/-- The results. -/
def outAll : Out F := lastOut (colsAt I (constant S3x256x128 .f32 0#32) 128)

theorem outAll_eq (x0 : Vec F S3x256x128 .f32) : lastOut (colsAt I x0 128) = outAll I := by
  have h : ∀ q, plane (colsAt I x0 128) q = plane (colsAt I (constant S3x256x128 .f32 0#32) 128) q := fun q => funext fun j => by
    idx_vars j
    rw [plane_apply, plane_apply]
    exact (colsAt_apply I x0 q _ _).trans (colsAt_apply I _ q _ _).symm
  unfold outAll lastOut
  rw [h, h, h]

end Cert.Kernel.Body
-- ==== Proof.Kernel.Frame.lean ====
/-
  The frame of the kernel: the proof data, the body's triple at every point, and the run.
-/
module

public import proofs.«01_k».proof.Proof.Gen.Kernel.Frame
public import proofs.«01_k».proof.Proof.Kernel.SpecEq
public import proofs.«01_k».proof.Proof.Kernel.Seq
public import Idealize.ShloMosaic.Lib.Claim

@[expose] public section

set_option maxRecDepth 16384

noncomputable section

namespace Cert.Kernel.Body

open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What step `t` reads. -/
def inp (c : Dev nD) (t : Fin cfg0.N) : In F :=
  ⟨iblk m c 0 t, iblk m c 1 t, iblk m c 2 t, iblk m c 3 t, iblk m c 4 t, iblk m c 5 t⟩

/-- The scratch arrays held. -/
def scratch (c : Dev nD) (tT tS : Vec F S256x128 .f32) (A : Acc F) (x : Vec F S3x256x128 .f32) : sProp 𝕄 :=
  iprop(at_ c (Memref.whole cc0_scratch0) tT ∗ at_ c (Memref.whole cc0_scratch1) tS
    ∗ accs c (Memref.whole cc0_scratch2) (Memref.whole cc0_scratch3) (Memref.whole cc0_scratch4) (Memref.whole cc0_scratch5) (Memref.whole cc0_scratch6) A
    ∗ at_ c (Memref.whole cc0_scratch7) x)

/-- The invariant before step `n`: from the first step on the scratch arrays hold the step's states. -/
def inv (c : Dev nD) (n : ℕ) : sProp 𝕄 :=
  iprop(∃ tT tS A x0, ⌜n ≠ 0 → tT = (XT (inp m c)).tT ∧ tS = (YS (inp m c)).tS ∧ A = accAt (inp m c) n⌝
    ∗ scratch c tT tS A (colsAt (inp m c) x0 n) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outAll (inp m c)).kl
    | ⟨7, _⟩ => (outAll (inp m c)).lt
    | ⟨8, _⟩ => (outAll (inp m c)).ls
    | ⟨9, _⟩ => (outAll (inp m c)).sht
    | ⟨10, _⟩ => (outAll (inp m c)).shs
    | ⟨11, _⟩ => (outAll (inp m c)).sha
    | ⟨12, _⟩ => (XT (inp m c)).ct
    | ⟨13, _⟩ => (XT (inp m c)).st
    | ⟨14, _⟩ => (YS (inp m c)).cs
    | ⟨15, _⟩ => (YS (inp m c)).ss
    | ⟨_ + 16, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outAll (inp m c)).kl := by dsimp only [dats]
theorem after_7 (c : Dev nD) (t : Fin cfg0.N) : (dats m 0 c).after 7 t = (outAll (inp m c)).lt := by dsimp only [dats]
theorem after_8 (c : Dev nD) (t : Fin cfg0.N) : (dats m 0 c).after 8 t = (outAll (inp m c)).ls := by dsimp only [dats]
theorem after_9 (c : Dev nD) (t : Fin cfg0.N) : (dats m 0 c).after 9 t = (outAll (inp m c)).sht := by dsimp only [dats]
theorem after_10 (c : Dev nD) (t : Fin cfg0.N) : (dats m 0 c).after 10 t = (outAll (inp m c)).shs := by dsimp only [dats]
theorem after_11 (c : Dev nD) (t : Fin cfg0.N) : (dats m 0 c).after 11 t = (outAll (inp m c)).sha := by dsimp only [dats]
theorem after_12 (c : Dev nD) (t : Fin cfg0.N) : (dats m 0 c).after 12 t = (XT (inp m c)).ct := by dsimp only [dats]
theorem after_13 (c : Dev nD) (t : Fin cfg0.N) : (dats m 0 c).after 13 t = (XT (inp m c)).st := by dsimp only [dats]
theorem after_14 (c : Dev nD) (t : Fin cfg0.N) : (dats m 0 c).after 14 t = (YS (inp m c)).cs := by dsimp only [dats]
theorem after_15 (c : Dev nD) (t : Fin cfg0.N) : (dats m 0 c).after 15 t = (YS (inp m c)).ss := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ### What a step leaves in a window -/

/-- At a window idle there that is not written back, what it found; else what the data say. -/
theorem leaves_of {c : Dev nD} (dat : Dat τ (Elt F) Unit ℕ (UR sig nD τ) ℕ cfg0 c) (w : Fin cfg0.W) (t : Fin cfg0.N)
    (X : (cfg0.win w).block.Idx → Elt F (cfg0.win w).elt)
    (h : (cfg0.idle w (cfg0.grid.coords t) = true ∧ (cfg0.win w).flush t = false ∧ ∃ d, X = dat.before w t d)
      ∨ ((cfg0.idle w (cfg0.grid.coords t) = false ∨ (cfg0.win w).flush t = true) ∧ X = dat.after w t)) :
    (owns (c : Thread nD τ) ((cfg0.win w).stage (cfg0.slots t w)) fullShare X : sProp 𝕄) ⊢ dat.leavesExact w t := by
  rcases h with ⟨hi, hf, d, rfl⟩ | ⟨h, rfl⟩
  · rw [dat.leavesExact_idle w t hi hf]
    iintro H
    iexists d
    iexact H
  · unfold Dat.leavesExact
    cases hi : cfg0.idle w (cfg0.grid.coords t) with
    | false => exact .rfl
    | true =>
      have hf : (cfg0.win w).flush t = true := h.resolve_left (by rw [hi]; decide)
      rw [hf]

/-- A result written only at the first step is found by every later step as that step left it. -/
theorem before_const {c : Dev nD} (dat : Dat τ (Elt F) Unit ℕ (UR sig nD τ) ℕ cfg0 c) (w : Fin cfg0.W)
    (hfetch : ∀ t, (cfg0.win w).fetch t = false) (hfl : ∀ t, (cfg0.win w).flush t = true ↔ t.val % 128 = 127)
    (hidle : ∀ t, cfg0.idle w (cfg0.grid.coords t) = true ↔ t.val ≠ 0) (hk : ∀ t d, dat.kept w t d = dat.after w t)
    (hc : ∀ t, dat.after w t = dat.after w t0) (d) : ∀ n (hn : n + 1 < cfg0.N), dat.before w ⟨n + 1, hn⟩ d = dat.after w t0 := by
  intro n
  induction n with
  | zero =>
    intro hn
    rw [dat.before_of_pos w _ (by show 0 + 1 ≠ 0; decide) (hfetch _)]
    have hf : ¬ (cfg0.win w).flush ⟨0 + 1 - 1, Nat.lt_of_le_of_lt (Nat.sub_le _ _) hn⟩ = true := fun h => absurd ((hfl _).1 h) (by show ¬ 0 % 128 = 127; decide)
    rw [if_neg hf]
    unfold Dat.left
    have hi : cfg0.idle w (cfg0.grid.coords ⟨0 + 1 - 1, Nat.lt_of_le_of_lt (Nat.sub_le _ _) hn⟩) = false := by
      rw [← Bool.not_eq_true]; exact fun h => (hidle _).1 h rfl
    rw [hi]
    exact (hk _ d).trans (hc _)
  | succ n ih =>
    intro hn
    rw [dat.before_of_pos w _ (by show n + 1 + 1 ≠ 0; omega) (hfetch _)]
    have hf : ¬ (cfg0.win w).flush ⟨n + 1 + 1 - 1, Nat.lt_of_le_of_lt (Nat.sub_le _ _) hn⟩ = true := fun h => by
      have h1 : (n + 1 + 1 - 1) % 128 = 127 := (hfl _).1 h
      have h2 := N0
      omega
    rw [if_neg hf]
    unfold Dat.left
    have hi : cfg0.idle w (cfg0.grid.coords ⟨n + 1 + 1 - 1, Nat.lt_of_le_of_lt (Nat.sub_le _ _) hn⟩) = true := (hidle _).2 (by show n + 1 + 1 - 1 ≠ 0; omega)
    rw [hi]
    exact ih (by omega)

/-- A result written at the first step, left at what the data say; -/
theorem leaves_first {c : Dev nD} (dat : Dat τ (Elt F) Unit ℕ (UR sig nD τ) ℕ cfg0 c) (w : Fin cfg0.W)
    (hfetch : ∀ t, (cfg0.win w).fetch t = false) (hfl : ∀ t, (cfg0.win w).flush t = true ↔ t.val % 128 = 127)
    (hidle : ∀ t, cfg0.idle w (cfg0.grid.coords t) = true ↔ t.val ≠ 0) (hk : ∀ t d, dat.kept w t d = dat.after w t)
    (hc : ∀ t, dat.after w t = dat.after w t0) (t : Fin cfg0.N) :
    (owns (c : Thread nD τ) ((cfg0.win w).stage (cfg0.slots t w)) fullShare (dat.after w t0) : sProp 𝕄) ⊢ dat.leavesExact w t := by
  refine leaves_of dat w t _ ?_
  by_cases hf : (cfg0.win w).flush t = true
  · exact Or.inr ⟨Or.inr hf, (hc t).symm⟩
  by_cases hi : cfg0.idle w (cfg0.grid.coords t) = true
  · refine Or.inl ⟨hi, by simpa using hf, dat.after w t0, ?_⟩
    have h0 := (hidle t).1 hi
    obtain ⟨n, hn⟩ : ∃ n, t.val = n + 1 := ⟨t.val - 1, by omega⟩
    have hlt : n + 1 < cfg0.N := hn ▸ t.isLt
    obtain rfl : t = ⟨n + 1, hlt⟩ := Fin.ext hn
    exact (before_const dat w hfetch hfl hidle hk hc _ n hlt).symm
  · exact Or.inr ⟨Or.inl (by simpa using hi), (hc t).symm⟩

/-- and one written at the last. -/
theorem leaves_last {c : Dev nD} (dat : Dat τ (Elt F) Unit ℕ (UR sig nD τ) ℕ cfg0 c) (w : Fin cfg0.W)
    (hfl : ∀ t, (cfg0.win w).flush t = true ↔ t.val % 128 = 127)
    (hidle : ∀ t, cfg0.idle w (cfg0.grid.coords t) = true ↔ t.val ≠ 127) (t : Fin cfg0.N) (d X)
    (hX : X = if t.val = 127 then dat.after w t else dat.before w t d) :
    (owns (c : Thread nD τ) ((cfg0.win w).stage (cfg0.slots t w)) fullShare X : sProp 𝕄) ⊢ dat.leavesExact w t := by
  refine leaves_of dat w t _ ?_
  have h2 := N0
  have h3 := t.isLt
  by_cases h : t.val = 127
  · rw [if_pos h] at hX
    exact Or.inr ⟨Or.inr ((hfl t).2 (by omega)), hX⟩
  · rw [if_neg h] at hX
    refine Or.inl ⟨(hidle t).2 h, ?_, d, hX⟩
    rw [← Bool.not_eq_true]
    exact fun h' => h (by have := (hfl t).1 h'; omega)

theorem idleQ (t : Fin cfg0.N) : (!(k0_cond1 (cfg0.grid.coords t) == 1#1)) = true ↔ t.val ≠ 0 := by
  rw [Bool.not_eq_true', beq_eq_false_iff_ne, ne_eq, condQ_iff, coords_val]
theorem idleL (t : Fin cfg0.N) : (!(k0_cond4 (cfg0.grid.coords t) == 1#1)) = true ↔ t.val ≠ 127 := by
  rw [Bool.not_eq_true', beq_eq_false_iff_ne, ne_eq, condL_iff, coords_val]

/-! ### The body's triple -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves_0 (c : Dev nD) (t : Fin cfg0.N) : (at_ c (st0_0 t) (inp m c t).h1 : sProp 𝕄) ⊢ (dats m 0 c).leavesExact 0 t :=
  leaves_of (dats m 0 c) 0 t _ (Or.inr ⟨Or.inl rfl, (after_0 m c t).symm⟩)
theorem leaves_1 (c : Dev nD) (t : Fin cfg0.N) : (at_ c (st0_1 t) (inp m c t).h2 : sProp 𝕄) ⊢ (dats m 0 c).leavesExact 1 t :=
  leaves_of (dats m 0 c) 1 t _ (Or.inr ⟨Or.inl rfl, (after_1 m c t).symm⟩)
theorem leaves_2 (c : Dev nD) (t : Fin cfg0.N) : (at_ c (st0_2 t) (inp m c t).w : sProp 𝕄) ⊢ (dats m 0 c).leavesExact 2 t :=
  leaves_of (dats m 0 c) 2 t _ (Or.inr ⟨Or.inl rfl, (after_2 m c t).symm⟩)
theorem leaves_3 (c : Dev nD) (t : Fin cfg0.N) : (at_ c (st0_3 t) (inp m c t).wt : sProp 𝕄) ⊢ (dats m 0 c).leavesExact 3 t :=
  leaves_of (dats m 0 c) 3 t _ (Or.inr ⟨Or.inl rfl, (after_3 m c t).symm⟩)
theorem leaves_4 (c : Dev nD) (t : Fin cfg0.N) : (at_ c (st0_4 t) (inp m c t).u : sProp 𝕄) ⊢ (dats m 0 c).leavesExact 4 t :=
  leaves_of (dats m 0 c) 4 t _ (Or.inr ⟨Or.inl rfl, (after_4 m c t).symm⟩)
theorem leaves_5 (c : Dev nD) (t : Fin cfg0.N) : (at_ c (st0_5 t) (inp m c t).ws : sProp 𝕄) ⊢ (dats m 0 c).leavesExact 5 t :=
  leaves_of (dats m 0 c) 5 t _ (Or.inr ⟨Or.inl rfl, (after_5 m c t).symm⟩)
theorem leaves_6 (c : Dev nD) (t : Fin cfg0.N) (d X) (hX : X = if t.val = 127 then (outAll (inp m c)).kl else (dats m 0 c).before 6 t d) :
    (at_ c (st0_6 t) X : sProp 𝕄) ⊢ (dats m 0 c).leavesExact 6 t :=
  leaves_last (dats m 0 c) 6 flush0_6 idleL t d X hX
theorem leaves_7 (c : Dev nD) (t : Fin cfg0.N) (d X) (hX : X = if t.val = 127 then (outAll (inp m c)).lt else (dats m 0 c).before 7 t d) :
    (at_ c (st0_7 t) X : sProp 𝕄) ⊢ (dats m 0 c).leavesExact 7 t :=
  leaves_last (dats m 0 c) 7 flush0_7 idleL t d X hX
theorem leaves_8 (c : Dev nD) (t : Fin cfg0.N) (d X) (hX : X = if t.val = 127 then (outAll (inp m c)).ls else (dats m 0 c).before 8 t d) :
    (at_ c (st0_8 t) X : sProp 𝕄) ⊢ (dats m 0 c).leavesExact 8 t :=
  leaves_last (dats m 0 c) 8 flush0_8 idleL t d X hX
theorem leaves_9 (c : Dev nD) (t : Fin cfg0.N) (d X) (hX : X = if t.val = 127 then (outAll (inp m c)).sht else (dats m 0 c).before 9 t d) :
    (at_ c (st0_9 t) X : sProp 𝕄) ⊢ (dats m 0 c).leavesExact 9 t :=
  leaves_last (dats m 0 c) 9 flush0_9 idleL t d X hX
theorem leaves_10 (c : Dev nD) (t : Fin cfg0.N) (d X) (hX : X = if t.val = 127 then (outAll (inp m c)).shs else (dats m 0 c).before 10 t d) :
    (at_ c (st0_10 t) X : sProp 𝕄) ⊢ (dats m 0 c).leavesExact 10 t :=
  leaves_last (dats m 0 c) 10 flush0_10 idleL t d X hX
theorem leaves_11 (c : Dev nD) (t : Fin cfg0.N) (d X) (hX : X = if t.val = 127 then (outAll (inp m c)).sha else (dats m 0 c).before 11 t d) :
    (at_ c (st0_11 t) X : sProp 𝕄) ⊢ (dats m 0 c).leavesExact 11 t :=
  leaves_last (dats m 0 c) 11 flush0_11 idleL t d X hX
theorem leaves_12 (c : Dev nD) (t : Fin cfg0.N) : (at_ c (st0_12 t) (XT (inp m c)).ct : sProp 𝕄) ⊢ (dats m 0 c).leavesExact 12 t :=
  leaves_first (dats m 0 c) 12 (fun _ => rfl) flush0_12 idleQ (fun _ _ => rfl) (fun _ => rfl) t
theorem found_12 (c : Dev nD) (t : Fin cfg0.N) (h : t.val ≠ 0) (d) : (dats m 0 c).before 12 t d = (XT (inp m c)).ct := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 12 (fun _ => rfl) flush0_12 idleQ (fun _ _ => rfl) (fun _ => rfl) d n hlt
theorem leaves_13 (c : Dev nD) (t : Fin cfg0.N) : (at_ c (st0_13 t) (XT (inp m c)).st : sProp 𝕄) ⊢ (dats m 0 c).leavesExact 13 t :=
  leaves_first (dats m 0 c) 13 (fun _ => rfl) flush0_13 idleQ (fun _ _ => rfl) (fun _ => rfl) t
theorem found_13 (c : Dev nD) (t : Fin cfg0.N) (h : t.val ≠ 0) (d) : (dats m 0 c).before 13 t d = (XT (inp m c)).st := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 13 (fun _ => rfl) flush0_13 idleQ (fun _ _ => rfl) (fun _ => rfl) d n hlt
theorem leaves_14 (c : Dev nD) (t : Fin cfg0.N) : (at_ c (st0_14 t) (YS (inp m c)).cs : sProp 𝕄) ⊢ (dats m 0 c).leavesExact 14 t :=
  leaves_first (dats m 0 c) 14 (fun _ => rfl) flush0_14 idleQ (fun _ _ => rfl) (fun _ => rfl) t
theorem found_14 (c : Dev nD) (t : Fin cfg0.N) (h : t.val ≠ 0) (d) : (dats m 0 c).before 14 t d = (YS (inp m c)).cs := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 14 (fun _ => rfl) flush0_14 idleQ (fun _ _ => rfl) (fun _ => rfl) d n hlt
theorem leaves_15 (c : Dev nD) (t : Fin cfg0.N) : (at_ c (st0_15 t) (YS (inp m c)).ss : sProp 𝕄) ⊢ (dats m 0 c).leavesExact 15 t :=
  leaves_first (dats m 0 c) 15 (fun _ => rfl) flush0_15 idleQ (fun _ _ => rfl) (fun _ => rfl) t
theorem found_15 (c : Dev nD) (t : Fin cfg0.N) (h : t.val ≠ 0) (d) : (dats m 0 c).before 15 t d = (YS (inp m c)).ss := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 15 (fun _ => rfl) flush0_15 idleQ (fun _ _ => rfl) (fun _ => rfl) d n hlt

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [body_eq, show (dats m 0 c).Φ t.castSucc = inv m c t.val from rfl, show (dats m 0 c).Φ t.succ = inv m c (t.val + 1) from rfl,
    show (dats m 0 c).owesAt () t.succ = (dats m 0 c).owesAt () t.castSucc from rfl]
  unfold inv scratch
  iintro ⟨⟨%tT, %tS, %A, %x0, %hS, ⟨S0, S1, SA, S7⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hst := step_state (inp m c) t x0 ⟨(dats m 0 c).before 12 t d12, (dats m 0 c).before 13 t d13, tT⟩ ⟨(dats m 0 c).before 14 t d14, (dats m 0 c).before 15 t d15, tS⟩ A
    (fun h => ⟨QT.ext' (found_12 m c t h d12) (found_13 m c t h d13) (hS h).1, QS.ext' (found_14 m c t h d14) (found_15 m c t h d15) (hS h).2.1, (hS h).2.2⟩)
  iapply (body_wp (grid0.coords t) (inp m c t) ⟨⟨(dats m 0 c).before 12 t d12, (dats m 0 c).before 13 t d13, tT⟩, ⟨(dats m 0 c).before 14 t d14, (dats m 0 c).before 15 t d15, tS⟩, A, colsAt (inp m c) x0 t.val⟩
    ⟨(dats m 0 c).before 6 t d6, (dats m 0 c).before 7 t d7, (dats m 0 c).before 8 t d8, (dats m 0 c).before 9 t d9, (dats m 0 c).before 10 t d10, (dats m 0 c).before 11 t d11⟩) $$ [H0 H1 H2 H3 H4 H5 H6 H7 H8 H9 H10 H11 H12 H13 H14 H15 S0 S1 SA S7]
  · unfold heldI heldO heldT heldS
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 H10 H11]
    · isplitl [H6]; · iexact H6
      isplitl [H7]; · iexact H7
      isplitl [H8]; · iexact H8
      isplitl [H9]; · iexact H9
      isplitl [H10]; · iexact H10
      iexact H11
    isplitl [H12 H13 S0]
    · isplitl [H12]; · iexact H12
      isplitl [H13]; · iexact H13
      iexact S0
    isplitl [H14 H15 S1]
    · isplitl [H14]; · iexact H14
      isplitl [H15]; · iexact H15
      iexact S1
    isplitl [SA]; · iexact SA
    iexact S7
  rw [show grid0.coords t = cfg0.grid.coords t from rfl, hst]
  have hO : ∀ O : Out F, stepO (cfg0.grid.coords t) (colsAt (inp m c) x0 (t.val + 1)) O = if t.val = 127 then outAll (inp m c) else O := fun O => by
    unfold stepO
    by_cases h : t.val = 127
    · rw [if_pos h, if_pos ((condL_iff _).2 ((coords_val t).trans h)), h]
      exact outAll_eq (inp m c) x0
    · rw [if_neg h, if_neg (fun h' => h ((coords_val t).symm.trans ((condL_iff _).1 h')))]
  rw [hO]
  unfold heldI heldO heldT heldS
  iintro ⟨⟨H0, H1, H2, H3, H4, H5⟩, ⟨H6, H7, H8, H9, H10, H11⟩, ⟨H12, H13, S0⟩, ⟨H14, H15, S1⟩, SA, S7⟩
  isplitl [S0 S1 SA S7 Hr]
  · iexists _, _, _, x0
    isplitr
    rotate_left
    · isplitl [S0 S1 SA S7]
      · isplitl [S0]; · iexact S0
        isplitl [S1]; · iexact S1
        isplitl [SA]; · iexact SA
        iexact S7
      iexact Hr
    · ipureintro
      exact fun _ => ⟨rfl, rfl, rfl⟩
  isplitl [Ho]; · iexact Ho
  isplitl [H0]; · iapply (leaves_0 m c t) $$ H0
  isplitl [H1]; · iapply (leaves_1 m c t) $$ H1
  isplitl [H2]; · iapply (leaves_2 m c t) $$ H2
  isplitl [H3]; · iapply (leaves_3 m c t) $$ H3
  isplitl [H4]; · iapply (leaves_4 m c t) $$ H4
  isplitl [H5]; · iapply (leaves_5 m c t) $$ H5
  isplitl [H6]; · iapply (leaves_6 m c t d6 _ (by split <;> rfl)) $$ H6
  isplitl [H7]; · iapply (leaves_7 m c t d7 _ (by split <;> rfl)) $$ H7
  isplitl [H8]; · iapply (leaves_8 m c t d8 _ (by split <;> rfl)) $$ H8
  isplitl [H9]; · iapply (leaves_9 m c t d9 _ (by split <;> rfl)) $$ H9
  isplitl [H10]; · iapply (leaves_10 m c t d10 _ (by split <;> rfl)) $$ H10
  isplitl [H11]; · iapply (leaves_11 m c t d11 _ (by split <;> rfl)) $$ H11
  isplitl [H12]; · iapply (leaves_12 m c t) $$ H12
  isplitl [H13]; · iapply (leaves_13 m c t) $$ H13
  isplitl [H14]; · iapply (leaves_14 m c t) $$ H14
  iapply (leaves_15 m c t) $$ H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem inv_in (c : Dev nD) : (Pipeline.ΦA spec0 c : sProp 𝕄) ⊢ inv m c 0 := by
  unfold Pipeline.ΦA inv scratch accs at_
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hr⟩
  iexists f0, f1, ⟨f2, f3, f4, f5, f6⟩, f7
  isplitr
  · ipureintro
    exact fun h => absurd rfl h
  isplitr [Hr]
  · isplitl [H0]; · iexact H0
    isplitl [H1]; · iexact H1
    isplitr [H7]
    · isplitl [H2]; · iexact H2
      isplitl [H3]; · iexact H3
      isplitl [H4]; · iexact H4
      isplitl [H5]; · iexact H5
      iexact H6
    iexact H7
  iexact Hr

theorem inv_out (c : Dev nD) (n : ℕ) : (inv m c n : sProp 𝕄) ⊢ Pipeline.ΦA spec0 c := by
  unfold Pipeline.ΦA inv scratch accs at_
  rw [scopedRest0_eq]
  simp only [owns_whole]
  iintro ⟨%tT, %tS, %A, %x0, -, ⟨H0, H1, ⟨H2, H3, H4, H5, H6⟩, H7⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Body
-- ==== Proof.KernelIdeal.Spec.lean ====
/-
  The kernel body restated with its unrolled loops as loops: blocks of 32 rows in the quantiser, blocks of 8 rows in
  the accumulation over the vocabulary tile, blocks of 64 rows where a shard ends. `body_eq` says that the printed body,
  which repeats each block's text at literal offsets, is this program.
-/
module

public import proofs.«01_k».proof.Proof.Gen.KernelIdeal
public import Idealize.ShloMosaic.Lib.Tactic

@[expose] public section

noncomputable section

namespace Cert.KernelIdeal.Body

open Cert.KernelIdeal Cert.KernelIdeal.Gen
open Idealize.ShloMosaic Idealize.SL.Sem

variable {F : FTy → Type} [FloatOps F] [Named F]

/-- The named constants. -/
def cTemp : F .f32 := Named.named κ "log2e_over_temp" 0x3F38AA3B#32
def cLog2e : F .f32 := Named.named κ "log2e" 0x3FB8AA3B#32
def cLn2 : F .f32 := Named.named κ "ln2" 0x3F317218#32

/-- The programs the body is made of. -/
abbrev P (F : FTy → Type) [FloatOps F] [Named F] (α : Type) : Type 1 := Prog (TpuEff nD τ sig (Elt F) Λ₀ .tc) α

/-- `p 0`, `p 1`, …, `p (n - 1)`, in this order: the last `k` of them. -/
def each {n : Nat} (p : Fin n → P F PUnit) : (k : Nat) → k ≤ n → P F PUnit
  | 0, _ => pure ⟨⟩
  | k + 1, h => do
    p ⟨n - (k + 1), by omega⟩
    each p k (by omega)

/-! ### Where the blocks lie -/

theorem inb8 (r : Fin 32) : ∀ a, (![8 * r.val, 0] : Fin 2 → Nat) a + S8x128.size a ≤ S256x128.size a := by
  intro a; fin_cases a
  · show 8 * r.val + 8 ≤ 256; omega
  · show 0 + 128 ≤ 128; omega
theorem inb32 (r : Fin 8) : ∀ a, (![32 * r.val, 0] : Fin 2 → Nat) a + S32x128.size a ≤ S256x128.size a := by
  intro a; fin_cases a
  · show 32 * r.val + 32 ≤ 256; omega
  · show 0 + 128 ≤ 128; omega
theorem inb64 (r : Fin 4) : ∀ a, (![64 * r.val, 0] : Fin 2 → Nat) a + S64x128.size a ≤ S256x128.size a := by
  intro a; fin_cases a
  · show 64 * r.val + 64 ≤ 256; omega
  · show 0 + 128 ≤ 128; omega
theorem inbCol (r : Fin 8) : ∀ a, (![32 * r.val, 0] : Fin 2 → Nat) a + S32x1.size a ≤ S256x1.size a := by
  intro a; fin_cases a
  · show 32 * r.val + 32 ≤ 256; omega
  · show 0 + 1 ≤ 1; omega
theorem inbT (r : Fin 8) : ∀ a, (![32 * r.val, 0] : Fin 2 → Nat) a + S32x2560.size a ≤ S256x2560.size a := by
  intro a; fin_cases a
  · show 32 * r.val + 32 ≤ 256; omega
  · show 0 + 2560 ≤ 2560; omega
theorem inbS (r : Fin 8) : ∀ a, (![32 * r.val, 0] : Fin 2 → Nat) a + S32x1152.size a ≤ S256x1152.size a := by
  intro a; fin_cases a
  · show 32 * r.val + 32 ≤ 256; omega
  · show 0 + 1152 ≤ 1152; omega
theorem inbCols (q : Fin 3) (r : Fin 4) : ∀ a, (![q.val, 64 * r.val, 0] : Fin 3 → Nat) a + S1x64x128.size a ≤ S3x256x128.size a := by
  intro a; fin_cases a
  · show q.val + 1 ≤ 3; omega
  · show 64 * r.val + 64 ≤ 256; omega
  · show 0 + 128 ≤ 128; omega
theorem inbHead (q : Fin 3) : ∀ a, (![q.val, 0, 0] : Fin 3 → Nat) a + S1x256x4.size a ≤ S3x256x128.size a := by
  intro a; fin_cases a
  · show q.val + 1 ≤ 3; omega
  · show 0 + 256 ≤ 256; omega
  · show 0 + 4 ≤ 128; omega
theorem inbScale (n : Fin 2) (l : Fin 4) : ∀ a, (![0, 512 * n.val + 128 * l.val] : Fin 2 → Nat) a + S1x128.size a ≤ S1x1024.size a := by
  intro a; fin_cases a
  · show 0 + 1 ≤ 1; omega
  · show 512 * n.val + 128 * l.val + 128 ≤ 1024; omega
theorem inbWT (n : Fin 2) : ∀ a, (![512 * n.val, 0] : Fin 2 → Nat) a + S512x2560.size a ≤ S1024x2560.size a := by
  intro a; fin_cases a
  · show 512 * n.val + 512 ≤ 1024; omega
  · show 0 + 2560 ≤ 2560; omega
theorem inbWS (n : Fin 2) : ∀ a, (![512 * n.val, 0] : Fin 2 → Nat) a + S512x1152.size a ≤ S1024x1152.size a := by
  intro a; fin_cases a
  · show 512 * n.val + 512 ≤ 1024; omega
  · show 0 + 1152 ≤ 1152; omega
theorem slices8 (r : Fin 32) (l : Fin 4) : S256x512.Slices (![8 * r.val, 128 * l.val] : Fin 2 → Nat) S8x128 := by
  refine ⟨rfl, fun a => ?_⟩; fin_cases a
  · show 8 * r.val + 8 ≤ 256; omega
  · show 128 * l.val + 128 ≤ 512; omega
theorem packedT (r : Fin 8) : (Rect.unit (s := S256x2560) ![32 * r.val, 0] S32x2560.size (inbT r)).PackedRows (EltTy.packing .fp8e4m3) := by
  revert r; decide
theorem packedS (r : Fin 8) : (Rect.unit (s := S256x1152) ![32 * r.val, 0] S32x1152.size (inbS r)).PackedRows (EltTy.packing .fp8e4m3) := by
  revert r; decide

abbrev rc8 (r : Fin 32) : Rect S256x128 := Rect.unit (s := S256x128) ![8 * r.val, 0] S8x128.size (inb8 r)
abbrev rc32 (r : Fin 8) : Rect S256x128 := Rect.unit (s := S256x128) ![32 * r.val, 0] S32x128.size (inb32 r)
abbrev rc64 (r : Fin 4) : Rect S256x128 := Rect.unit (s := S256x128) ![64 * r.val, 0] S64x128.size (inb64 r)
abbrev rcCol (r : Fin 8) : Rect S256x1 := Rect.unit (s := S256x1) ![32 * r.val, 0] S32x1.size (inbCol r)
abbrev rcT (r : Fin 8) : Rect S256x2560 := Rect.unit (s := S256x2560) ![32 * r.val, 0] S32x2560.size (inbT r)
abbrev rcS (r : Fin 8) : Rect S256x1152 := Rect.unit (s := S256x1152) ![32 * r.val, 0] S32x1152.size (inbS r)
abbrev rcCols (q : Fin 3) (r : Fin 4) : Rect S3x256x128 := Rect.unit (s := S3x256x128) ![q.val, 64 * r.val, 0] S1x64x128.size (inbCols q r)
abbrev rcHead (q : Fin 3) : Rect S3x256x128 := Rect.unit (s := S3x256x128) ![q.val, 0, 0] S1x256x4.size (inbHead q)
abbrev rcScale (n : Fin 2) (l : Fin 4) : Rect S1x1024 := Rect.unit (s := S1x1024) ![0, 512 * n.val + 128 * l.val] S1x128.size (inbScale n l)
abbrev rcWT (n : Fin 2) : Rect S1024x2560 := Rect.unit (s := S1024x2560) ![512 * n.val, 0] S512x2560.size (inbWT n)
abbrev rcWS (n : Fin 2) : Rect S1024x1152 := Rect.unit (s := S1024x1152) ![512 * n.val, 0] S512x1152.size (inbWS n)
abbrev rcAll : Rect S256x128 := Rect.unit (s := S256x128) ![0, 0] S256x128.size inb_S256x128_S256x128_0_0
abbrev rcAllCol : Rect S256x1 := Rect.unit (s := S256x1) ![0, 0] S256x1.size inb_S256x1_S256x1_0_0
abbrev rcAllSh : Rect S256x4 := Rect.unit (s := S256x4) ![0, 0] S256x4.size inb_S256x4_S256x4_0_0
abbrev rcAllT : Rect S256x2560 := Rect.unit (s := S256x2560) ![0, 0] S256x2560.size inb_S256x2560_S256x2560_0_0
abbrev rcAllS : Rect S256x1152 := Rect.unit (s := S256x1152) ![0, 0] S256x1152.size inb_S256x1152_S256x1152_0_0

/-! ### What the quantiser computes of 32 rows -/

/-- The exponent of each row's scale, from the row's largest magnitude. -/
def qExp (a : FVec F S32x1 .f32) : IVec S32x1 32 :=
  select (cmpf .oeq a (broadcast S32x1 (Scalar.ofBits .f32 0x00000000#32))) (broadcast S32x1 0#32)
    (subi (shapeCast S32x1 (multiReductionI .add [1] S32
        (extui 32 (cmpf .oge (broadcastTo S32x255 (mulf a (broadcast S32x1 (Scalar.ofBits .f32 0x3B124925#32))) broadcasts_S32x1_S32x255)
          (bitcastToFloat .f32 (shli (addi (iota .tc S32x255 32 [1] iota_S32x255_d1_w32) (broadcast S32x255 1#32)) (broadcast S32x255 23#32)))) natLt_1_32)
        0#32 reduces_S32x255_S32 rfl) shapeCasts_S32_S32x1) (broadcast S32x1 126#32))

def qScale (a : FVec F S32x1 .f32) : FVec F S32x1 .f32 :=
  bitcastToFloat .f32 (shli (addi (qExp a) (broadcast S32x1 127#32)) (broadcast S32x1 23#32))

def qInv (a : FVec F S32x1 .f32) : FVec F S32x1 .f32 :=
  bitcastToFloat .f32 (shli (subi (broadcast S32x1 127#32) (qExp a)) (broadcast S32x1 23#32))

/-- The scale a token's logits take, in units of log 2 and over the temperature, on every lane. -/
def qTok (s : FVec F S32x1 .f32) : FVec F S32x128 .f32 :=
  shapeCast S32x128 (broadcastTo S32x128 (shapeCast S32x1 (mulf s (broadcast S32x1 cTemp)) shapeCasts_S32x1_S32x1) broadcasts_S32x1_S32x128) shapeCasts_S32x128_S32x128

def vT (v : Vec F S32x2560 .bf16) : FVec F S32x2560 .f32 :=
  extf .f32 (shapeCast S32x2560 v shapeCasts_S32x2560_S32x2560 : FVec F S32x2560 .bf16) bitsLt_bf16_f32
def aT (v : Vec F S32x2560 .bf16) : FVec F S32x1 .f32 :=
  shapeCast S32x1 (multiReduction .maximumf [1] S32 (absf (vT v)) 0xFF800000#32 reduces_S32x2560_S32 (.inl rfl) rfl) shapeCasts_S32_S32x1
def codesT (v : Vec F S32x2560 .bf16) : FVec F S32x2560 .fp8e4m3 :=
  truncf .fp8e4m3 (minimumf (broadcast S32x2560 (Scalar.ofBits .f32 0x43E00000#32))
    (maximumf (broadcast S32x2560 (Scalar.ofBits .f32 0xC3E00000#32)) (mulf (vT v) (broadcastTo S32x2560 (qInv (aT v)) broadcasts_S32x1_S32x2560)))) bitsLt_fp8e4m3_f32

def vS (v : Vec F S32x1152 .bf16) : FVec F S32x1152 .f32 :=
  extf .f32 (shapeCast S32x1152 v shapeCasts_S32x1152_S32x1152 : FVec F S32x1152 .bf16) bitsLt_bf16_f32
def aS (v : Vec F S32x1152 .bf16) : FVec F S32x1 .f32 :=
  shapeCast S32x1 (multiReduction .maximumf [1] S32 (absf (vS v)) 0xFF800000#32 reduces_S32x1152_S32 (.inl rfl) rfl) shapeCasts_S32_S32x1
def codesS (v : Vec F S32x1152 .bf16) : FVec F S32x1152 .fp8e4m3 :=
  truncf .fp8e4m3 (minimumf (broadcast S32x1152 (Scalar.ofBits .f32 0x43E00000#32))
    (maximumf (broadcast S32x1152 (Scalar.ofBits .f32 0xC3E00000#32)) (mulf (vS v) (broadcastTo S32x1152 (qInv (aS v)) broadcasts_S32x1_S32x1152)))) bitsLt_fp8e4m3_f32

/-- The quantiser's block of rows `32 r …`, of the teacher's activations, -/
def quantT (arg1 : Memref sig .tc .vmem S256x2560 .bf16) (arg13 : Memref sig .tc .vmem S256x2560 .fp8e4m3) (harg13 : arg13.IsWhole)
    (arg14 : Memref sig .tc .vmem S256x1 .f32) (arg17 : Memref sig .tc .vmem S256x128 .f32) (r : Fin 8) : P F PUnit := do
  let v : Vec F S32x2560 .bf16 ← Prog.lift (.load arg1 (rcT r).toLoadRect (View.loadsAt_vmem h_S32x2560))
  let _ : Vec F S32x2560 .fp8e4m3 ← Prog.lift (.load arg13 (rcT r).toLoadRect (View.loadsAt_vmem h_S32x2560))
  Prog.lift (.store arg13 (rcT r) (codesT v) Finset.univ (View.stores_vmem h_S32x2560 (harg13.storeExact_slice rfl _ (packedT r)) (fun _ => rfl)) (.inl rfl))
  let _ : Vec F S32x1 .f32 ← Prog.lift (.load arg14 (rcCol r).toLoadRect (View.loadsAt_vmem h_S32x1))
  Prog.lift (.store arg14 (rcCol r) (qScale (aT v)) Finset.univ (View.stores_vmem_bits_univ h_S32x1 rfl) (.inl rfl))
  let _ : Vec F S32x128 .f32 ← Prog.lift (.load arg17 (rc32 r).toLoadRect (View.loadsAt_vmem h_S32x128))
  Prog.lift (.store arg17 (rc32 r) (qTok (qScale (aT v))) Finset.univ (View.stores_vmem_bits_univ h_S32x128 rfl) (.inl rfl))

/-- and of the student's. -/
def quantS (arg2 : Memref sig .tc .vmem S256x1152 .bf16) (arg15 : Memref sig .tc .vmem S256x1152 .fp8e4m3) (harg15 : arg15.IsWhole)
    (arg16 : Memref sig .tc .vmem S256x1 .f32) (arg18 : Memref sig .tc .vmem S256x128 .f32) (r : Fin 8) : P F PUnit := do
  let v : Vec F S32x1152 .bf16 ← Prog.lift (.load arg2 (rcS r).toLoadRect (View.loadsAt_vmem h_S32x1152))
  let _ : Vec F S32x1152 .fp8e4m3 ← Prog.lift (.load arg15 (rcS r).toLoadRect (View.loadsAt_vmem h_S32x1152))
  Prog.lift (.store arg15 (rcS r) (codesS v) Finset.univ (View.stores_vmem h_S32x1152 (harg15.storeExact_slice rfl _ (packedS r)) (fun _ => rfl)) (.inl rfl))
  let _ : Vec F S32x1 .f32 ← Prog.lift (.load arg16 (rcCol r).toLoadRect (View.loadsAt_vmem h_S32x1))
  Prog.lift (.store arg16 (rcCol r) (qScale (aS v)) Finset.univ (View.stores_vmem_bits_univ h_S32x1 rfl) (.inl rfl))
  let _ : Vec F S32x128 .f32 ← Prog.lift (.load arg18 (rc32 r).toLoadRect (View.loadsAt_vmem h_S32x128))
  Prog.lift (.store arg18 (rc32 r) (qTok (qScale (aS v))) Finset.univ (View.stores_vmem_bits_univ h_S32x128 rfl) (.inl rfl))

/-! ### The reset at a shard's first step -/

def negInf : FVec F S256x128 .f32 := shapeCast S256x128 (broadcast S256x128 (Scalar.ofBits .f32 0xFF800000#32) : FVec F S256x128 .f32) shapeCasts_S256x128_S256x128
def zeros : FVec F S256x128 .f32 := shapeCast S256x128 (broadcast S256x128 (Scalar.ofBits .f32 0x00000000#32) : FVec F S256x128 .f32) shapeCasts_S256x128_S256x128

/-- A scratch array filled with one value. -/
def fill (a : Memref sig .tc .vmem S256x128 .f32) (v : FVec F S256x128 .f32) : P F PUnit := do
  let _ : Vec F S256x128 .f32 ← Prog.lift (.load a rcAll.toLoadRect (View.loadsAt_vmem h_S256x128))
  Prog.lift (.store a rcAll v Finset.univ (View.stores_vmem_bits_univ h_S256x128 rfl) (.inl rfl))

/-! ### The accumulation over half a vocabulary tile -/

def accT (ct : Vec F S256x2560 .fp8e4m3) (w : Vec F S512x2560 .fp8e4m3) : FVec F S256x512 .f32 :=
  matmul dot_S256x2560_S512x2560_S256x512_1_1_0_0_n_n none (shapeCast S256x2560 ct shapeCasts_S256x2560_S256x2560 : FVec F S256x2560 .fp8e4m3) w (constant S256x512 .f32 0x00000000#32)
def accS (cs : Vec F S256x1152 .fp8e4m3) (w : Vec F S512x1152 .fp8e4m3) : FVec F S256x512 .f32 :=
  matmul dot_S256x1152_S512x1152_S256x512_1_1_0_0_n_n none (shapeCast S256x1152 cs shapeCasts_S256x1152_S256x1152 : FVec F S256x1152 .fp8e4m3) w (constant S256x512 .f32 0x00000000#32)

/-- The scaled logits of 8 rows by 128 lanes. -/
def logit (acc : FVec F S256x512 .f32) (r : Fin 32) (l : Fin 4) (tok : Vec F S8x128 .f32) (w : Vec F S1x128 .f32) : FVec F S8x128 .f32 :=
  mulf (mulf (extractStridedSlice S8x128 ![8 * r.val, 128 * l.val] acc (slices8 r l)) tok)
    (broadcastTo S8x128 (shapeCast S1x128 w shapeCasts_S1x128_S1x128 : FVec F S1x128 .f32) broadcasts_S1x128_S8x128)

/-- The running maximum after four more logits, -/
def newM (m x0 x1 x2 x3 : FVec F S8x128 .f32) : FVec F S8x128 .f32 := maximumf (maximumf (maximumf (maximumf m x0) x1) x2) x3
/-- the running sum of exponentials under the new maximum, -/
def newS (m s x0 x1 x2 x3 : FVec F S8x128 .f32) : FVec F S8x128 .f32 :=
  addf (addf (addf (addf (mulf s (exp2 (subf m (newM m x0 x1 x2 x3)))) (exp2 (subf x0 (newM m x0 x1 x2 x3)))) (exp2 (subf x1 (newM m x0 x1 x2 x3))))
    (exp2 (subf x2 (newM m x0 x1 x2 x3)))) (exp2 (subf x3 (newM m x0 x1 x2 x3)))
/-- and the running sum of exponentials times the difference of the two models' logits. -/
def newA (m a x0 x1 x2 x3 y0 y1 y2 y3 : FVec F S8x128 .f32) : FVec F S8x128 .f32 :=
  addf (addf (addf (addf (mulf a (exp2 (subf m (newM m x0 x1 x2 x3)))) (mulf (exp2 (subf x0 (newM m x0 x1 x2 x3))) (subf x0 y0)))
    (mulf (exp2 (subf x1 (newM m x0 x1 x2 x3))) (subf x1 y1))) (mulf (exp2 (subf x2 (newM m x0 x1 x2 x3))) (subf x2 y2)))
    (mulf (exp2 (subf x3 (newM m x0 x1 x2 x3))) (subf x3 y3))

/-- An 8-row block of a scratch array read, -/
def ld8 (a : Memref sig .tc .vmem S256x128 .f32) (r : Fin 32) : P F (Vec F S8x128 .f32) :=
  Prog.lift (.load a (rc8 r).toLoadRect (View.loadsAt_vmem h_S8x128))
/-- and written. -/
def st8 (a : Memref sig .tc .vmem S256x128 .f32) (r : Fin 32) (v : FVec F S8x128 .f32) : P F PUnit := do
  let _ ← ld8 (F := F) a r
  Prog.lift (.store a (rc8 r) (shapeCast S8x128 v shapeCasts_S8x128_S8x128) Finset.univ (View.stores_vmem_bits_univ h_S8x128 rfl) (.inl rfl))
def ldScale (a : Memref sig .tc .vmem S1x1024 .f32) (n : Fin 2) (l : Fin 4) : P F (Vec F S1x128 .f32) :=
  Prog.lift (.load a (rcScale n l).toLoadRect (View.loadsAt_vmem h_S1x128))

/-- One block of 8 rows of the accumulation. -/
def rowBlk (arg4 arg6 : Memref sig .tc .vmem S1x1024 .f32) (arg17 arg18 arg19 arg20 arg21 arg22 arg23 : Memref sig .tc .vmem S256x128 .f32)
    (n : Fin 2) (at' as' : FVec F S256x512 .f32) (r : Fin 32) : P F PUnit := do
  let tt ← ld8 (F := F) arg17 r
  let ts ← ld8 (F := F) arg18 r
  let w0 ← ldScale (F := F) arg4 n 0
  let u0 ← ldScale (F := F) arg6 n 0
  let w1 ← ldScale (F := F) arg4 n 1
  let u1 ← ldScale (F := F) arg6 n 1
  let w2 ← ldScale (F := F) arg4 n 2
  let u2 ← ldScale (F := F) arg6 n 2
  let w3 ← ldScale (F := F) arg4 n 3
  let u3 ← ldScale (F := F) arg6 n 3
  let m ← ld8 (F := F) arg19 r
  let ms ← ld8 (F := F) arg22 r
  let s ← ld8 (F := F) arg20 r
  let a ← ld8 (F := F) arg21 r
  let ss ← ld8 (F := F) arg23 r
  st8 arg19 r (newM m (logit at' r 0 tt w0) (logit at' r 1 tt w1) (logit at' r 2 tt w2) (logit at' r 3 tt w3))
  st8 arg22 r (newM ms (logit as' r 0 ts u0) (logit as' r 1 ts u1) (logit as' r 2 ts u2) (logit as' r 3 ts u3))
  st8 arg20 r (newS m s (logit at' r 0 tt w0) (logit at' r 1 tt w1) (logit at' r 2 tt w2) (logit at' r 3 tt w3))
  st8 arg21 r (newA m a (logit at' r 0 tt w0) (logit at' r 1 tt w1) (logit at' r 2 tt w2) (logit at' r 3 tt w3)
    (logit as' r 0 ts u0) (logit as' r 1 ts u1) (logit as' r 2 ts u2) (logit as' r 3 ts u3))
  st8 arg23 r (newS ms ss (logit as' r 0 ts u0) (logit as' r 1 ts u1) (logit as' r 2 ts u2) (logit as' r 3 ts u3))

/-- Half a vocabulary tile: the two products, then every block of rows. -/
def half (arg3 : Memref sig .tc .vmem S1024x2560 .fp8e4m3) (arg4 : Memref sig .tc .vmem S1x1024 .f32) (arg5 : Memref sig .tc .vmem S1024x1152 .fp8e4m3) (arg6 : Memref sig .tc .vmem S1x1024 .f32)
    (arg13 : Memref sig .tc .vmem S256x2560 .fp8e4m3) (arg15 : Memref sig .tc .vmem S256x1152 .fp8e4m3)
    (arg17 arg18 arg19 arg20 arg21 arg22 arg23 : Memref sig .tc .vmem S256x128 .f32) (n : Fin 2) : P F PUnit := do
  let ct : Vec F S256x2560 .fp8e4m3 ← Prog.lift (.load arg13 rcAllT.toLoadRect (View.loadsAt_vmem h_S256x2560))
  let wt : Vec F S512x2560 .fp8e4m3 ← Prog.lift (.load arg3 (rcWT n).toLoadRect (View.loadsAt_vmem h_S512x2560))
  let cs : Vec F S256x1152 .fp8e4m3 ← Prog.lift (.load arg15 rcAllS.toLoadRect (View.loadsAt_vmem h_S256x1152))
  let ws : Vec F S512x1152 .fp8e4m3 ← Prog.lift (.load arg5 (rcWS n).toLoadRect (View.loadsAt_vmem h_S512x1152))
  each (rowBlk arg4 arg6 arg17 arg18 arg19 arg20 arg21 arg22 arg23 n (accT ct wt) (accS cs ws)) 32 le_rfl

/-! ### A shard's end -/

/-- The shard a step belongs to, as the kernel computes it, -/
def shardOf (arg0 : BitVec 32) : BitVec 32 :=
  Scalar.select (Scalar.andi
      (Scalar.cmpi .ne (Scalar.subi (Scalar.extui (Scalar.cmpi .sgt arg0 0#32) : BitVec 32) (Scalar.extui (Scalar.cmpi .slt arg0 0#32)))
        (Scalar.subi (Scalar.extui (Scalar.cmpi .sgt 32#32 0#32) : BitVec 32) (Scalar.extui (Scalar.cmpi .slt 32#32 0#32))))
      (Scalar.cmpi .ne (Scalar.remsi arg0 32#32) 0#32))
    (Scalar.subi (Scalar.divsi arg0 32#32) 1#32) (Scalar.divsi arg0 32#32)
/-- and the step's place in it. -/
def placeOf (arg0 : BitVec 32) : BitVec 32 :=
  Scalar.select (Scalar.andi
      (Scalar.xori (Scalar.cmpi .slt (Scalar.remsi arg0 (Scalar.select (Scalar.cmpi .eq 32#32 0#32) 1#32 32#32)) 0#32)
        (Scalar.cmpi .slt (Scalar.select (Scalar.cmpi .eq 32#32 0#32) 1#32 32#32) 0#32))
      (Scalar.cmpi .ne (Scalar.remsi arg0 (Scalar.select (Scalar.cmpi .eq 32#32 0#32) 1#32 32#32)) 0#32))
    (Scalar.addi (Scalar.remsi arg0 (Scalar.select (Scalar.cmpi .eq 32#32 0#32) 1#32 32#32)) (Scalar.select (Scalar.cmpi .eq 32#32 0#32) 1#32 32#32))
    (Scalar.remsi arg0 (Scalar.select (Scalar.cmpi .eq 32#32 0#32) 1#32 32#32))

def rowMax (m : Vec F S64x128 .f32) : FVec F S64x1 .f32 :=
  shapeCast S64x1 (multiReduction .maximumf [1] S64 (m : FVec F S64x128 .f32) 0xFF800000#32 reduces_S64x128_S64 (.inl rfl) rfl) shapeCasts_S64_S64x1
/-- The sum over the lanes of `s`, each lane brought to the row's maximum. -/
def rowSum (m m' s : Vec F S64x128 .f32) : FVec F S64x1 .f32 :=
  shapeCast S64x1 (multiReduction .add [1] S64 (mulf (s : FVec F S64x128 .f32) (exp2 (subf (m' : FVec F S64x128 .f32) (broadcastTo S64x128 (rowMax m) broadcasts_S64x1_S64x128)))) 0x00000000#32 reduces_S64x128_S64 (.inl rfl) rfl) shapeCasts_S64_S64x1
def lseCol (m s : FVec F S64x1 .f32) : FVec F S64x1 .f32 := mulf (addf m (mulf (log s) (broadcast S64x1 cLog2e))) (broadcast S64x1 cLn2)
def quotCol (a s : FVec F S64x1 .f32) : FVec F S64x1 .f32 := mulf (divf a s) (broadcast S64x1 cLn2)
/-- A column put on lane `k` of the block, the other lanes kept. -/
def putCol (k : BitVec 32) (v : FVec F S64x1 .f32) (old : Vec F S1x64x128 .f32) : FVec F S1x64x128 .f32 :=
  shapeCast S1x64x128 (select (cmpi .eq (iota .tc S64x128 32 [1] iota_S64x128_d1_w32) (broadcast S64x128 k))
    (broadcastTo S64x128 (shapeCast S64x1 v shapeCasts_S64x1_S64x1) broadcasts_S64x1_S64x128)
    (shapeCast S64x128 old shapeCasts_S1x64x128_S64x128 : FVec F S64x128 .f32)) shapeCasts_S64x128_S1x64x128

def ld64 (a : Memref sig .tc .vmem S256x128 .f32) (r : Fin 4) : P F (Vec F S64x128 .f32) :=
  Prog.lift (.load a (rc64 r).toLoadRect (View.loadsAt_vmem h_S64x128))
def putPlane (arg24 : Memref sig .tc .vmem S3x256x128 .f32) (q : Fin 3) (r : Fin 4) (k : BitVec 32) (v : FVec F S64x1 .f32) : P F PUnit := do
  let old : Vec F S1x64x128 .f32 ← Prog.lift (.load arg24 (rcCols q r).toLoadRect (View.loadsAt_vmem h_S1x64x128))
  let _ : Vec F S1x64x128 .f32 ← Prog.lift (.load arg24 (rcCols q r).toLoadRect (View.loadsAt_vmem h_S1x64x128))
  Prog.lift (.store arg24 (rcCols q r) (putCol k v old) Finset.univ (View.stores_vmem_bits_univ h_S1x64x128 rfl) (.inl rfl))

/-- The shard's three columns of 64 rows. -/
def endBlk (arg19 arg20 arg21 arg22 arg23 : Memref sig .tc .vmem S256x128 .f32) (arg24 : Memref sig .tc .vmem S3x256x128 .f32) (k : BitVec 32) (r : Fin 4) : P F PUnit := do
  let m ← ld64 (F := F) arg19 r
  let m' ← ld64 (F := F) arg19 r
  let s ← ld64 (F := F) arg20 r
  let a ← ld64 (F := F) arg21 r
  let ms ← ld64 (F := F) arg22 r
  let ss ← ld64 (F := F) arg23 r
  let ms' ← ld64 (F := F) arg22 r
  putPlane arg24 0 r k (lseCol (rowMax m) (rowSum m m' s))
  putPlane arg24 1 r k (lseCol (rowMax ms) (rowSum ms ms' ss))
  putPlane arg24 2 r k (quotCol (rowSum m m' a) (rowSum m m' s))

/-! ### The last step -/

def head (c : Vec F S1x256x4 .f32) : FVec F S256x4 .f32 := shapeCast S256x4 c shapeCasts_S1x256x4_S256x4
def lseSh (x : FVec F S256x4 .f32) : FVec F S256x1 .f32 :=
  addf (shapeCast S256x1 (multiReduction .maximumf [1] S256 x 0xFF800000#32 reduces_S256x4_S256 (.inl rfl) rfl) shapeCasts_S256_S256x1)
    (log (shapeCast S256x1 (multiReduction .add [1] S256 (exp (subf x (broadcastTo S256x4
      (shapeCast S256x1 (multiReduction .maximumf [1] S256 x 0xFF800000#32 reduces_S256x4_S256 (.inl rfl) rfl) shapeCasts_S256_S256x1) broadcasts_S256x1_S256x4)))
      0x00000000#32 reduces_S256x4_S256 (.inl rfl) rfl) shapeCasts_S256_S256x1))
def klOf (lt ls a : FVec F S256x4 .f32) : FVec F S256x1 .f32 :=
  addf (subf (shapeCast S256x1 (multiReduction .add [1] S256 (mulf (exp (subf lt (broadcastTo S256x4 (lseSh lt) broadcasts_S256x1_S256x4))) a)
    0x00000000#32 reduces_S256x4_S256 (.inl rfl) rfl) shapeCasts_S256_S256x1) (lseSh lt)) (lseSh ls)
def lessShard (x : FVec F S256x4 .f32) : FVec F S256x4 .f32 := subf x (broadcast S256x4 (Scalar.ofBits .f32 0x41265AF6#32))
def lessVocab (x : FVec F S256x1 .f32) : FVec F S256x1 .f32 := subf x (broadcast S256x1 (Scalar.ofBits .f32 0x413C8939#32))

def ldHead (arg24 : Memref sig .tc .vmem S3x256x128 .f32) (q : Fin 3) : P F (Vec F S1x256x4 .f32) :=
  Prog.lift (.load arg24 (rcHead q).toLoadRect (View.loadsAt_vmem h_S1x256x4))
def setSh (a : Memref sig .tc .vmem S256x4 .f32) (v : FVec F S256x4 .f32) : P F PUnit := do
  let _ : Vec F S256x4 .f32 ← Prog.lift (.load a rcAllSh.toLoadRect (View.loadsAt_vmem h_S256x4))
  Prog.lift (.store a rcAllSh v Finset.univ (View.stores_vmem_bits_univ h_S256x4 rfl) (.inl rfl))
def setCol (a : Memref sig .tc .vmem S256x1 .f32) (v : FVec F S256x1 .f32) : P F PUnit := do
  let _ : Vec F S256x1 .f32 ← Prog.lift (.load a rcAllCol.toLoadRect (View.loadsAt_vmem h_S256x1))
  Prog.lift (.store a rcAllCol v Finset.univ (View.stores_vmem_bits_univ h_S256x1 rfl) (.inl rfl))

def last (arg7 arg8 arg9 : Memref sig .tc .vmem S256x1 .f32) (arg10 arg11 arg12 : Memref sig .tc .vmem S256x4 .f32) (arg24 : Memref sig .tc .vmem S3x256x128 .f32) : P F PUnit := do
  let lt ← ldHead (F := F) arg24 0
  let ls ← ldHead (F := F) arg24 1
  let a ← ldHead (F := F) arg24 2
  setSh arg10 (lessShard (head lt))
  setSh arg11 (lessShard (head ls))
  setSh arg12 (head a)
  setCol arg7 (klOf (head lt) (head ls) (head a))
  setCol arg8 (lessVocab (lseSh (head lt)))
  setCol arg9 (lessVocab (lseSh (head ls)))

/-- The conditions of the body's two inner branches. -/
def atStart (i : grid0.Coords) : BitVec 1 :=
  Scalar.cmpi .ne (Scalar.extui (Scalar.cmpi .eq (placeOf (BitVec.ofNat 32 (i 0).val)) 0#32) : BitVec 32) 0#32
def atEnd (i : grid0.Coords) : BitVec 1 :=
  Scalar.cmpi .ne (Scalar.extui (Scalar.cmpi .eq (placeOf (BitVec.ofNat 32 (i 0).val)) 31#32) : BitVec 32) 0#32

def quant (arg1 : Memref sig .tc .vmem S256x2560 .bf16) (arg2 : Memref sig .tc .vmem S256x1152 .bf16)
    (arg13 : Memref sig .tc .vmem S256x2560 .fp8e4m3) (harg13 : arg13.IsWhole) (arg14 : Memref sig .tc .vmem S256x1 .f32)
    (arg15 : Memref sig .tc .vmem S256x1152 .fp8e4m3) (harg15 : arg15.IsWhole) (arg16 : Memref sig .tc .vmem S256x1 .f32)
    (arg17 arg18 : Memref sig .tc .vmem S256x128 .f32) : P F PUnit := do
  each (quantT arg1 arg13 harg13 arg14 arg17) 8 le_rfl
  each (quantS arg2 arg15 harg15 arg16 arg18) 8 le_rfl

def reset (arg19 arg20 arg21 arg22 arg23 : Memref sig .tc .vmem S256x128 .f32) : P F PUnit := do
  fill arg19 negInf
  fill arg22 negInf
  fill arg20 zeros
  fill arg21 zeros
  fill arg23 zeros

/-- The quantiser, at the first step only. -/
def condQ (i : grid0.Coords) (arg1 : Memref sig .tc .vmem S256x2560 .bf16) (arg2 : Memref sig .tc .vmem S256x1152 .bf16)
    (arg13 : Memref sig .tc .vmem S256x2560 .fp8e4m3) (harg13 : arg13.IsWhole) (arg14 : Memref sig .tc .vmem S256x1 .f32)
    (arg15 : Memref sig .tc .vmem S256x1152 .fp8e4m3) (harg15 : arg15.IsWhole) (arg16 : Memref sig .tc .vmem S256x1 .f32)
    (arg17 arg18 : Memref sig .tc .vmem S256x128 .f32) : P F PUnit :=
  dite (k0_cond1 i = 1#1) (fun _ => quant arg1 arg2 arg13 harg13 arg14 arg15 harg15 arg16 arg17 arg18) (fun _ => pure ⟨⟩)

/-- The reset, at each shard's first step. -/
def condR (i : grid0.Coords) (arg19 arg20 arg21 arg22 arg23 : Memref sig .tc .vmem S256x128 .f32) : P F PUnit :=
  dite (atStart i = 1#1) (fun _ => reset arg19 arg20 arg21 arg22 arg23) (fun _ => pure ⟨⟩)

/-- The three columns, at each shard's last step. -/
def condE (i : grid0.Coords) (arg19 arg20 arg21 arg22 arg23 : Memref sig .tc .vmem S256x128 .f32) (arg24 : Memref sig .tc .vmem S3x256x128 .f32) : P F PUnit :=
  dite (atEnd i = 1#1) (fun _ => each (endBlk arg19 arg20 arg21 arg22 arg23 arg24 (shardOf (BitVec.ofNat 32 (i 0).val))) 4 le_rfl) (fun _ => pure ⟨⟩)

/-- The results, at the last step. -/
def condL (i : grid0.Coords) (arg7 arg8 arg9 : Memref sig .tc .vmem S256x1 .f32) (arg10 arg11 arg12 : Memref sig .tc .vmem S256x4 .f32)
    (arg24 : Memref sig .tc .vmem S3x256x128 .f32) : P F PUnit :=
  dite (k0_cond4 i = 1#1) (fun _ => last arg7 arg8 arg9 arg10 arg11 arg12 arg24) (fun _ => pure ⟨⟩)

/-- The body. -/
def body (i : grid0.Coords) (arg1 : Memref sig .tc .vmem S256x2560 .bf16) (arg2 : Memref sig .tc .vmem S256x1152 .bf16)
    (arg3 : Memref sig .tc .vmem S1024x2560 .fp8e4m3) (arg4 : Memref sig .tc .vmem S1x1024 .f32) (arg5 : Memref sig .tc .vmem S1024x1152 .fp8e4m3) (arg6 : Memref sig .tc .vmem S1x1024 .f32)
    (arg7 arg8 arg9 : Memref sig .tc .vmem S256x1 .f32) (arg10 arg11 arg12 : Memref sig .tc .vmem S256x4 .f32)
    (arg13 : Memref sig .tc .vmem S256x2560 .fp8e4m3) (harg13 : arg13.IsWhole) (arg14 : Memref sig .tc .vmem S256x1 .f32)
    (arg15 : Memref sig .tc .vmem S256x1152 .fp8e4m3) (harg15 : arg15.IsWhole) (arg16 : Memref sig .tc .vmem S256x1 .f32)
    (arg17 arg18 arg19 arg20 arg21 arg22 arg23 : Memref sig .tc .vmem S256x128 .f32) (arg24 : Memref sig .tc .vmem S3x256x128 .f32) : P F PUnit := do
  condQ i arg1 arg2 arg13 harg13 arg14 arg15 harg15 arg16 arg17 arg18
  condR i arg19 arg20 arg21 arg22 arg23
  half arg3 arg4 arg5 arg6 arg13 arg15 arg17 arg18 arg19 arg20 arg21 arg22 arg23 0
  half arg3 arg4 arg5 arg6 arg13 arg15 arg17 arg18 arg19 arg20 arg21 arg22 arg23 1
  condE i arg19 arg20 arg21 arg22 arg23 arg24
  condL i arg7 arg8 arg9 arg10 arg11 arg12 arg24

end Cert.KernelIdeal.Body

end
-- ==== Proof.KernelIdeal.SpecEq.lean ====
module

public import proofs.«01_k».proof.Proof.KernelIdeal.Spec

@[expose] public section

set_option maxRecDepth 100000
set_option maxHeartbeats 4000000

noncomputable section

namespace Cert.KernelIdeal.Body

open Cert.KernelIdeal Cert.KernelIdeal.Gen
open Idealize.ShloMosaic Idealize.SL.Sem

variable {F : FTy → Type} [FloatOps F] [Named F]

theorem op_congr {α β : Type} (e e' : TpuEff nD τ sig (Elt F) Λ₀ .tc β) (k k' : β → P F α) (h1 : e = e') (h : ∀ x, k x = k' x) : Prog.op e k = Prog.op e' k' := by
  subst h1; exact congrArg _ (funext h)

/-- The first two branches, of which the printed text puts what follows into either arm. -/
theorem head_eq {c1 c2 : Prop} [Decidable c1] [Decidable c2] {α β : Type} (Q R : P F PUnit) (T : P F α) (K1 : α → P F β) (K2 : β → P F PUnit) :
    ((dite c1 (fun _ => Q >>= fun _ => dite c2 (fun _ => R >>= fun _ => T) (fun _ => T)) (fun _ => dite c2 (fun _ => R >>= fun _ => T) (fun _ => T))) >>= K1) >>= K2
      = (dite c1 (fun _ => Q) (fun _ => pure ⟨⟩)) >>= fun _ => (dite c2 (fun _ => R) (fun _ => pure ⟨⟩)) >>= fun _ => (T >>= K1) >>= K2 := by
  by_cases h1 : c1 <;> by_cases h2 : c2 <;> simp only [h1, h2, dif_pos, dif_neg, not_false_iff, bind_assoc, pure_bind]

/-- The last two, as the printed text has them. -/
theorem tail_eq {c3 c4 : Prop} [Decidable c3] [Decidable c4] (A E L : P F PUnit) :
    (A >>= fun _ => dite c3 (fun _ => E >>= fun _ => dite c4 (fun _ => L >>= fun _ => pure ⟨⟩) (fun _ => pure ⟨⟩)) (fun _ => dite c4 (fun _ => L >>= fun _ => pure ⟨⟩) (fun _ => pure ⟨⟩)))
      = A >>= fun _ => (dite c3 (fun _ => E) (fun _ => pure ⟨⟩)) >>= fun _ => dite c4 (fun _ => L) (fun _ => pure ⟨⟩) := by
  have hL : (L >>= fun _ => pure ⟨⟩) = L := bind_pure L
  by_cases h1 : c3 <;> by_cases h2 : c4 <;> simp only [h1, h2, dif_pos, dif_neg, not_false_iff, bind_assoc, pure_bind, hL]

theorem body_eq (i : grid0.Coords) (arg1 : Memref sig .tc .vmem S256x2560 .bf16) (harg1 : arg1.IsWhole) (arg2 : Memref sig .tc .vmem S256x1152 .bf16) (harg2 : arg2.IsWhole)
    (arg3 : Memref sig .tc .vmem S1024x2560 .fp8e4m3) (harg3 : arg3.IsWhole) (arg4 : Memref sig .tc .vmem S1x1024 .f32) (harg4 : arg4.IsWhole) (arg5 : Memref sig .tc .vmem S1024x1152 .fp8e4m3) (harg5 : arg5.IsWhole) (arg6 : Memref sig .tc .vmem S1x1024 .f32) (harg6 : arg6.IsWhole)
    (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (arg10 : Memref sig .tc .vmem S256x4 .f32) (harg10 : arg10.IsWhole) (arg11 : Memref sig .tc .vmem S256x4 .f32) (harg11 : arg11.IsWhole) (arg12 : Memref sig .tc .vmem S256x4 .f32) (harg12 : arg12.IsWhole)
    (arg13 : Memref sig .tc .vmem S256x2560 .fp8e4m3) (harg13 : arg13.IsWhole) (arg14 : Memref sig .tc .vmem S256x1 .f32) (harg14 : arg14.IsWhole)
    (arg15 : Memref sig .tc .vmem S256x1152 .fp8e4m3) (harg15 : arg15.IsWhole) (arg16 : Memref sig .tc .vmem S256x1 .f32) (harg16 : arg16.IsWhole)
    (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S3x256x128 .f32) (harg24 : arg24.IsWhole) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      = body i arg1 arg2 arg3 arg4 arg5 arg6 arg7 arg8 arg9 arg10 arg11 arg12 arg13 harg13 arg14 arg15 harg15 arg16 arg17 arg18 arg19 arg20 arg21 arg22 arg23 arg24 := by
  refine Eq.trans (head_eq (c1 := k0_cond1 i = 1#1) (c2 := atStart i = 1#1) (quant arg1 arg2 arg13 harg13 arg14 arg15 harg15 arg16 arg17 arg18) (reset arg19 arg20 arg21 arg22 arg23) _ _ _) ?_
  refine congrArg (condQ i arg1 arg2 arg13 harg13 arg14 arg15 harg15 arg16 arg17 arg18 >>= ·) (funext fun _ => congrArg (condR i arg19 arg20 arg21 arg22 arg23 >>= ·) (funext fun _ => ?_))
  refine Eq.trans ?_ ((tail_eq (c3 := atEnd i = 1#1) (c4 := k0_cond4 i = 1#1)
    (half arg3 arg4 arg5 arg6 arg13 arg15 arg17 arg18 arg19 arg20 arg21 arg22 arg23 0 >>= fun _ => half arg3 arg4 arg5 arg6 arg13 arg15 arg17 arg18 arg19 arg20 arg21 arg22 arg23 1)
    (each (endBlk arg19 arg20 arg21 arg22 arg23 arg24 (shardOf (BitVec.ofNat 32 (i 0).val))) 4 le_rfl)
    (last arg7 arg8 arg9 arg10 arg11 arg12 arg24)).trans (bind_assoc _ _ _))
  repeat (refine op_congr _ _ _ _ rfl (fun _ => ?_))
  rfl

end Cert.KernelIdeal.Body

end
-- ==== Proof.KernelIdeal.Step.lean ====
/-
  What each block of the body does to the memrefs it is given: the state before, the state after as a plain function of
  it (loads read `window`s of arrays, stores `put` payloads over them), and the rule that says so.
-/
module

public import proofs.«01_k».proof.Proof.KernelIdeal.Spec
public import proofs.«01_k».proof.Proof.Common

@[expose] public section

set_option maxRecDepth 16384

noncomputable section

namespace Cert.KernelIdeal.Body

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ (UR sig nD τ) ℕ

/-- The weakest precondition of the rest of the body. -/
abbrev W (c : Dev nD) (E : Set ℕ) (p : P F PUnit) (Q : PUnit → sProp 𝕄) : sProp 𝕄 :=
  wp frame (wpE (defs₀ (F := F)) Variants.none (c : Thread nD τ) none) E p Q

/-- A memref held at an array. -/
abbrev at_ (c : Dev nD) {s : Shape} {e : EltTy} (m : Memref sig .tc .vmem s e) (x : Vec F s e) : sProp 𝕄 := owns (c : Thread nD τ) m fullShare x

/-- A loop, from an invariant. -/
theorem each_wp {c : Dev nD} {E : Set ℕ} {Q : PUnit → sProp 𝕄} {n : Nat} {p : Fin n → P F PUnit} (I : ℕ → sProp 𝕄)
    (h : ∀ (r : Fin n) (k : PUnit → P F PUnit), I r.val ⊢ iprop((I (r.val + 1) -∗ W c E (k ⟨⟩) Q) -∗ W c E (p r >>= k) Q))
    (k : PUnit → P F PUnit) : I 0 ⊢ iprop((I n -∗ W c E (k ⟨⟩) Q) -∗ W c E (each p n le_rfl >>= k) Q) := by
  have key : ∀ (j : ℕ) (hj : j ≤ n), I (n - j) ⊢ iprop((I n -∗ W c E (k ⟨⟩) Q) -∗ W c E (each p j hj >>= k) Q) := by
    intro j
    induction j with
    | zero =>
      intro hj
      iintro H Hk
      iapply Hk
      iexact H
    | succ j ih =>
      intro hj
      have e1 : n - (j + 1) + 1 = n - j := by omega
      have h1 := h ⟨n - (j + 1), by omega⟩ (fun _ => each p j (by omega) >>= k)
      rw [show ((⟨n - (j + 1), by omega⟩ : Fin n).val + 1) = n - j from e1] at h1
      have e2 : (each p (j + 1) hj >>= k) = p ⟨n - (j + 1), by omega⟩ >>= fun _ => each p j (by omega) >>= k := bind_assoc _ _ _
      rw [e2]
      iintro H Hk
      iapply h1 $$ H
      iintro H
      iapply (ih _) $$ H
      iexact Hk
  have := key n le_rfl
  rwa [Nat.sub_self] at this

/-! ### The accumulation -/

/-- The five running arrays: the teacher's maximum, sum and weighted difference, the student's maximum and sum. -/
structure Acc (F : FTy → Type) where
  m : Vec F S256x128 .f32
  s : Vec F S256x128 .f32
  a : Vec F S256x128 .f32
  ms : Vec F S256x128 .f32
  ss : Vec F S256x128 .f32

def w8 (x : Vec F S256x128 .f32) (r : Fin 32) : Vec F S8x128 .f32 := window x ![8 * r.val, 0] S8x128.size (inb8 r)
def p8 (x : Vec F S256x128 .f32) (r : Fin 32) (v : FVec F S8x128 .f32) : Vec F S256x128 .f32 :=
  put x ![8 * r.val, 0] S8x128.size (shapeCast S8x128 v shapeCasts_S8x128_S8x128)
def wScale (x : Vec F S1x1024 .f32) (n : Fin 2) (l : Fin 4) : Vec F S1x128 .f32 := window x ![0, 512 * n.val + 128 * l.val] S1x128.size (inbScale n l)

/-- One block of 8 rows. -/
def rowStep (wt ws : Vec F S1x1024 .f32) (tT tS : Vec F S256x128 .f32) (n : Fin 2) (at' as' : FVec F S256x512 .f32) (r : Fin 32) (A : Acc F) : Acc F where
  m := p8 A.m r (newM (w8 A.m r) (logit at' r 0 (w8 tT r) (wScale wt n 0)) (logit at' r 1 (w8 tT r) (wScale wt n 1)) (logit at' r 2 (w8 tT r) (wScale wt n 2)) (logit at' r 3 (w8 tT r) (wScale wt n 3)))
  s := p8 A.s r (newS (w8 A.m r) (w8 A.s r) (logit at' r 0 (w8 tT r) (wScale wt n 0)) (logit at' r 1 (w8 tT r) (wScale wt n 1)) (logit at' r 2 (w8 tT r) (wScale wt n 2)) (logit at' r 3 (w8 tT r) (wScale wt n 3)))
  a := p8 A.a r (newA (w8 A.m r) (w8 A.a r) (logit at' r 0 (w8 tT r) (wScale wt n 0)) (logit at' r 1 (w8 tT r) (wScale wt n 1)) (logit at' r 2 (w8 tT r) (wScale wt n 2)) (logit at' r 3 (w8 tT r) (wScale wt n 3))
    (logit as' r 0 (w8 tS r) (wScale ws n 0)) (logit as' r 1 (w8 tS r) (wScale ws n 1)) (logit as' r 2 (w8 tS r) (wScale ws n 2)) (logit as' r 3 (w8 tS r) (wScale ws n 3)))
  ms := p8 A.ms r (newM (w8 A.ms r) (logit as' r 0 (w8 tS r) (wScale ws n 0)) (logit as' r 1 (w8 tS r) (wScale ws n 1)) (logit as' r 2 (w8 tS r) (wScale ws n 2)) (logit as' r 3 (w8 tS r) (wScale ws n 3)))
  ss := p8 A.ss r (newS (w8 A.ms r) (w8 A.ss r) (logit as' r 0 (w8 tS r) (wScale ws n 0)) (logit as' r 1 (w8 tS r) (wScale ws n 1)) (logit as' r 2 (w8 tS r) (wScale ws n 2)) (logit as' r 3 (w8 tS r) (wScale ws n 3)))

theorem ld8_wp {c : Dev nD} {E : Set ℕ} {Q : PUnit → sProp 𝕄} {m : Memref sig .tc .vmem S256x128 .f32} {r : Fin 32} {x : Vec F S256x128 .f32} {k : Vec F S8x128 .f32 → P F PUnit} :
    (at_ c m x : sProp 𝕄) ⊢ iprop((at_ c m x -∗ W c E (k (w8 x r)) Q) -∗ W c E (ld8 m r >>= k) Q) := ld
theorem ldScale_wp {c : Dev nD} {E : Set ℕ} {Q : PUnit → sProp 𝕄} {m : Memref sig .tc .vmem S1x1024 .f32} {n : Fin 2} {l : Fin 4} {x : Vec F S1x1024 .f32} {k : Vec F S1x128 .f32 → P F PUnit} :
    (at_ c m x : sProp 𝕄) ⊢ iprop((at_ c m x -∗ W c E (k (wScale x n l)) Q) -∗ W c E (ldScale m n l >>= k) Q) := ld
theorem st8_wp {c : Dev nD} {E : Set ℕ} {Q : PUnit → sProp 𝕄} {m : Memref sig .tc .vmem S256x128 .f32} {r : Fin 32} {x : Vec F S256x128 .f32} {v : FVec F S8x128 .f32} {k : PUnit → P F PUnit} :
    (at_ c m x : sProp 𝕄) ⊢ iprop((at_ c m (p8 x r v) -∗ W c E (k ⟨⟩) Q) -∗ W c E (st8 m r v >>= k) Q) := by
  unfold st8
  rw [bind_assoc]
  iintro H Hk
  iapply ld8_wp $$ H
  iintro H
  iapply st $$ H
  iexact Hk

/-- The five arrays held. -/
def accs (c : Dev nD) (arg19 arg20 arg21 arg22 arg23 : Memref sig .tc .vmem S256x128 .f32) (A : Acc F) : sProp 𝕄 :=
  iprop(at_ c arg19 A.m ∗ at_ c arg20 A.s ∗ at_ c arg21 A.a ∗ at_ c arg22 A.ms ∗ at_ c arg23 A.ss)

/-- The scales held. -/
def scales (c : Dev nD) (arg4 arg6 : Memref sig .tc .vmem S1x1024 .f32) (arg17 arg18 : Memref sig .tc .vmem S256x128 .f32)
    (wt ws : Vec F S1x1024 .f32) (tT tS : Vec F S256x128 .f32) : sProp 𝕄 :=
  iprop(at_ c arg4 wt ∗ at_ c arg6 ws ∗ at_ c arg17 tT ∗ at_ c arg18 tS)

theorem rowBlk_wp {c : Dev nD} {E : Set ℕ} {Q : PUnit → sProp 𝕄} {arg4 arg6 : Memref sig .tc .vmem S1x1024 .f32} {arg17 arg18 arg19 arg20 arg21 arg22 arg23 : Memref sig .tc .vmem S256x128 .f32}
    {wt ws : Vec F S1x1024 .f32} {tT tS : Vec F S256x128 .f32} {n : Fin 2} {at' as' : FVec F S256x512 .f32} (r : Fin 32) (A : Acc F) (k : PUnit → P F PUnit) :
    iprop(scales c arg4 arg6 arg17 arg18 wt ws tT tS ∗ accs c arg19 arg20 arg21 arg22 arg23 A)
      ⊢ iprop((iprop(scales c arg4 arg6 arg17 arg18 wt ws tT tS ∗ accs c arg19 arg20 arg21 arg22 arg23 (rowStep wt ws tT tS n at' as' r A)) -∗ W c E (k ⟨⟩) Q)
        -∗ W c E (rowBlk arg4 arg6 arg17 arg18 arg19 arg20 arg21 arg22 arg23 n at' as' r >>= k) Q) := by
  unfold rowBlk scales accs
  simp only [bind_assoc]
  iintro ⟨⟨H4, H6, H17, H18⟩, H19, H20, H21, H22, H23⟩ Hk
  iapply ld8_wp $$ H17; iintro H17
  iapply ld8_wp $$ H18; iintro H18
  iapply ldScale_wp $$ H4; iintro H4
  iapply ldScale_wp $$ H6; iintro H6
  iapply ldScale_wp $$ H4; iintro H4
  iapply ldScale_wp $$ H6; iintro H6
  iapply ldScale_wp $$ H4; iintro H4
  iapply ldScale_wp $$ H6; iintro H6
  iapply ldScale_wp $$ H4; iintro H4
  iapply ldScale_wp $$ H6; iintro H6
  iapply ld8_wp $$ H19; iintro H19
  iapply ld8_wp $$ H22; iintro H22
  iapply ld8_wp $$ H20; iintro H20
  iapply ld8_wp $$ H21; iintro H21
  iapply ld8_wp $$ H23; iintro H23
  iapply st8_wp $$ H19; iintro H19
  iapply st8_wp $$ H22; iintro H22
  iapply st8_wp $$ H20; iintro H20
  iapply st8_wp $$ H21; iintro H21
  iapply st8_wp $$ H23; iintro H23
  iapply Hk
  isplitl [H4 H6 H17 H18]
  · isplitl [H4]; · iexact H4
    isplitl [H6]; · iexact H6
    isplitl [H17]; · iexact H17
    iexact H18
  isplitl [H19]; · iexact H19
  isplitl [H20]; · iexact H20
  isplitl [H21]; · iexact H21
  isplitl [H22]; · iexact H22
  iexact H23

/-- Half a tile. -/
def halfStep (ct : Vec F S256x2560 .fp8e4m3) (cs : Vec F S256x1152 .fp8e4m3) (w : Vec F S1024x2560 .fp8e4m3) (u : Vec F S1024x1152 .fp8e4m3)
    (wt ws : Vec F S1x1024 .f32) (tT tS : Vec F S256x128 .f32) (n : Fin 2) (A : Acc F) : Acc F :=
  iter (rowStep wt ws tT tS n (accT ct (window w ![512 * n.val, 0] S512x2560.size (inbWT n))) (accS cs (window u ![512 * n.val, 0] S512x1152.size (inbWS n)))) A 32

/-- The weights held. -/
def weights (c : Dev nD) (arg3 : Memref sig .tc .vmem S1024x2560 .fp8e4m3) (arg5 : Memref sig .tc .vmem S1024x1152 .fp8e4m3)
    (w : Vec F S1024x2560 .fp8e4m3) (u : Vec F S1024x1152 .fp8e4m3) : sProp 𝕄 := iprop(at_ c arg3 w ∗ at_ c arg5 u)

/-- The codes held. -/
def codes (c : Dev nD) (arg13 : Memref sig .tc .vmem S256x2560 .fp8e4m3) (arg15 : Memref sig .tc .vmem S256x1152 .fp8e4m3)
    (ct : Vec F S256x2560 .fp8e4m3) (cs : Vec F S256x1152 .fp8e4m3) : sProp 𝕄 := iprop(at_ c arg13 ct ∗ at_ c arg15 cs)

theorem half_wp {c : Dev nD} {E : Set ℕ} {Q : PUnit → sProp 𝕄} {arg3 : Memref sig .tc .vmem S1024x2560 .fp8e4m3} {arg5 : Memref sig .tc .vmem S1024x1152 .fp8e4m3}
    {arg4 arg6 : Memref sig .tc .vmem S1x1024 .f32} {arg13 : Memref sig .tc .vmem S256x2560 .fp8e4m3} {arg15 : Memref sig .tc .vmem S256x1152 .fp8e4m3}
    {arg17 arg18 arg19 arg20 arg21 arg22 arg23 : Memref sig .tc .vmem S256x128 .f32} {w : Vec F S1024x2560 .fp8e4m3} {u : Vec F S1024x1152 .fp8e4m3}
    {wt ws : Vec F S1x1024 .f32} {tT tS : Vec F S256x128 .f32} {ct : Vec F S256x2560 .fp8e4m3} {cs : Vec F S256x1152 .fp8e4m3} (n : Fin 2) (A : Acc F) (k : PUnit → P F PUnit) :
    iprop(weights c arg3 arg5 w u ∗ codes c arg13 arg15 ct cs ∗ scales c arg4 arg6 arg17 arg18 wt ws tT tS ∗ accs c arg19 arg20 arg21 arg22 arg23 A)
      ⊢ iprop((iprop(weights c arg3 arg5 w u ∗ codes c arg13 arg15 ct cs ∗ scales c arg4 arg6 arg17 arg18 wt ws tT tS ∗ accs c arg19 arg20 arg21 arg22 arg23 (halfStep ct cs w u wt ws tT tS n A)) -∗ W c E (k ⟨⟩) Q)
        -∗ W c E (half arg3 arg4 arg5 arg6 arg13 arg15 arg17 arg18 arg19 arg20 arg21 arg22 arg23 n >>= k) Q) := by
  unfold half weights codes
  simp only [bind_assoc]
  iintro ⟨⟨H3, H5⟩, ⟨H13, H15⟩, Hs, Ha⟩ Hk
  iapply ldAll $$ H13; iintro H13
  iapply ld $$ H3; iintro H3
  iapply ldAll $$ H15; iintro H15
  iapply ld $$ H5; iintro H5
  iapply (each_wp (fun r => iprop(scales c arg4 arg6 arg17 arg18 wt ws tT tS ∗ accs c arg19 arg20 arg21 arg22 arg23
      (iter (rowStep wt ws tT tS n (accT ct (window w ![512 * n.val, 0] S512x2560.size (inbWT n))) (accS cs (window u ![512 * n.val, 0] S512x1152.size (inbWS n)))) A r)))
      (fun r k => by rw [iter_succ]; exact rowBlk_wp r _ k)) $$ [Hs Ha]
  · isplitl [Hs]; · iexact Hs
    iexact Ha
  iintro ⟨Hs, Ha⟩
  iapply Hk
  isplitl [H3 H5]
  · isplitl [H3]; · iexact H3
    iexact H5
  isplitl [H13 H15]
  · isplitl [H13]; · iexact H13
    iexact H15
  isplitl [Hs]; · iexact Hs
  iexact Ha

/-! ### The reset -/

def resetAcc : Acc F := ⟨negInf, zeros, zeros, negInf, zeros⟩

theorem fill_wp {c : Dev nD} {E : Set ℕ} {Q : PUnit → sProp 𝕄} {m : Memref sig .tc .vmem S256x128 .f32} {x : Vec F S256x128 .f32} {v : FVec F S256x128 .f32} {k : PUnit → P F PUnit} :
    (at_ c m x : sProp 𝕄) ⊢ iprop((at_ c m (v : Vec F S256x128 .f32) -∗ W c E (k ⟨⟩) Q) -∗ W c E (fill m v >>= k) Q) := by
  unfold fill
  rw [bind_assoc]
  iintro H Hk
  iapply ldAll $$ H
  iintro H
  iapply stAll $$ H
  iexact Hk

theorem condR_wp {c : Dev nD} {E : Set ℕ} {Q : PUnit → sProp 𝕄} {arg19 arg20 arg21 arg22 arg23 : Memref sig .tc .vmem S256x128 .f32} (i : grid0.Coords) (A : Acc F) (k : PUnit → P F PUnit) :
    accs c arg19 arg20 arg21 arg22 arg23 A ⊢ iprop((accs c arg19 arg20 arg21 arg22 arg23 (if atStart i = 1#1 then resetAcc else A) -∗ W c E (k ⟨⟩) Q)
        -∗ W c E (condR i arg19 arg20 arg21 arg22 arg23 >>= k) Q) := by
  unfold condR
  by_cases h : atStart i = 1#1
  · rw [dif_pos h, if_pos h]
    unfold accs reset
    simp only [bind_assoc]
    iintro ⟨H19, H20, H21, H22, H23⟩ Hk
    iapply fill_wp $$ H19; iintro H19
    iapply fill_wp $$ H22; iintro H22
    iapply fill_wp $$ H20; iintro H20
    iapply fill_wp $$ H21; iintro H21
    iapply fill_wp $$ H23; iintro H23
    iapply Hk
    isplitl [H19]; · iexact H19
    isplitl [H20]; · iexact H20
    isplitl [H21]; · iexact H21
    isplitl [H22]; · iexact H22
    iexact H23
  · rw [dif_neg h, if_neg h]
    iintro H Hk
    iapply Hk
    iexact H

/-! ### The quantiser -/

/-- The teacher's codes, scales and scaled scales; -/
structure QT (F : FTy → Type) where
  ct : Vec F S256x2560 .fp8e4m3
  st : Vec F S256x1 .f32
  tT : Vec F S256x128 .f32
/-- the student's. -/
structure QS (F : FTy → Type) where
  cs : Vec F S256x1152 .fp8e4m3
  ss : Vec F S256x1 .f32
  tS : Vec F S256x128 .f32

def rowsT (h : Vec F S256x2560 .bf16) (r : Fin 8) : Vec F S32x2560 .bf16 := window h ![32 * r.val, 0] S32x2560.size (inbT r)
def rowsS (h : Vec F S256x1152 .bf16) (r : Fin 8) : Vec F S32x1152 .bf16 := window h ![32 * r.val, 0] S32x1152.size (inbS r)

def quantStepT (h : Vec F S256x2560 .bf16) (r : Fin 8) (X : QT F) : QT F where
  ct := put X.ct ![32 * r.val, 0] S32x2560.size (codesT (rowsT h r))
  st := put X.st ![32 * r.val, 0] S32x1.size (qScale (aT (rowsT h r)))
  tT := put X.tT ![32 * r.val, 0] S32x128.size (qTok (qScale (aT (rowsT h r))))
def quantStepS (h : Vec F S256x1152 .bf16) (r : Fin 8) (X : QS F) : QS F where
  cs := put X.cs ![32 * r.val, 0] S32x1152.size (codesS (rowsS h r))
  ss := put X.ss ![32 * r.val, 0] S32x1.size (qScale (aS (rowsS h r)))
  tS := put X.tS ![32 * r.val, 0] S32x128.size (qTok (qScale (aS (rowsS h r))))

def heldT (c : Dev nD) (arg13 : Memref sig .tc .vmem S256x2560 .fp8e4m3) (arg14 : Memref sig .tc .vmem S256x1 .f32) (arg17 : Memref sig .tc .vmem S256x128 .f32) (X : QT F) : sProp 𝕄 :=
  iprop(at_ c arg13 X.ct ∗ at_ c arg14 X.st ∗ at_ c arg17 X.tT)
def heldS (c : Dev nD) (arg15 : Memref sig .tc .vmem S256x1152 .fp8e4m3) (arg16 : Memref sig .tc .vmem S256x1 .f32) (arg18 : Memref sig .tc .vmem S256x128 .f32) (X : QS F) : sProp 𝕄 :=
  iprop(at_ c arg15 X.cs ∗ at_ c arg16 X.ss ∗ at_ c arg18 X.tS)

theorem quantT_wp {c : Dev nD} {E : Set ℕ} {Q : PUnit → sProp 𝕄} {arg1 : Memref sig .tc .vmem S256x2560 .bf16} {arg13 : Memref sig .tc .vmem S256x2560 .fp8e4m3} {harg13 : arg13.IsWhole}
    {arg14 : Memref sig .tc .vmem S256x1 .f32} {arg17 : Memref sig .tc .vmem S256x128 .f32} {h : Vec F S256x2560 .bf16} (r : Fin 8) (X : QT F) (k : PUnit → P F PUnit) :
    iprop(at_ c arg1 h ∗ heldT c arg13 arg14 arg17 X)
      ⊢ iprop((iprop(at_ c arg1 h ∗ heldT c arg13 arg14 arg17 (quantStepT h r X)) -∗ W c E (k ⟨⟩) Q)
        -∗ W c E (quantT arg1 arg13 harg13 arg14 arg17 r >>= k) Q) := by
  unfold quantT heldT
  simp only [bind_assoc]
  iintro ⟨H1, H13, H14, H17⟩ Hk
  iapply ld $$ H1; iintro H1
  iapply ld $$ H13; iintro H13
  iapply st $$ H13; iintro H13
  iapply ld $$ H14; iintro H14
  iapply st $$ H14; iintro H14
  iapply ld $$ H17; iintro H17
  iapply st $$ H17; iintro H17
  iapply Hk
  isplitl [H1]; · iexact H1
  isplitl [H13]; · iexact H13
  isplitl [H14]; · iexact H14
  iexact H17

theorem quantS_wp {c : Dev nD} {E : Set ℕ} {Q : PUnit → sProp 𝕄} {arg2 : Memref sig .tc .vmem S256x1152 .bf16} {arg15 : Memref sig .tc .vmem S256x1152 .fp8e4m3} {harg15 : arg15.IsWhole}
    {arg16 : Memref sig .tc .vmem S256x1 .f32} {arg18 : Memref sig .tc .vmem S256x128 .f32} {h : Vec F S256x1152 .bf16} (r : Fin 8) (X : QS F) (k : PUnit → P F PUnit) :
    iprop(at_ c arg2 h ∗ heldS c arg15 arg16 arg18 X)
      ⊢ iprop((iprop(at_ c arg2 h ∗ heldS c arg15 arg16 arg18 (quantStepS h r X)) -∗ W c E (k ⟨⟩) Q)
        -∗ W c E (quantS arg2 arg15 harg15 arg16 arg18 r >>= k) Q) := by
  unfold quantS heldS
  simp only [bind_assoc]
  iintro ⟨H1, H13, H14, H17⟩ Hk
  iapply ld $$ H1; iintro H1
  iapply ld $$ H13; iintro H13
  iapply st $$ H13; iintro H13
  iapply ld $$ H14; iintro H14
  iapply st $$ H14; iintro H14
  iapply ld $$ H17; iintro H17
  iapply st $$ H17; iintro H17
  iapply Hk
  isplitl [H1]; · iexact H1
  isplitl [H13]; · iexact H13
  isplitl [H14]; · iexact H14
  iexact H17

theorem condQ_wp {c : Dev nD} {E : Set ℕ} {Q : PUnit → sProp 𝕄} {arg1 : Memref sig .tc .vmem S256x2560 .bf16} {arg2 : Memref sig .tc .vmem S256x1152 .bf16}
    {arg13 : Memref sig .tc .vmem S256x2560 .fp8e4m3} {harg13 : arg13.IsWhole} {arg14 : Memref sig .tc .vmem S256x1 .f32}
    {arg15 : Memref sig .tc .vmem S256x1152 .fp8e4m3} {harg15 : arg15.IsWhole} {arg16 : Memref sig .tc .vmem S256x1 .f32}
    {arg17 arg18 : Memref sig .tc .vmem S256x128 .f32} {h1 : Vec F S256x2560 .bf16} {h2 : Vec F S256x1152 .bf16}
    (i : grid0.Coords) (X : QT F) (Y : QS F) (k : PUnit → P F PUnit) :
    iprop(at_ c arg1 h1 ∗ at_ c arg2 h2 ∗ heldT c arg13 arg14 arg17 X ∗ heldS c arg15 arg16 arg18 Y)
      ⊢ iprop((iprop(at_ c arg1 h1 ∗ at_ c arg2 h2 ∗ heldT c arg13 arg14 arg17 (if k0_cond1 i = 1#1 then iter (quantStepT h1) X 8 else X)
          ∗ heldS c arg15 arg16 arg18 (if k0_cond1 i = 1#1 then iter (quantStepS h2) Y 8 else Y)) -∗ W c E (k ⟨⟩) Q)
        -∗ W c E (condQ i arg1 arg2 arg13 harg13 arg14 arg15 harg15 arg16 arg17 arg18 >>= k) Q) := by
  unfold condQ
  by_cases h : k0_cond1 i = 1#1
  · rw [dif_pos h, if_pos h, if_pos h]
    unfold quant
    rw [bind_assoc]
    iintro ⟨H1, H2, HX, HY⟩ Hk
    iapply (each_wp (fun r => iprop(at_ c arg1 h1 ∗ heldT c arg13 arg14 arg17 (iter (quantStepT h1) X r)))
      (fun r k => by rw [iter_succ]; exact quantT_wp r _ k)) $$ [H1 HX]
    · isplitl [H1]; · iexact H1
      iexact HX
    iintro ⟨H1, HX⟩
    iapply (each_wp (fun r => iprop(at_ c arg2 h2 ∗ heldS c arg15 arg16 arg18 (iter (quantStepS h2) Y r)))
      (fun r k => by rw [iter_succ]; exact quantS_wp r _ k)) $$ [H2 HY]
    · isplitl [H2]; · iexact H2
      iexact HY
    iintro ⟨H2, HY⟩
    iapply Hk
    isplitl [H1]; · iexact H1
    isplitl [H2]; · iexact H2
    isplitl [HX]; · iexact HX
    iexact HY
  · rw [dif_neg h, if_neg h, if_neg h]
    iintro H Hk
    iapply Hk
    iexact H

/-! ### A shard's end -/

def w64 (x : Vec F S256x128 .f32) (r : Fin 4) : Vec F S64x128 .f32 := window x ![64 * r.val, 0] S64x128.size (inb64 r)
def planeStep (q : Fin 3) (r : Fin 4) (k : BitVec 32) (v : FVec F S64x1 .f32) (x : Vec F S3x256x128 .f32) : Vec F S3x256x128 .f32 :=
  put x ![q.val, 64 * r.val, 0] S1x64x128.size (putCol k v (window x ![q.val, 64 * r.val, 0] S1x64x128.size (inbCols q r)))
def endStep (A : Acc F) (k : BitVec 32) (r : Fin 4) (x : Vec F S3x256x128 .f32) : Vec F S3x256x128 .f32 :=
  planeStep 2 r k (quotCol (rowSum (w64 A.m r) (w64 A.m r) (w64 A.a r)) (rowSum (w64 A.m r) (w64 A.m r) (w64 A.s r)))
    (planeStep 1 r k (lseCol (rowMax (w64 A.ms r)) (rowSum (w64 A.ms r) (w64 A.ms r) (w64 A.ss r)))
      (planeStep 0 r k (lseCol (rowMax (w64 A.m r)) (rowSum (w64 A.m r) (w64 A.m r) (w64 A.s r))) x))

theorem ld64_wp {c : Dev nD} {E : Set ℕ} {Q : PUnit → sProp 𝕄} {m : Memref sig .tc .vmem S256x128 .f32} {r : Fin 4} {x : Vec F S256x128 .f32} {k : Vec F S64x128 .f32 → P F PUnit} :
    (at_ c m x : sProp 𝕄) ⊢ iprop((at_ c m x -∗ W c E (k (w64 x r)) Q) -∗ W c E (ld64 m r >>= k) Q) := ld
theorem putPlane_wp {c : Dev nD} {E : Set ℕ} {Q : PUnit → sProp 𝕄} {m : Memref sig .tc .vmem S3x256x128 .f32} {q : Fin 3} {r : Fin 4} {l : BitVec 32} {v : FVec F S64x1 .f32} {x : Vec F S3x256x128 .f32} {k : PUnit → P F PUnit} :
    (at_ c m x : sProp 𝕄) ⊢ iprop((at_ c m (planeStep q r l v x) -∗ W c E (k ⟨⟩) Q) -∗ W c E (putPlane m q r l v >>= k) Q) := by
  unfold putPlane
  simp only [bind_assoc]
  iintro H Hk
  iapply ld $$ H; iintro H
  iapply ld $$ H; iintro H
  iapply st $$ H
  iexact Hk

theorem endBlk_wp {c : Dev nD} {E : Set ℕ} {Q : PUnit → sProp 𝕄} {arg19 arg20 arg21 arg22 arg23 : Memref sig .tc .vmem S256x128 .f32} {arg24 : Memref sig .tc .vmem S3x256x128 .f32} {A : Acc F} {l : BitVec 32}
    (r : Fin 4) (x : Vec F S3x256x128 .f32) (k : PUnit → P F PUnit) :
    iprop(accs c arg19 arg20 arg21 arg22 arg23 A ∗ at_ c arg24 x)
      ⊢ iprop((iprop(accs c arg19 arg20 arg21 arg22 arg23 A ∗ at_ c arg24 (endStep A l r x)) -∗ W c E (k ⟨⟩) Q) -∗ W c E (endBlk arg19 arg20 arg21 arg22 arg23 arg24 l r >>= k) Q) := by
  unfold endBlk accs
  simp only [bind_assoc]
  iintro ⟨⟨H19, H20, H21, H22, H23⟩, H⟩ Hk
  iapply ld64_wp $$ H19; iintro H19
  iapply ld64_wp $$ H19; iintro H19
  iapply ld64_wp $$ H20; iintro H20
  iapply ld64_wp $$ H21; iintro H21
  iapply ld64_wp $$ H22; iintro H22
  iapply ld64_wp $$ H23; iintro H23
  iapply ld64_wp $$ H22; iintro H22
  iapply putPlane_wp $$ H; iintro H
  iapply putPlane_wp $$ H; iintro H
  iapply putPlane_wp $$ H; iintro H
  iapply Hk
  isplitr [H]
  · isplitl [H19]; · iexact H19
    isplitl [H20]; · iexact H20
    isplitl [H21]; · iexact H21
    isplitl [H22]; · iexact H22
    iexact H23
  iexact H

/-- The columns after a step. -/
def endCols (i : grid0.Coords) (A : Acc F) (x : Vec F S3x256x128 .f32) : Vec F S3x256x128 .f32 :=
  if atEnd i = 1#1 then iter (endStep A (shardOf (BitVec.ofNat 32 (i 0).val))) x 4 else x

theorem condE_wp {c : Dev nD} {E : Set ℕ} {Q : PUnit → sProp 𝕄} {arg19 arg20 arg21 arg22 arg23 : Memref sig .tc .vmem S256x128 .f32} {arg24 : Memref sig .tc .vmem S3x256x128 .f32} {A : Acc F}
    (i : grid0.Coords) (x : Vec F S3x256x128 .f32) (k : PUnit → P F PUnit) :
    iprop(accs c arg19 arg20 arg21 arg22 arg23 A ∗ at_ c arg24 x)
      ⊢ iprop((iprop(accs c arg19 arg20 arg21 arg22 arg23 A ∗ at_ c arg24 (endCols i A x)) -∗ W c E (k ⟨⟩) Q) -∗ W c E (condE i arg19 arg20 arg21 arg22 arg23 arg24 >>= k) Q) := by
  unfold condE endCols
  by_cases h : atEnd i = 1#1
  · rw [dif_pos h, if_pos h]
    exact each_wp (fun r => iprop(accs c arg19 arg20 arg21 arg22 arg23 A ∗ at_ c arg24 (iter (endStep A (shardOf (BitVec.ofNat 32 (i 0).val))) x r)))
      (fun r k => by rw [iter_succ]; exact endBlk_wp r _ k) k
  · rw [dif_neg h, if_neg h]
    iintro H Hk
    iapply Hk
    iexact H

/-! ### The results -/

/-- The six results written at the last step. -/
structure Out (F : FTy → Type) where
  kl : Vec F S256x1 .f32
  lt : Vec F S256x1 .f32
  ls : Vec F S256x1 .f32
  sht : Vec F S256x4 .f32
  shs : Vec F S256x4 .f32
  sha : Vec F S256x4 .f32

def plane (x : Vec F S3x256x128 .f32) (q : Fin 3) : FVec F S256x4 .f32 := head (window x ![q.val, 0, 0] S1x256x4.size (inbHead q))
def lastOut (x : Vec F S3x256x128 .f32) : Out F where
  kl := klOf (plane x 0) (plane x 1) (plane x 2)
  lt := lessVocab (lseSh (plane x 0))
  ls := lessVocab (lseSh (plane x 1))
  sht := lessShard (plane x 0)
  shs := lessShard (plane x 1)
  sha := plane x 2

def heldO (c : Dev nD) (arg7 arg8 arg9 : Memref sig .tc .vmem S256x1 .f32) (arg10 arg11 arg12 : Memref sig .tc .vmem S256x4 .f32) (O : Out F) : sProp 𝕄 :=
  iprop(at_ c arg7 O.kl ∗ at_ c arg8 O.lt ∗ at_ c arg9 O.ls ∗ at_ c arg10 O.sht ∗ at_ c arg11 O.shs ∗ at_ c arg12 O.sha)

theorem setSh_wp {c : Dev nD} {E : Set ℕ} {Q : PUnit → sProp 𝕄} {m : Memref sig .tc .vmem S256x4 .f32} {x : Vec F S256x4 .f32} {v : FVec F S256x4 .f32} {k : PUnit → P F PUnit} :
    (at_ c m x : sProp 𝕄) ⊢ iprop((at_ c m (v : Vec F S256x4 .f32) -∗ W c E (k ⟨⟩) Q) -∗ W c E (setSh m v >>= k) Q) := by
  unfold setSh
  rw [bind_assoc]
  iintro H Hk
  iapply ldAll $$ H
  iintro H
  iapply stAll $$ H
  iexact Hk
theorem setCol_wp {c : Dev nD} {E : Set ℕ} {Q : PUnit → sProp 𝕄} {m : Memref sig .tc .vmem S256x1 .f32} {x : Vec F S256x1 .f32} {v : FVec F S256x1 .f32} {k : PUnit → P F PUnit} :
    (at_ c m x : sProp 𝕄) ⊢ iprop((at_ c m (v : Vec F S256x1 .f32) -∗ W c E (k ⟨⟩) Q) -∗ W c E (setCol m v >>= k) Q) := by
  unfold setCol
  rw [bind_assoc]
  iintro H Hk
  iapply ldAll $$ H
  iintro H
  iapply stAll $$ H
  iexact Hk
theorem ldHead_wp {c : Dev nD} {E : Set ℕ} {Q : PUnit → sProp 𝕄} {m : Memref sig .tc .vmem S3x256x128 .f32} {q : Fin 3} {x : Vec F S3x256x128 .f32} {k : Vec F S1x256x4 .f32 → P F PUnit} :
    (at_ c m x : sProp 𝕄) ⊢ iprop((at_ c m x -∗ W c E (k (window x ![q.val, 0, 0] S1x256x4.size (inbHead q))) Q) -∗ W c E (ldHead m q >>= k) Q) := ld

theorem condL_wp {c : Dev nD} {E : Set ℕ} {Q : PUnit → sProp 𝕄} {arg7 arg8 arg9 : Memref sig .tc .vmem S256x1 .f32} {arg10 arg11 arg12 : Memref sig .tc .vmem S256x4 .f32}
    {arg24 : Memref sig .tc .vmem S3x256x128 .f32} (i : grid0.Coords) (x : Vec F S3x256x128 .f32) (O : Out F) (k : PUnit → P F PUnit) :
    iprop(at_ c arg24 x ∗ heldO c arg7 arg8 arg9 arg10 arg11 arg12 O)
      ⊢ iprop((iprop(at_ c arg24 x ∗ heldO c arg7 arg8 arg9 arg10 arg11 arg12 (if k0_cond4 i = 1#1 then lastOut x else O)) -∗ W c E (k ⟨⟩) Q)
        -∗ W c E (condL i arg7 arg8 arg9 arg10 arg11 arg12 arg24 >>= k) Q) := by
  unfold condL
  by_cases h : k0_cond4 i = 1#1
  · rw [dif_pos h, if_pos h]
    unfold last heldO
    simp only [bind_assoc]
    iintro ⟨H, H7, H8, H9, H10, H11, H12⟩ Hk
    iapply ldHead_wp $$ H; iintro H
    iapply ldHead_wp $$ H; iintro H
    iapply ldHead_wp $$ H; iintro H
    iapply setSh_wp $$ H10; iintro H10
    iapply setSh_wp $$ H11; iintro H11
    iapply setSh_wp $$ H12; iintro H12
    iapply setCol_wp $$ H7; iintro H7
    iapply setCol_wp $$ H8; iintro H8
    iapply setCol_wp $$ H9; iintro H9
    iapply Hk
    isplitl [H]; · iexact H
    isplitl [H7]; · iexact H7
    isplitl [H8]; · iexact H8
    isplitl [H9]; · iexact H9
    isplitl [H10]; · iexact H10
    isplitl [H11]; · iexact H11
    iexact H12
  · rw [dif_neg h, if_neg h]
    iintro H Hk
    iapply Hk
    iexact H

/-! ### The body -/

/-- What the body reads: the activations, and the step's tile of the weights and of their scales. -/
structure In (F : FTy → Type) where
  h1 : Vec F S256x2560 .bf16
  h2 : Vec F S256x1152 .bf16
  w : Vec F S1024x2560 .fp8e4m3
  wt : Vec F S1x1024 .f32
  u : Vec F S1024x1152 .fp8e4m3
  ws : Vec F S1x1024 .f32

def heldI (c : Dev nD) (arg1 : Memref sig .tc .vmem S256x2560 .bf16) (arg2 : Memref sig .tc .vmem S256x1152 .bf16)
    (arg3 : Memref sig .tc .vmem S1024x2560 .fp8e4m3) (arg4 : Memref sig .tc .vmem S1x1024 .f32) (arg5 : Memref sig .tc .vmem S1024x1152 .fp8e4m3) (arg6 : Memref sig .tc .vmem S1x1024 .f32)
    (I : In F) : sProp 𝕄 :=
  iprop(at_ c arg1 I.h1 ∗ at_ c arg2 I.h2 ∗ at_ c arg3 I.w ∗ at_ c arg4 I.wt ∗ at_ c arg5 I.u ∗ at_ c arg6 I.ws)

/-- What the body keeps from step to step. -/
structure St (F : FTy → Type) where
  X : QT F
  Y : QS F
  A : Acc F
  cols : Vec F S3x256x128 .f32

/-- The quantised activations after a step, -/
def stepX (i : grid0.Coords) (I : In F) (X : QT F) : QT F := if k0_cond1 i = 1#1 then iter (quantStepT I.h1) X 8 else X
def stepY (i : grid0.Coords) (I : In F) (Y : QS F) : QS F := if k0_cond1 i = 1#1 then iter (quantStepS I.h2) Y 8 else Y
/-- the running arrays, from the activations the step accumulates with, -/
def stepA (i : grid0.Coords) (I : In F) (X : QT F) (Y : QS F) (A : Acc F) : Acc F :=
  halfStep X.ct Y.cs I.w I.u I.wt I.ws X.tT Y.tS 1 (halfStep X.ct Y.cs I.w I.u I.wt I.ws X.tT Y.tS 0 (if atStart i = 1#1 then resetAcc else A))
/-- and all of it. -/
def stepSt (i : grid0.Coords) (I : In F) (S : St F) : St F where
  X := stepX i I S.X
  Y := stepY i I S.Y
  A := stepA i I (stepX i I S.X) (stepY i I S.Y) S.A
  cols := endCols i (stepA i I (stepX i I S.X) (stepY i I S.Y) S.A) S.cols
/-- The results after a step that left the columns at `x`. -/
def stepO (i : grid0.Coords) (x : Vec F S3x256x128 .f32) (O : Out F) : Out F := if k0_cond4 i = 1#1 then lastOut x else O

theorem body_wp {c : Dev nD} {E : Set ℕ} {Q : PUnit → sProp 𝕄} {arg1 : Memref sig .tc .vmem S256x2560 .bf16} {arg2 : Memref sig .tc .vmem S256x1152 .bf16}
    {arg3 : Memref sig .tc .vmem S1024x2560 .fp8e4m3} {arg4 : Memref sig .tc .vmem S1x1024 .f32} {arg5 : Memref sig .tc .vmem S1024x1152 .fp8e4m3} {arg6 : Memref sig .tc .vmem S1x1024 .f32}
    {arg7 arg8 arg9 : Memref sig .tc .vmem S256x1 .f32} {arg10 arg11 arg12 : Memref sig .tc .vmem S256x4 .f32}
    {arg13 : Memref sig .tc .vmem S256x2560 .fp8e4m3} {harg13 : arg13.IsWhole} {arg14 : Memref sig .tc .vmem S256x1 .f32}
    {arg15 : Memref sig .tc .vmem S256x1152 .fp8e4m3} {harg15 : arg15.IsWhole} {arg16 : Memref sig .tc .vmem S256x1 .f32}
    {arg17 arg18 arg19 arg20 arg21 arg22 arg23 : Memref sig .tc .vmem S256x128 .f32} {arg24 : Memref sig .tc .vmem S3x256x128 .f32}
    (i : grid0.Coords) (I : In F) (S : St F) (O : Out F) :
    iprop(heldI c arg1 arg2 arg3 arg4 arg5 arg6 I ∗ heldO c arg7 arg8 arg9 arg10 arg11 arg12 O ∗ heldT c arg13 arg14 arg17 S.X ∗ heldS c arg15 arg16 arg18 S.Y
        ∗ accs c arg19 arg20 arg21 arg22 arg23 S.A ∗ at_ c arg24 S.cols)
      ⊢ iprop((iprop(heldI c arg1 arg2 arg3 arg4 arg5 arg6 I ∗ heldO c arg7 arg8 arg9 arg10 arg11 arg12 (stepO i (stepSt i I S).cols O) ∗ heldT c arg13 arg14 arg17 (stepSt i I S).X
          ∗ heldS c arg15 arg16 arg18 (stepSt i I S).Y ∗ accs c arg19 arg20 arg21 arg22 arg23 (stepSt i I S).A ∗ at_ c arg24 (stepSt i I S).cols) -∗ Q ⟨⟩)
        -∗ W c E (body i arg1 arg2 arg3 arg4 arg5 arg6 arg7 arg8 arg9 arg10 arg11 arg12 arg13 harg13 arg14 arg15 harg15 arg16 arg17 arg18 arg19 arg20 arg21 arg22 arg23 arg24) Q) := by
  unfold body
  rw [← bind_pure (condL i arg7 arg8 arg9 arg10 arg11 arg12 arg24)]
  unfold heldI
  iintro ⟨⟨H1, H2, H3, H4, H5, H6⟩, HO, HX, HY, HA, HC⟩ Hk
  iapply (condQ_wp i S.X S.Y _) $$ [H1 H2 HX HY]
  · isplitl [H1]; · iexact H1
    isplitl [H2]; · iexact H2
    isplitl [HX]; · iexact HX
    iexact HY
  iintro ⟨H1, H2, HX, HY⟩
  iapply (condR_wp i S.A _) $$ HA; iintro HA
  unfold heldT heldS
  icases HX with ⟨H13, H14, H17⟩
  icases HY with ⟨H15, H16, H18⟩
  iapply (half_wp 0 _ _) $$ [H3 H5 H13 H15 H4 H6 H17 H18 HA]
  · unfold weights codes scales
    isplitl [H3 H5]
    · isplitl [H3]; · iexact H3
      iexact H5
    isplitl [H13 H15]
    · isplitl [H13]; · iexact H13
      iexact H15
    isplitl [H4 H6 H17 H18]
    · isplitl [H4]; · iexact H4
      isplitl [H6]; · iexact H6
      isplitl [H17]; · iexact H17
      iexact H18
    iexact HA
  iintro H
  iapply (half_wp 1 _ _) $$ H
  unfold weights codes scales
  iintro ⟨⟨H3, H5⟩, ⟨H13, H15⟩, ⟨H4, H6, H17, H18⟩, HA⟩
  iapply (condE_wp i S.cols _) $$ [HA HC]
  · isplitl [HA]; · iexact HA
    iexact HC
  iintro ⟨HA, HC⟩
  iapply (condL_wp i _ O _) $$ [HC HO]
  · isplitl [HC]; · iexact HC
    iexact HO
  iintro ⟨HC, HO⟩
  iapply (show Q ⟨⟩ ⊢ W c E (pure ⟨⟩) Q from fupd_intro)
  iapply Hk
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HO]; · iexact HO
  isplitl [H13 H14 H17]
  · isplitl [H13]; · iexact H13
    isplitl [H14]; · iexact H14
    iexact H17
  isplitl [H15 H16 H18]
  · isplitl [H15]; · iexact H15
    isplitl [H16]; · iexact H16
    iexact H18
  isplitl [HA]; · iexact HA
  iexact HC

end Cert.KernelIdeal.Body

end
-- ==== Proof.KernelIdeal.Conds.lean ====
/-
  The body's four conditions and its shard number, at each point of the grid.
-/
module

public import proofs.«01_k».proof.Proof.KernelIdeal.Spec

@[expose] public section

set_option maxRecDepth 16384

namespace Cert.KernelIdeal.Body

open Cert.KernelIdeal Cert.KernelIdeal.Gen
open Idealize.ShloMosaic

theorem place_all : ∀ n : Fin 128, placeOf (BitVec.ofNat 32 n.val) = BitVec.ofNat 32 (n.val % 32) := by decide
theorem shard_all : ∀ n : Fin 128, shardOf (BitVec.ofNat 32 n.val) = BitVec.ofNat 32 (n.val / 32) := by decide
theorem ne_eq_word : ∀ (a b : Fin 128), Scalar.cmpi .ne (Scalar.extui (Scalar.cmpi .eq (BitVec.ofNat 32 a.val) (BitVec.ofNat 32 b.val)) : BitVec 32) 0#32 = 1#1 ↔ a = b := by
  intro a b
  have h : (BitVec.ofNat 32 a.val = BitVec.ofNat 32 b.val) ↔ a = b :=
    ⟨fun h => by
      have := congrArg BitVec.toNat h
      rw [BitVec.toNat_ofNat, BitVec.toNat_ofNat, Nat.mod_eq_of_lt (by omega), Nat.mod_eq_of_lt (by omega)] at this
      exact Fin.ext this, fun h => by rw [h]⟩
  rw [← h]
  by_cases hh : BitVec.ofNat 32 a.val = BitVec.ofNat 32 b.val
  · rw [hh]
    have : Scalar.cmpi .eq (BitVec.ofNat 32 b.val) (BitVec.ofNat 32 b.val) = 1#1 := by
      show BitVec.ofBool (BitVec.ofNat 32 b.val == BitVec.ofNat 32 b.val) = 1#1
      rw [beq_self_eq_true]; rfl
    rw [this]; exact ⟨fun _ => rfl, fun _ => by decide⟩
  · have : Scalar.cmpi .eq (BitVec.ofNat 32 a.val) (BitVec.ofNat 32 b.val) = 0#1 := by
      show BitVec.ofBool (BitVec.ofNat 32 a.val == BitVec.ofNat 32 b.val) = 0#1
      rw [beq_eq_false_iff_ne.mpr hh]; rfl
    rw [this]
    exact ⟨fun h => absurd h (by decide), fun h => absurd h hh⟩

variable (i : grid0.Coords)

theorem coord_lt : (i 0).val < 128 := (i 0).isLt

theorem condQ_iff : k0_cond1 i = 1#1 ↔ (i 0).val = 0 := by
  have := ne_eq_word ⟨(i 0).val, coord_lt i⟩ ⟨0, by decide⟩
  exact this.trans ⟨fun h => congrArg Fin.val h, fun h => Fin.ext h⟩
theorem condL_iff : k0_cond4 i = 1#1 ↔ (i 0).val = 127 := by
  have := ne_eq_word ⟨(i 0).val, coord_lt i⟩ ⟨127, by decide⟩
  exact this.trans ⟨fun h => congrArg Fin.val h, fun h => Fin.ext h⟩
theorem atStart_iff : atStart i = 1#1 ↔ (i 0).val % 32 = 0 := by
  have := ne_eq_word ⟨(i 0).val % 32, by omega⟩ ⟨0, by decide⟩
  unfold atStart
  rw [place_all ⟨(i 0).val, coord_lt i⟩]
  exact this.trans ⟨fun h => congrArg Fin.val h, fun h => Fin.ext h⟩
theorem atEnd_iff : atEnd i = 1#1 ↔ (i 0).val % 32 = 31 := by
  have := ne_eq_word ⟨(i 0).val % 32, by omega⟩ ⟨31, by decide⟩
  unfold atEnd
  rw [place_all ⟨(i 0).val, coord_lt i⟩]
  exact this.trans ⟨fun h => congrArg Fin.val h, fun h => Fin.ext h⟩
theorem shardOf_eq : shardOf (BitVec.ofNat 32 (i 0).val) = BitVec.ofNat 32 ((i 0).val / 32) := shard_all ⟨(i 0).val, coord_lt i⟩

theorem coords_val (t : Fin cfg0.N) : (cfg0.grid.coords t 0).val = t.val := by
  revert t; decide

end Cert.KernelIdeal.Body
-- ==== Proof.KernelIdeal.State.lean ====
/-
  What the scratch arrays and the results hold after each step, as functions of what the steps read.
-/
module

public import proofs.«01_k».proof.Proof.KernelIdeal.Step
public import proofs.«01_k».proof.Proof.KernelIdeal.Conds

@[expose] public section

set_option maxRecDepth 16384

noncomputable section

namespace Cert.KernelIdeal.Body

open Cert.KernelIdeal Cert.KernelIdeal.Gen Cert.Common
open Idealize.ShloMosaic Idealize.ShloMosaic.VecWindow

variable {F : FTy → Type} [FloatOps F] [Named F]

/-! ### The quantised activations -/

/-- An index of a two-axis array in a block of rows. -/
abbrev InRows {R C : Nat} (b r : Nat) (y : (⟨2, ![R, C]⟩ : Shape).Idx) : Prop :=
  ∀ a, (![b * r, 0] : Fin 2 → ℕ) a ≤ (y a).val ∧ (y a).val < (![b * r, 0] : Fin 2 → ℕ) a + (![b, C] : Fin 2 → ℕ) a

theorem inRows {R C : Nat} (b r : Nat) (hb : 0 < b) (y : (⟨2, ![R, C]⟩ : Shape).Idx) (h : (y 0).val / b = r) : InRows b r y := by
  subst h
  intro a
  have h1 : b * ((y 0).val / b) ≤ (y 0).val := Nat.mul_div_le _ _
  have h2 : (y 0).val < b * ((y 0).val / b) + b := by have := Nat.lt_mul_div_succ (y 0).val hb; rw [Nat.mul_add, Nat.mul_one] at this; exact this
  have h3 : (y 1).val < C := (y 1).isLt
  match a with
  | ⟨0, _⟩ => exact ⟨h1, h2⟩
  | ⟨1, _⟩ => exact ⟨Nat.zero_le _, by show (y 1).val < 0 + C; omega⟩

theorem inRows_row {R C : Nat} (b r : Nat) (y : (⟨2, ![R, C]⟩ : Shape).Idx) (h : InRows b r y) : (y 0).val / b = r := by
  have h0 := h 0
  change b * r ≤ (y 0).val ∧ (y 0).val < b * r + b at h0
  refine Nat.div_eq_of_lt_le ?_ ?_
  · rw [Nat.mul_comm]; exact h0.1
  · rw [Nat.succ_mul, Nat.mul_comm r b]; exact h0.2

theorem rows_apart {n R C : Nat} (b : Nat) (r r' : Fin n) (y : (⟨2, ![R, C]⟩ : Shape).Idx) (h : InRows b r.val y) (h' : InRows b r'.val y) : r = r' :=
  Fin.ext ((inRows_row b _ y h).symm.trans (inRows_row b _ y h'))

variable (h : Vec F S256x2560 .bf16) (h' : Vec F S256x1152 .bf16)

theorem quantT_ct (X : QT F) (r : Fin 8) (y : S256x2560.Idx) (hy : InRows 32 r.val y) :
    (iter (quantStepT h) X 8).ct y = codesT (rowsT h r) (Rect.unitLocal (s := S256x2560) (off := ![32 * r.val, 0]) (size := S32x2560.size) y hy) :=
  iter_blocks (ι := Unit) (s := S256x2560) (fun _ X => X.ct) (quantStepT h) (fun r => ![32 * r.val, 0]) S32x2560.size (fun _ r _ => codesT (rowsT h r))
    (fun _ _ _ => rfl) (fun _ _ _ _ _ => rfl) (fun r r' y => rows_apart 32 r r' y) X r () y hy
theorem quantT_st (X : QT F) (r : Fin 8) (y : S256x1.Idx) (hy : InRows 32 r.val y) :
    (iter (quantStepT h) X 8).st y = qScale (aT (rowsT h r)) (Rect.unitLocal (s := S256x1) (off := ![32 * r.val, 0]) (size := S32x1.size) y hy) :=
  iter_blocks (ι := Unit) (s := S256x1) (fun _ X => X.st) (quantStepT h) (fun r => ![32 * r.val, 0]) S32x1.size (fun _ r _ => qScale (aT (rowsT h r)))
    (fun _ _ _ => rfl) (fun _ _ _ _ _ => rfl) (fun r r' y => rows_apart 32 r r' y) X r () y hy
theorem quantT_tT (X : QT F) (r : Fin 8) (y : S256x128.Idx) (hy : InRows 32 r.val y) :
    (iter (quantStepT h) X 8).tT y = qTok (qScale (aT (rowsT h r))) (Rect.unitLocal (s := S256x128) (off := ![32 * r.val, 0]) (size := S32x128.size) y hy) :=
  iter_blocks (ι := Unit) (s := S256x128) (fun _ X => X.tT) (quantStepT h) (fun r => ![32 * r.val, 0]) S32x128.size (fun _ r _ => qTok (qScale (aT (rowsT h r))))
    (fun _ _ _ => rfl) (fun _ _ _ _ _ => rfl) (fun r r' y => rows_apart 32 r r' y) X r () y hy
theorem quantS_cs (X : QS F) (r : Fin 8) (y : S256x1152.Idx) (hy : InRows 32 r.val y) :
    (iter (quantStepS h') X 8).cs y = codesS (rowsS h' r) (Rect.unitLocal (s := S256x1152) (off := ![32 * r.val, 0]) (size := S32x1152.size) y hy) :=
  iter_blocks (ι := Unit) (s := S256x1152) (fun _ X => X.cs) (quantStepS h') (fun r => ![32 * r.val, 0]) S32x1152.size (fun _ r _ => codesS (rowsS h' r))
    (fun _ _ _ => rfl) (fun _ _ _ _ _ => rfl) (fun r r' y => rows_apart 32 r r' y) X r () y hy
theorem quantS_ss (X : QS F) (r : Fin 8) (y : S256x1.Idx) (hy : InRows 32 r.val y) :
    (iter (quantStepS h') X 8).ss y = qScale (aS (rowsS h' r)) (Rect.unitLocal (s := S256x1) (off := ![32 * r.val, 0]) (size := S32x1.size) y hy) :=
  iter_blocks (ι := Unit) (s := S256x1) (fun _ X => X.ss) (quantStepS h') (fun r => ![32 * r.val, 0]) S32x1.size (fun _ r _ => qScale (aS (rowsS h' r)))
    (fun _ _ _ => rfl) (fun _ _ _ _ _ => rfl) (fun r r' y => rows_apart 32 r r' y) X r () y hy
theorem quantS_tS (X : QS F) (r : Fin 8) (y : S256x128.Idx) (hy : InRows 32 r.val y) :
    (iter (quantStepS h') X 8).tS y = qTok (qScale (aS (rowsS h' r))) (Rect.unitLocal (s := S256x128) (off := ![32 * r.val, 0]) (size := S32x128.size) y hy) :=
  iter_blocks (ι := Unit) (s := S256x128) (fun _ X => X.tS) (quantStepS h') (fun r => ![32 * r.val, 0]) S32x128.size (fun _ r _ => qTok (qScale (aS (rowsS h' r))))
    (fun _ _ _ => rfl) (fun _ _ _ _ _ => rfl) (fun r r' y => rows_apart 32 r r' y) X r () y hy

/-- The block of 32 rows an index lies in. -/
def blk {C : Nat} (y : (⟨2, ![256, C]⟩ : Shape).Idx) : Fin 8 := ⟨(y 0).val / 32, by have : (y 0).val < 256 := (y 0).isLt; omega⟩
theorem in_blk {C : Nat} (y : (⟨2, ![256, C]⟩ : Shape).Idx) : InRows 32 (blk y).val y := inRows 32 _ (by decide) y rfl

/-- The quantised activations, whatever was there before. -/
def qT : QT F := iter (quantStepT h) ⟨constant S256x2560 .fp8e4m3 0#8, constant S256x1 .f32 0#32, constant S256x128 .f32 0#32⟩ 8
def qS : QS F := iter (quantStepS h') ⟨constant S256x1152 .fp8e4m3 0#8, constant S256x1 .f32 0#32, constant S256x128 .f32 0#32⟩ 8

theorem QT.ext' {X X' : QT F} (h1 : X.ct = X'.ct) (h2 : X.st = X'.st) (h3 : X.tT = X'.tT) : X = X' := by cases X; cases X'; cases h1; cases h2; cases h3; rfl
theorem QS.ext' {X X' : QS F} (h1 : X.cs = X'.cs) (h2 : X.ss = X'.ss) (h3 : X.tS = X'.tS) : X = X' := by cases X; cases X'; cases h1; cases h2; cases h3; rfl

theorem qT_eq (X : QT F) : iter (quantStepT h) X 8 = qT h :=
  QT.ext' (funext fun y => (quantT_ct h X _ y (in_blk y)).trans (quantT_ct h _ _ y (in_blk y)).symm)
    (funext fun y => (quantT_st h X _ y (in_blk y)).trans (quantT_st h _ _ y (in_blk y)).symm)
    (funext fun y => (quantT_tT h X _ y (in_blk y)).trans (quantT_tT h _ _ y (in_blk y)).symm)
theorem qS_eq (X : QS F) : iter (quantStepS h') X 8 = qS h' :=
  QS.ext' (funext fun y => (quantS_cs h' X _ y (in_blk y)).trans (quantS_cs h' _ _ y (in_blk y)).symm)
    (funext fun y => (quantS_ss h' X _ y (in_blk y)).trans (quantS_ss h' _ _ y (in_blk y)).symm)
    (funext fun y => (quantS_tS h' X _ y (in_blk y)).trans (quantS_tS h' _ _ y (in_blk y)).symm)

/-! ### The columns -/

/-- What a shard's end writes for 64 rows: the two log-sum-exps and the mean difference. -/
def colVal (A : Acc F) (q : Fin 3) (r : Fin 4) : FVec F S64x1 .f32 :=
  match q with
  | 0 => lseCol (rowMax (w64 A.m r)) (rowSum (w64 A.m r) (w64 A.m r) (w64 A.s r))
  | 1 => lseCol (rowMax (w64 A.ms r)) (rowSum (w64 A.ms r) (w64 A.ms r) (w64 A.ss r))
  | 2 => quotCol (rowSum (w64 A.m r) (w64 A.m r) (w64 A.a r)) (rowSum (w64 A.m r) (w64 A.m r) (w64 A.s r))

end Cert.KernelIdeal.Body
-- ==== Proof.KernelIdeal.Cols.lean ====
/-
  The columns scratch after each shard's end.
-/
module

public import proofs.«01_k».proof.Proof.KernelIdeal.State
public import Idealize.ShloMosaic.Lib.PointwiseCore
public import Idealize.ShloMosaic.Lib.WordCmp

@[expose] public section

set_option maxRecDepth 16384

noncomputable section

namespace Cert.KernelIdeal.Body

open Cert.KernelIdeal Cert.KernelIdeal.Gen Cert.Common
open Idealize.ShloMosaic Idealize.ShloMosaic.VecWindow

variable {F : FTy → Type} [FloatOps F] [Named F]

theorem putCol_apply (k : Nat) (hk : k < 128) (v : FVec F S64x1 .f32) (old : Vec F S1x64x128 .f32) (b : Fin 64) (c : Fin 128) :
    putCol (BitVec.ofNat 32 k) v old (ix3 0 b c) = if c.val = k then v (ix2 b 0) else old (ix3 0 b c) := by
  pointwise [putCol]
  by_cases h : c.val = k
  · subst h
    rw [if_pos rfl]
    have : IntOp.cmpi .eq (BitVec.ofNat 32 c.val) (BitVec.ofNat 32 c.val) = 1#1 := by rw [WordCmp.cmpi_eq_ofNat_eq_one_iff (by omega) (by omega)]
    rw [this]; rfl
  · rw [if_neg h]
    have : IntOp.cmpi .eq (BitVec.ofNat 32 c.val) (BitVec.ofNat 32 k) = 0#1 := by rw [WordCmp.cmpi_eq_ofNat_eq_zero_iff (by omega) (by omega)]; exact h
    rw [this]; rfl

theorem planeStep_apply (q : Fin 3) (r : Fin 4) (k : Nat) (hk : k < 128) (v : FVec F S64x1 .f32) (x : Vec F S3x256x128 .f32) (a : Fin 3) (b : Fin 256) (c : Fin 128) :
    planeStep q r (BitVec.ofNat 32 k) v x (ix3 a b c) = if a = q ∧ b.val / 64 = r.val ∧ c.val = k then v (ix2 ⟨b.val % 64, by omega⟩ 0) else x (ix3 a b c) := by
  unfold planeStep
  by_cases h : a = q ∧ b.val / 64 = r.val
  · obtain ⟨rfl, hb⟩ := h
    have hy : ∀ d, (![a.val, 64 * r.val, 0] : Fin 3 → ℕ) d ≤ (ix3 a b c d).val ∧ (ix3 a b c d).val < (![a.val, 64 * r.val, 0] : Fin 3 → ℕ) d + S1x64x128.size d := by
      intro d
      match d with
      | ⟨0, _⟩ => exact ⟨le_rfl, Nat.lt_succ_self _⟩
      | ⟨1, _⟩ => exact ⟨by show 64 * r.val ≤ b.val; omega, by show b.val < 64 * r.val + 64; omega⟩
      | ⟨2, _⟩ => exact ⟨Nat.zero_le _, by show c.val < 0 + 128; omega⟩
    rw [put_in _ _ _ _ _ hy]
    have e : (Rect.unitLocal (s := S3x256x128) (off := ![a.val, 64 * r.val, 0]) (size := S1x64x128.size) (ix3 a b c) hy) = ix3 (0 : Fin 1) (⟨b.val % 64, by omega⟩ : Fin 64) c := by
      funext d
      match d with
      | ⟨0, _⟩ => exact Fin.ext (Nat.sub_self _)
      | ⟨1, _⟩ => exact Fin.ext (by show b.val - 64 * r.val = b.val % 64; omega)
      | ⟨2, _⟩ => exact Fin.ext (by show c.val - 0 = c.val; omega)
    have e' : (window x ![a.val, 64 * r.val, 0] S1x64x128.size (inbCols a r)) (ix3 (0 : Fin 1) (⟨b.val % 64, by omega⟩ : Fin 64) c) = x (ix3 a b c) := by
      refine congrArg x (funext fun d => ?_)
      match d with
      | ⟨0, _⟩ => exact Fin.ext (by show a.val + 1 * 0 = a.val; omega)
      | ⟨1, _⟩ => exact Fin.ext (by show 64 * r.val + 1 * (b.val % 64) = b.val; omega)
      | ⟨2, _⟩ => exact Fin.ext (by show 0 + 1 * c.val = c.val; omega)
    rw [e]
    refine (putCol_apply k hk v _ _ c).trans ?_
    rw [e']
    exact if_congr ⟨fun h => ⟨rfl, hb, h⟩, fun h => h.2.2⟩ rfl rfl
  · rw [if_neg (fun h' => h ⟨h'.1, h'.2.1⟩)]
    refine put_out _ _ _ _ _ (fun hy => h ⟨?_, ?_⟩)
    · have := hy 0
      change q.val ≤ a.val ∧ a.val < q.val + 1 at this
      exact Fin.ext (by omega)
    · have := hy 1
      change 64 * r.val ≤ b.val ∧ b.val < 64 * r.val + 64 at this
      omega

theorem endStep_apply (A : Acc F) (r : Fin 4) (k : Nat) (hk : k < 128) (x : Vec F S3x256x128 .f32) (a : Fin 3) (b : Fin 256) (c : Fin 128) :
    endStep A (BitVec.ofNat 32 k) r x (ix3 a b c) = if b.val / 64 = r.val ∧ c.val = k then colVal A a r (ix2 ⟨b.val % 64, by omega⟩ 0) else x (ix3 a b c) := by
  unfold endStep
  rw [planeStep_apply _ _ k hk, planeStep_apply _ _ k hk, planeStep_apply _ _ k hk]
  by_cases h : b.val / 64 = r.val ∧ c.val = k
  · rw [if_pos h]
    match a with
    | 0 => rw [if_neg (by rintro ⟨h, _⟩; exact absurd h (by decide)), if_neg (by rintro ⟨h, _⟩; exact absurd h (by decide)), if_pos ⟨rfl, h⟩]; rfl
    | 1 => rw [if_neg (by rintro ⟨h, _⟩; exact absurd h (by decide)), if_pos ⟨rfl, h⟩]; rfl
    | 2 => rw [if_pos ⟨rfl, h⟩]; rfl
  · rw [if_neg h, if_neg (fun h' => h h'.2), if_neg (fun h' => h h'.2), if_neg (fun h' => h h'.2)]

/-- A shard's end writes its lane of every row. -/
theorem endAll_apply (A : Acc F) (k : Nat) (hk : k < 128) (x : Vec F S3x256x128 .f32) (a : Fin 3) (b : Fin 256) (c : Fin 128) :
    iter (endStep A (BitVec.ofNat 32 k)) x 4 (ix3 a b c) = if c.val = k then colVal A a ⟨b.val / 64, by omega⟩ (ix2 ⟨b.val % 64, by omega⟩ 0) else x (ix3 a b c) := by
  have key : ∀ n, n ≤ 4 → iter (endStep A (BitVec.ofNat 32 k)) x n (ix3 a b c)
      = if b.val / 64 < n ∧ c.val = k then colVal A a ⟨b.val / 64, by omega⟩ (ix2 ⟨b.val % 64, by omega⟩ 0) else x (ix3 a b c) := by
    intro n
    induction n with
    | zero => intro _; rw [if_neg (fun h => absurd h.1 (Nat.not_lt_zero _))]; rfl
    | succ n ih =>
      intro hn
      have e : iter (endStep A (BitVec.ofNat 32 k)) x (n + 1) = endStep A (BitVec.ofNat 32 k) ⟨n, hn⟩ (iter (endStep A (BitVec.ofNat 32 k)) x n) := iter_succ _ x ⟨n, hn⟩
      rw [e, endStep_apply _ _ k hk, ih (Nat.le_of_succ_le hn)]
      by_cases h : c.val = k
      · by_cases h1 : b.val / 64 = n
        · subst h1
          rw [if_pos ⟨rfl, h⟩, if_pos ⟨Nat.lt_succ_self _, h⟩]
        · rw [if_neg (fun h' => h1 h'.1)]
          exact if_congr (and_congr (by omega) Iff.rfl) rfl rfl
      · rw [if_neg (fun h' => h h'.2), if_neg (fun h' => h h'.2), if_neg (fun h' => h h'.2)]
  refine (key 4 le_rfl).trans (if_congr ?_ rfl rfl)
  have := b.isLt
  omega

end Cert.KernelIdeal.Body
-- ==== Proof.KernelIdeal.Seq.lean ====
/-
  The states step by step, from what each step reads.
-/
module

public import proofs.«01_k».proof.Proof.KernelIdeal.Cols
public import Idealize.ShloMosaic.Lib.Pointwise.Sums

@[expose] public section

set_option maxRecDepth 16384

noncomputable section

namespace Cert.KernelIdeal.Body

open Cert.KernelIdeal Cert.KernelIdeal.Gen Cert.Common
open Idealize.ShloMosaic Idealize.ShloMosaic.VecWindow

variable {F : FTy → Type} [FloatOps F] [Named F]

variable (I : Fin cfg0.N → In F)

theorem N0 : cfg0.N = 128 := by decide
/-- The first step. -/
def t0 : Fin cfg0.N := ⟨0, by rw [N0]; decide⟩

/-- The quantised activations, -/
def XT : QT F := qT (I t0).h1
def YS : QS F := qS (I t0).h2
/-- the running arrays before step `n`, -/
def accAt : ℕ → Acc F
  | 0 => resetAcc
  | n + 1 => if h : n < cfg0.N then stepA (cfg0.grid.coords ⟨n, h⟩) (I ⟨n, h⟩) (XT I) (YS I) (accAt n) else accAt n
/-- the columns before step `n`, from what they held at the start. -/
def colsAt (x0 : Vec F S3x256x128 .f32) : ℕ → Vec F S3x256x128 .f32
  | 0 => x0
  | n + 1 => if h : n < cfg0.N then endCols (cfg0.grid.coords ⟨n, h⟩) (accAt I (n + 1)) (colsAt x0 n) else colsAt x0 n

theorem accAt_succ (t : Fin cfg0.N) : accAt I (t.val + 1) = stepA (cfg0.grid.coords t) (I t) (XT I) (YS I) (accAt I t.val) := dif_pos t.isLt
theorem colsAt_succ (x0 : Vec F S3x256x128 .f32) (t : Fin cfg0.N) : colsAt I x0 (t.val + 1) = endCols (cfg0.grid.coords t) (accAt I (t.val + 1)) (colsAt I x0 t.val) := dif_pos t.isLt

theorem stepA_reset (i : grid0.Coords) (h : (i 0).val % 32 = 0) (J : In F) (X : QT F) (Y : QS F) (A A' : Acc F) : stepA i J X Y A = stepA i J X Y A' := by
  unfold stepA
  rw [if_pos ((atStart_iff i).2 h), if_pos ((atStart_iff i).2 h)]

/-- A step takes each state to the next. -/
theorem step_state (t : Fin cfg0.N) (x0 : Vec F S3x256x128 .f32) (X : QT F) (Y : QS F) (A : Acc F)
    (hX : t.val ≠ 0 → X = XT I ∧ Y = YS I ∧ A = accAt I t.val) :
    stepSt (cfg0.grid.coords t) (I t) ⟨X, Y, A, colsAt I x0 t.val⟩ = ⟨XT I, YS I, accAt I (t.val + 1), colsAt I x0 (t.val + 1)⟩ := by
  have hx : stepX (cfg0.grid.coords t) (I t) X = XT I := by
    unfold stepX
    by_cases h : t.val = 0
    · obtain rfl : t = t0 := Fin.ext h
      rw [if_pos ((condQ_iff _).2 ((coords_val t0).trans h))]
      exact qT_eq _ X
    · rw [if_neg (fun h' => h ((coords_val t).symm.trans ((condQ_iff _).1 h'))), (hX h).1]
  have hy : stepY (cfg0.grid.coords t) (I t) Y = YS I := by
    unfold stepY
    by_cases h : t.val = 0
    · obtain rfl : t = t0 := Fin.ext h
      rw [if_pos ((condQ_iff _).2 ((coords_val t0).trans h))]
      exact qS_eq _ Y
    · rw [if_neg (fun h' => h ((coords_val t).symm.trans ((condQ_iff _).1 h'))), (hX h).2.1]
  have ha : stepA (cfg0.grid.coords t) (I t) (XT I) (YS I) A = accAt I (t.val + 1) := by
    rw [accAt_succ]
    by_cases h : t.val = 0
    · exact stepA_reset _ (by rw [coords_val t, h]) _ _ _ _ _
    · rw [(hX h).2.2]
  unfold stepSt
  rw [hx, hy, ha, colsAt_succ]

/-- A lane of a shard holds what the shard's end wrote. -/
theorem colsAt_apply (x0 : Vec F S3x256x128 .f32) (a : Fin 3) (b : Fin 256) (c : Fin 4) :
    colsAt I x0 128 (ix3 a b (⟨c.val, by omega⟩ : Fin 128))
      = colVal (accAt I (32 * (c.val + 1))) a ⟨b.val / 64, by omega⟩ (ix2 ⟨b.val % 64, by omega⟩ 0) := by
  have key : ∀ n, n ≤ 128 → 32 * (c.val + 1) ≤ n → colsAt I x0 n (ix3 a b (⟨c.val, by omega⟩ : Fin 128))
      = colVal (accAt I (32 * (c.val + 1))) a ⟨b.val / 64, by omega⟩ (ix2 ⟨b.val % 64, by omega⟩ 0) := by
    intro n
    induction n with
    | zero => intro _ h; omega
    | succ n ih =>
      intro hn hc
      have hN : n < cfg0.N := by rw [N0]; exact hn
      rw [show colsAt I x0 (n + 1) = _ from colsAt_succ I x0 ⟨n, hN⟩]
      unfold endCols
      by_cases h : n % 32 = 31
      · rw [if_pos ((atEnd_iff _).2 (by rw [coords_val]; exact h)), shardOf_eq, coords_val, endAll_apply _ _ (by show n / 32 < 128; omega)]
        show (if c.val = n / 32 then _ else _) = _
        by_cases h1 : c.val = n / 32
        · rw [if_pos h1]
          have : n + 1 = 32 * (c.val + 1) := by omega
          show colVal (accAt I (n + 1)) _ _ _ = _
          rw [this]
        · rw [if_neg h1]
          exact ih (by omega) (by omega)
      · rw [if_neg (fun h' => h (by have := (atEnd_iff _).1 h'; rwa [coords_val] at this))]
        exact ih (by omega) (by omega)
  exact key 128 le_rfl (by omega)

theorem plane_apply (x : Vec F S3x256x128 .f32) (q : Fin 3) (b : Fin 256) (c : Fin 4) : plane x q (ix2 b c) = x (ix3 q b (⟨c.val, by omega⟩ : Fin 128)) := by
  unfold plane
  pointwise [head]
  refine congrArg x (funext fun d => ?_)
  match d with
  | ⟨0, _⟩ => exact Fin.ext (by show q.val + 1 * 0 = q.val; omega)
  | ⟨1, _⟩ => exact Fin.ext (by show 0 + 1 * b.val = b.val; omega)
  | ⟨2, _⟩ => exact Fin.ext (by show 0 + 1 * c.val = c.val; omega)

/-- The results. -/
def outAll : Out F := lastOut (colsAt I (constant S3x256x128 .f32 0#32) 128)

theorem outAll_eq (x0 : Vec F S3x256x128 .f32) : lastOut (colsAt I x0 128) = outAll I := by
  have h : ∀ q, plane (colsAt I x0 128) q = plane (colsAt I (constant S3x256x128 .f32 0#32) 128) q := fun q => funext fun j => by
    idx_vars j
    rw [plane_apply, plane_apply]
    exact (colsAt_apply I x0 q _ _).trans (colsAt_apply I _ q _ _).symm
  unfold outAll lastOut
  rw [h, h, h]

end Cert.KernelIdeal.Body
-- ==== Proof.KernelIdeal.Frame.lean ====
/-
  The frame of the kernel: the proof data, the body's triple at every point, and the run.
-/
module

public import proofs.«01_k».proof.Proof.Gen.KernelIdeal.Frame
public import proofs.«01_k».proof.Proof.KernelIdeal.SpecEq
public import proofs.«01_k».proof.Proof.KernelIdeal.Seq
public import Idealize.ShloMosaic.Lib.Claim

@[expose] public section

set_option maxRecDepth 16384

noncomputable section

namespace Cert.KernelIdeal.Body

open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What step `t` reads. -/
def inp (c : Dev nD) (t : Fin cfg0.N) : In F :=
  ⟨iblk m c 0 t, iblk m c 1 t, iblk m c 2 t, iblk m c 3 t, iblk m c 4 t, iblk m c 5 t⟩

/-- The scratch arrays held. -/
def scratch (c : Dev nD) (tT tS : Vec F S256x128 .f32) (A : Acc F) (x : Vec F S3x256x128 .f32) : sProp 𝕄 :=
  iprop(at_ c (Memref.whole cc0_scratch0) tT ∗ at_ c (Memref.whole cc0_scratch1) tS
    ∗ accs c (Memref.whole cc0_scratch2) (Memref.whole cc0_scratch3) (Memref.whole cc0_scratch4) (Memref.whole cc0_scratch5) (Memref.whole cc0_scratch6) A
    ∗ at_ c (Memref.whole cc0_scratch7) x)

/-- The invariant before step `n`: from the first step on the scratch arrays hold the step's states. -/
def inv (c : Dev nD) (n : ℕ) : sProp 𝕄 :=
  iprop(∃ tT tS A x0, ⌜n ≠ 0 → tT = (XT (inp m c)).tT ∧ tS = (YS (inp m c)).tS ∧ A = accAt (inp m c) n⌝
    ∗ scratch c tT tS A (colsAt (inp m c) x0 n) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outAll (inp m c)).kl
    | ⟨7, _⟩ => (outAll (inp m c)).lt
    | ⟨8, _⟩ => (outAll (inp m c)).ls
    | ⟨9, _⟩ => (outAll (inp m c)).sht
    | ⟨10, _⟩ => (outAll (inp m c)).shs
    | ⟨11, _⟩ => (outAll (inp m c)).sha
    | ⟨12, _⟩ => (XT (inp m c)).ct
    | ⟨13, _⟩ => (XT (inp m c)).st
    | ⟨14, _⟩ => (YS (inp m c)).cs
    | ⟨15, _⟩ => (YS (inp m c)).ss
    | ⟨_ + 16, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outAll (inp m c)).kl := by dsimp only [dats]
theorem after_7 (c : Dev nD) (t : Fin cfg0.N) : (dats m 0 c).after 7 t = (outAll (inp m c)).lt := by dsimp only [dats]
theorem after_8 (c : Dev nD) (t : Fin cfg0.N) : (dats m 0 c).after 8 t = (outAll (inp m c)).ls := by dsimp only [dats]
theorem after_9 (c : Dev nD) (t : Fin cfg0.N) : (dats m 0 c).after 9 t = (outAll (inp m c)).sht := by dsimp only [dats]
theorem after_10 (c : Dev nD) (t : Fin cfg0.N) : (dats m 0 c).after 10 t = (outAll (inp m c)).shs := by dsimp only [dats]
theorem after_11 (c : Dev nD) (t : Fin cfg0.N) : (dats m 0 c).after 11 t = (outAll (inp m c)).sha := by dsimp only [dats]
theorem after_12 (c : Dev nD) (t : Fin cfg0.N) : (dats m 0 c).after 12 t = (XT (inp m c)).ct := by dsimp only [dats]
theorem after_13 (c : Dev nD) (t : Fin cfg0.N) : (dats m 0 c).after 13 t = (XT (inp m c)).st := by dsimp only [dats]
theorem after_14 (c : Dev nD) (t : Fin cfg0.N) : (dats m 0 c).after 14 t = (YS (inp m c)).cs := by dsimp only [dats]
theorem after_15 (c : Dev nD) (t : Fin cfg0.N) : (dats m 0 c).after 15 t = (YS (inp m c)).ss := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ### What a step leaves in a window -/

/-- At a window idle there that is not written back, what it found; else what the data say. -/
theorem leaves_of {c : Dev nD} (dat : Dat τ (Elt F) Unit ℕ (UR sig nD τ) ℕ cfg0 c) (w : Fin cfg0.W) (t : Fin cfg0.N)
    (X : (cfg0.win w).block.Idx → Elt F (cfg0.win w).elt)
    (h : (cfg0.idle w (cfg0.grid.coords t) = true ∧ (cfg0.win w).flush t = false ∧ ∃ d, X = dat.before w t d)
      ∨ ((cfg0.idle w (cfg0.grid.coords t) = false ∨ (cfg0.win w).flush t = true) ∧ X = dat.after w t)) :
    (owns (c : Thread nD τ) ((cfg0.win w).stage (cfg0.slots t w)) fullShare X : sProp 𝕄) ⊢ dat.leavesExact w t := by
  rcases h with ⟨hi, hf, d, rfl⟩ | ⟨h, rfl⟩
  · rw [dat.leavesExact_idle w t hi hf]
    iintro H
    iexists d
    iexact H
  · unfold Dat.leavesExact
    cases hi : cfg0.idle w (cfg0.grid.coords t) with
    | false => exact .rfl
    | true =>
      have hf : (cfg0.win w).flush t = true := h.resolve_left (by rw [hi]; decide)
      rw [hf]

/-- A result written only at the first step is found by every later step as that step left it. -/
theorem before_const {c : Dev nD} (dat : Dat τ (Elt F) Unit ℕ (UR sig nD τ) ℕ cfg0 c) (w : Fin cfg0.W)
    (hfetch : ∀ t, (cfg0.win w).fetch t = false) (hfl : ∀ t, (cfg0.win w).flush t = true ↔ t.val % 128 = 127)
    (hidle : ∀ t, cfg0.idle w (cfg0.grid.coords t) = true ↔ t.val ≠ 0) (hk : ∀ t d, dat.kept w t d = dat.after w t)
    (hc : ∀ t, dat.after w t = dat.after w t0) (d) : ∀ n (hn : n + 1 < cfg0.N), dat.before w ⟨n + 1, hn⟩ d = dat.after w t0 := by
  intro n
  induction n with
  | zero =>
    intro hn
    rw [dat.before_of_pos w _ (by show 0 + 1 ≠ 0; decide) (hfetch _)]
    have hf : ¬ (cfg0.win w).flush ⟨0 + 1 - 1, Nat.lt_of_le_of_lt (Nat.sub_le _ _) hn⟩ = true := fun h => absurd ((hfl _).1 h) (by show ¬ 0 % 128 = 127; decide)
    rw [if_neg hf]
    unfold Dat.left
    have hi : cfg0.idle w (cfg0.grid.coords ⟨0 + 1 - 1, Nat.lt_of_le_of_lt (Nat.sub_le _ _) hn⟩) = false := by
      rw [← Bool.not_eq_true]; exact fun h => (hidle _).1 h rfl
    rw [hi]
    exact (hk _ d).trans (hc _)
  | succ n ih =>
    intro hn
    rw [dat.before_of_pos w _ (by show n + 1 + 1 ≠ 0; omega) (hfetch _)]
    have hf : ¬ (cfg0.win w).flush ⟨n + 1 + 1 - 1, Nat.lt_of_le_of_lt (Nat.sub_le _ _) hn⟩ = true := fun h => by
      have h1 : (n + 1 + 1 - 1) % 128 = 127 := (hfl _).1 h
      have h2 := N0
      omega
    rw [if_neg hf]
    unfold Dat.left
    have hi : cfg0.idle w (cfg0.grid.coords ⟨n + 1 + 1 - 1, Nat.lt_of_le_of_lt (Nat.sub_le _ _) hn⟩) = true := (hidle _).2 (by show n + 1 + 1 - 1 ≠ 0; omega)
    rw [hi]
    exact ih (by omega)

/-- A result written at the first step, left at what the data say; -/
theorem leaves_first {c : Dev nD} (dat : Dat τ (Elt F) Unit ℕ (UR sig nD τ) ℕ cfg0 c) (w : Fin cfg0.W)
    (hfetch : ∀ t, (cfg0.win w).fetch t = false) (hfl : ∀ t, (cfg0.win w).flush t = true ↔ t.val % 128 = 127)
    (hidle : ∀ t, cfg0.idle w (cfg0.grid.coords t) = true ↔ t.val ≠ 0) (hk : ∀ t d, dat.kept w t d = dat.after w t)
    (hc : ∀ t, dat.after w t = dat.after w t0) (t : Fin cfg0.N) :
    (owns (c : Thread nD τ) ((cfg0.win w).stage (cfg0.slots t w)) fullShare (dat.after w t0) : sProp 𝕄) ⊢ dat.leavesExact w t := by
  refine leaves_of dat w t _ ?_
  by_cases hf : (cfg0.win w).flush t = true
  · exact Or.inr ⟨Or.inr hf, (hc t).symm⟩
  by_cases hi : cfg0.idle w (cfg0.grid.coords t) = true
  · refine Or.inl ⟨hi, by simpa using hf, dat.after w t0, ?_⟩
    have h0 := (hidle t).1 hi
    obtain ⟨n, hn⟩ : ∃ n, t.val = n + 1 := ⟨t.val - 1, by omega⟩
    have hlt : n + 1 < cfg0.N := hn ▸ t.isLt
    obtain rfl : t = ⟨n + 1, hlt⟩ := Fin.ext hn
    exact (before_const dat w hfetch hfl hidle hk hc _ n hlt).symm
  · exact Or.inr ⟨Or.inl (by simpa using hi), (hc t).symm⟩

/-- and one written at the last. -/
theorem leaves_last {c : Dev nD} (dat : Dat τ (Elt F) Unit ℕ (UR sig nD τ) ℕ cfg0 c) (w : Fin cfg0.W)
    (hfl : ∀ t, (cfg0.win w).flush t = true ↔ t.val % 128 = 127)
    (hidle : ∀ t, cfg0.idle w (cfg0.grid.coords t) = true ↔ t.val ≠ 127) (t : Fin cfg0.N) (d X)
    (hX : X = if t.val = 127 then dat.after w t else dat.before w t d) :
    (owns (c : Thread nD τ) ((cfg0.win w).stage (cfg0.slots t w)) fullShare X : sProp 𝕄) ⊢ dat.leavesExact w t := by
  refine leaves_of dat w t _ ?_
  have h2 := N0
  have h3 := t.isLt
  by_cases h : t.val = 127
  · rw [if_pos h] at hX
    exact Or.inr ⟨Or.inr ((hfl t).2 (by omega)), hX⟩
  · rw [if_neg h] at hX
    refine Or.inl ⟨(hidle t).2 h, ?_, d, hX⟩
    rw [← Bool.not_eq_true]
    exact fun h' => h (by have := (hfl t).1 h'; omega)

theorem idleQ (t : Fin cfg0.N) : (!(k0_cond1 (cfg0.grid.coords t) == 1#1)) = true ↔ t.val ≠ 0 := by
  rw [Bool.not_eq_true', beq_eq_false_iff_ne, ne_eq, condQ_iff, coords_val]
theorem idleL (t : Fin cfg0.N) : (!(k0_cond4 (cfg0.grid.coords t) == 1#1)) = true ↔ t.val ≠ 127 := by
  rw [Bool.not_eq_true', beq_eq_false_iff_ne, ne_eq, condL_iff, coords_val]

/-! ### The body's triple -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves_0 (c : Dev nD) (t : Fin cfg0.N) : (at_ c (st0_0 t) (inp m c t).h1 : sProp 𝕄) ⊢ (dats m 0 c).leavesExact 0 t :=
  leaves_of (dats m 0 c) 0 t _ (Or.inr ⟨Or.inl rfl, (after_0 m c t).symm⟩)
theorem leaves_1 (c : Dev nD) (t : Fin cfg0.N) : (at_ c (st0_1 t) (inp m c t).h2 : sProp 𝕄) ⊢ (dats m 0 c).leavesExact 1 t :=
  leaves_of (dats m 0 c) 1 t _ (Or.inr ⟨Or.inl rfl, (after_1 m c t).symm⟩)
theorem leaves_2 (c : Dev nD) (t : Fin cfg0.N) : (at_ c (st0_2 t) (inp m c t).w : sProp 𝕄) ⊢ (dats m 0 c).leavesExact 2 t :=
  leaves_of (dats m 0 c) 2 t _ (Or.inr ⟨Or.inl rfl, (after_2 m c t).symm⟩)
theorem leaves_3 (c : Dev nD) (t : Fin cfg0.N) : (at_ c (st0_3 t) (inp m c t).wt : sProp 𝕄) ⊢ (dats m 0 c).leavesExact 3 t :=
  leaves_of (dats m 0 c) 3 t _ (Or.inr ⟨Or.inl rfl, (after_3 m c t).symm⟩)
theorem leaves_4 (c : Dev nD) (t : Fin cfg0.N) : (at_ c (st0_4 t) (inp m c t).u : sProp 𝕄) ⊢ (dats m 0 c).leavesExact 4 t :=
  leaves_of (dats m 0 c) 4 t _ (Or.inr ⟨Or.inl rfl, (after_4 m c t).symm⟩)
theorem leaves_5 (c : Dev nD) (t : Fin cfg0.N) : (at_ c (st0_5 t) (inp m c t).ws : sProp 𝕄) ⊢ (dats m 0 c).leavesExact 5 t :=
  leaves_of (dats m 0 c) 5 t _ (Or.inr ⟨Or.inl rfl, (after_5 m c t).symm⟩)
theorem leaves_6 (c : Dev nD) (t : Fin cfg0.N) (d X) (hX : X = if t.val = 127 then (outAll (inp m c)).kl else (dats m 0 c).before 6 t d) :
    (at_ c (st0_6 t) X : sProp 𝕄) ⊢ (dats m 0 c).leavesExact 6 t :=
  leaves_last (dats m 0 c) 6 flush0_6 idleL t d X hX
theorem leaves_7 (c : Dev nD) (t : Fin cfg0.N) (d X) (hX : X = if t.val = 127 then (outAll (inp m c)).lt else (dats m 0 c).before 7 t d) :
    (at_ c (st0_7 t) X : sProp 𝕄) ⊢ (dats m 0 c).leavesExact 7 t :=
  leaves_last (dats m 0 c) 7 flush0_7 idleL t d X hX
theorem leaves_8 (c : Dev nD) (t : Fin cfg0.N) (d X) (hX : X = if t.val = 127 then (outAll (inp m c)).ls else (dats m 0 c).before 8 t d) :
    (at_ c (st0_8 t) X : sProp 𝕄) ⊢ (dats m 0 c).leavesExact 8 t :=
  leaves_last (dats m 0 c) 8 flush0_8 idleL t d X hX
theorem leaves_9 (c : Dev nD) (t : Fin cfg0.N) (d X) (hX : X = if t.val = 127 then (outAll (inp m c)).sht else (dats m 0 c).before 9 t d) :
    (at_ c (st0_9 t) X : sProp 𝕄) ⊢ (dats m 0 c).leavesExact 9 t :=
  leaves_last (dats m 0 c) 9 flush0_9 idleL t d X hX
theorem leaves_10 (c : Dev nD) (t : Fin cfg0.N) (d X) (hX : X = if t.val = 127 then (outAll (inp m c)).shs else (dats m 0 c).before 10 t d) :
    (at_ c (st0_10 t) X : sProp 𝕄) ⊢ (dats m 0 c).leavesExact 10 t :=
  leaves_last (dats m 0 c) 10 flush0_10 idleL t d X hX
theorem leaves_11 (c : Dev nD) (t : Fin cfg0.N) (d X) (hX : X = if t.val = 127 then (outAll (inp m c)).sha else (dats m 0 c).before 11 t d) :
    (at_ c (st0_11 t) X : sProp 𝕄) ⊢ (dats m 0 c).leavesExact 11 t :=
  leaves_last (dats m 0 c) 11 flush0_11 idleL t d X hX
theorem leaves_12 (c : Dev nD) (t : Fin cfg0.N) : (at_ c (st0_12 t) (XT (inp m c)).ct : sProp 𝕄) ⊢ (dats m 0 c).leavesExact 12 t :=
  leaves_first (dats m 0 c) 12 (fun _ => rfl) flush0_12 idleQ (fun _ _ => rfl) (fun _ => rfl) t
theorem found_12 (c : Dev nD) (t : Fin cfg0.N) (h : t.val ≠ 0) (d) : (dats m 0 c).before 12 t d = (XT (inp m c)).ct := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 12 (fun _ => rfl) flush0_12 idleQ (fun _ _ => rfl) (fun _ => rfl) d n hlt
theorem leaves_13 (c : Dev nD) (t : Fin cfg0.N) : (at_ c (st0_13 t) (XT (inp m c)).st : sProp 𝕄) ⊢ (dats m 0 c).leavesExact 13 t :=
  leaves_first (dats m 0 c) 13 (fun _ => rfl) flush0_13 idleQ (fun _ _ => rfl) (fun _ => rfl) t
theorem found_13 (c : Dev nD) (t : Fin cfg0.N) (h : t.val ≠ 0) (d) : (dats m 0 c).before 13 t d = (XT (inp m c)).st := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 13 (fun _ => rfl) flush0_13 idleQ (fun _ _ => rfl) (fun _ => rfl) d n hlt
theorem leaves_14 (c : Dev nD) (t : Fin cfg0.N) : (at_ c (st0_14 t) (YS (inp m c)).cs : sProp 𝕄) ⊢ (dats m 0 c).leavesExact 14 t :=
  leaves_first (dats m 0 c) 14 (fun _ => rfl) flush0_14 idleQ (fun _ _ => rfl) (fun _ => rfl) t
theorem found_14 (c : Dev nD) (t : Fin cfg0.N) (h : t.val ≠ 0) (d) : (dats m 0 c).before 14 t d = (YS (inp m c)).cs := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 14 (fun _ => rfl) flush0_14 idleQ (fun _ _ => rfl) (fun _ => rfl) d n hlt
theorem leaves_15 (c : Dev nD) (t : Fin cfg0.N) : (at_ c (st0_15 t) (YS (inp m c)).ss : sProp 𝕄) ⊢ (dats m 0 c).leavesExact 15 t :=
  leaves_first (dats m 0 c) 15 (fun _ => rfl) flush0_15 idleQ (fun _ _ => rfl) (fun _ => rfl) t
theorem found_15 (c : Dev nD) (t : Fin cfg0.N) (h : t.val ≠ 0) (d) : (dats m 0 c).before 15 t d = (YS (inp m c)).ss := by
  obtain ⟨n, hn⟩ : ∃ n, t.val = n + 1 := ⟨t.val - 1, by omega⟩
  have hlt : n + 1 < cfg0.N := hn ▸ t.isLt
  obtain rfl : t = ⟨n + 1, hlt⟩ := Fin.ext hn
  exact before_const (dats m 0 c) 15 (fun _ => rfl) flush0_15 idleQ (fun _ _ => rfl) (fun _ => rfl) d n hlt

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [body_eq, show (dats m 0 c).Φ t.castSucc = inv m c t.val from rfl, show (dats m 0 c).Φ t.succ = inv m c (t.val + 1) from rfl,
    show (dats m 0 c).owesAt () t.succ = (dats m 0 c).owesAt () t.castSucc from rfl]
  unfold inv scratch
  iintro ⟨⟨%tT, %tS, %A, %x0, %hS, ⟨S0, S1, SA, S7⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hst := step_state (inp m c) t x0 ⟨(dats m 0 c).before 12 t d12, (dats m 0 c).before 13 t d13, tT⟩ ⟨(dats m 0 c).before 14 t d14, (dats m 0 c).before 15 t d15, tS⟩ A
    (fun h => ⟨QT.ext' (found_12 m c t h d12) (found_13 m c t h d13) (hS h).1, QS.ext' (found_14 m c t h d14) (found_15 m c t h d15) (hS h).2.1, (hS h).2.2⟩)
  iapply (body_wp (grid0.coords t) (inp m c t) ⟨⟨(dats m 0 c).before 12 t d12, (dats m 0 c).before 13 t d13, tT⟩, ⟨(dats m 0 c).before 14 t d14, (dats m 0 c).before 15 t d15, tS⟩, A, colsAt (inp m c) x0 t.val⟩
    ⟨(dats m 0 c).before 6 t d6, (dats m 0 c).before 7 t d7, (dats m 0 c).before 8 t d8, (dats m 0 c).before 9 t d9, (dats m 0 c).before 10 t d10, (dats m 0 c).before 11 t d11⟩) $$ [H0 H1 H2 H3 H4 H5 H6 H7 H8 H9 H10 H11 H12 H13 H14 H15 S0 S1 SA S7]
  · unfold heldI heldO heldT heldS
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 H10 H11]
    · isplitl [H6]; · iexact H6
      isplitl [H7]; · iexact H7
      isplitl [H8]; · iexact H8
      isplitl [H9]; · iexact H9
      isplitl [H10]; · iexact H10
      iexact H11
    isplitl [H12 H13 S0]
    · isplitl [H12]; · iexact H12
      isplitl [H13]; · iexact H13
      iexact S0
    isplitl [H14 H15 S1]
    · isplitl [H14]; · iexact H14
      isplitl [H15]; · iexact H15
      iexact S1
    isplitl [SA]; · iexact SA
    iexact S7
  rw [show grid0.coords t = cfg0.grid.coords t from rfl, hst]
  have hO : ∀ O : Out F, stepO (cfg0.grid.coords t) (colsAt (inp m c) x0 (t.val + 1)) O = if t.val = 127 then outAll (inp m c) else O := fun O => by
    unfold stepO
    by_cases h : t.val = 127
    · rw [if_pos h, if_pos ((condL_iff _).2 ((coords_val t).trans h)), h]
      exact outAll_eq (inp m c) x0
    · rw [if_neg h, if_neg (fun h' => h ((coords_val t).symm.trans ((condL_iff _).1 h')))]
  rw [hO]
  unfold heldI heldO heldT heldS
  iintro ⟨⟨H0, H1, H2, H3, H4, H5⟩, ⟨H6, H7, H8, H9, H10, H11⟩, ⟨H12, H13, S0⟩, ⟨H14, H15, S1⟩, SA, S7⟩
  isplitl [S0 S1 SA S7 Hr]
  · iexists _, _, _, x0
    isplitr
    rotate_left
    · isplitl [S0 S1 SA S7]
      · isplitl [S0]; · iexact S0
        isplitl [S1]; · iexact S1
        isplitl [SA]; · iexact SA
        iexact S7
      iexact Hr
    · ipureintro
      exact fun _ => ⟨rfl, rfl, rfl⟩
  isplitl [Ho]; · iexact Ho
  isplitl [H0]; · iapply (leaves_0 m c t) $$ H0
  isplitl [H1]; · iapply (leaves_1 m c t) $$ H1
  isplitl [H2]; · iapply (leaves_2 m c t) $$ H2
  isplitl [H3]; · iapply (leaves_3 m c t) $$ H3
  isplitl [H4]; · iapply (leaves_4 m c t) $$ H4
  isplitl [H5]; · iapply (leaves_5 m c t) $$ H5
  isplitl [H6]; · iapply (leaves_6 m c t d6 _ (by split <;> rfl)) $$ H6
  isplitl [H7]; · iapply (leaves_7 m c t d7 _ (by split <;> rfl)) $$ H7
  isplitl [H8]; · iapply (leaves_8 m c t d8 _ (by split <;> rfl)) $$ H8
  isplitl [H9]; · iapply (leaves_9 m c t d9 _ (by split <;> rfl)) $$ H9
  isplitl [H10]; · iapply (leaves_10 m c t d10 _ (by split <;> rfl)) $$ H10
  isplitl [H11]; · iapply (leaves_11 m c t d11 _ (by split <;> rfl)) $$ H11
  isplitl [H12]; · iapply (leaves_12 m c t) $$ H12
  isplitl [H13]; · iapply (leaves_13 m c t) $$ H13
  isplitl [H14]; · iapply (leaves_14 m c t) $$ H14
  iapply (leaves_15 m c t) $$ H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem inv_in (c : Dev nD) : (Pipeline.ΦA spec0 c : sProp 𝕄) ⊢ inv m c 0 := by
  unfold Pipeline.ΦA inv scratch accs at_
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hr⟩
  iexists f0, f1, ⟨f2, f3, f4, f5, f6⟩, f7
  isplitr
  · ipureintro
    exact fun h => absurd rfl h
  isplitr [Hr]
  · isplitl [H0]; · iexact H0
    isplitl [H1]; · iexact H1
    isplitr [H7]
    · isplitl [H2]; · iexact H2
      isplitl [H3]; · iexact H3
      isplitl [H4]; · iexact H4
      isplitl [H5]; · iexact H5
      iexact H6
    iexact H7
  iexact Hr

theorem inv_out (c : Dev nD) (n : ℕ) : (inv m c n : sProp 𝕄) ⊢ Pipeline.ΦA spec0 c := by
  unfold Pipeline.ΦA inv scratch accs at_
  rw [scopedRest0_eq]
  simp only [owns_whole]
  iintro ⟨%tT, %tS, %A, %x0, -, ⟨H0, H1, ⟨H2, H3, H4, H5, H6⟩, H7⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.Value.Fold.lean ====
/-
  The scalar mathematics of the running sums. A lane keeps a maximum `m` of the logits (base 2) it has seen and a sum of
  their powers of two taken relative to `m`; `Sums` says what such a sum is worth under any later maximum. The shard's end
  brings all lanes to one maximum, and natural exponentials of logits scaled by `log 2` are these powers of two.
-/
module

public import Idealize.ShloMosaic.PureOps.Ideal

@[expose] public section

noncomputable section

namespace Cert.Fold

open Idealize.ShloMosaic

theorem exp2_nonneg (x : EReal) : 0 ≤ Ideal.exp2 x := by
  induction x with
  | bot => simp
  | top => simp
  | coe r => rw [Ideal.exp2_coe]; exact EReal.coe_nonneg.2 (Real.rpow_nonneg (by norm_num) _)

theorem exp2_ne_top {x : EReal} (h : x ≠ ⊤) : Ideal.exp2 x ≠ ⊤ := by
  induction x with
  | bot => simp
  | top => exact absurd rfl h
  | coe r => rw [Ideal.exp2_coe]; exact EReal.coe_ne_top _

theorem sub_ne_top {a b : EReal} (h : a ≤ b) : a - b ≠ ⊤ := by
  induction b with
  | bot => obtain rfl := le_bot_iff.1 h; simp
  | top => simp
  | coe r =>
    induction a with
    | bot => simp
    | top => exact absurd h (by simp)
    | coe q => rw [← EReal.coe_sub]; exact EReal.coe_ne_top _

/-- A power relative to one maximum, brought to a later one. -/
theorem exp2_chain {a b c : EReal} (h1 : a ≤ b) (h2 : b ≤ c) : Ideal.exp2 (a - b) * Ideal.exp2 (b - c) = Ideal.exp2 (a - c) := by
  induction c with
  | top => simp
  | bot =>
    obtain rfl := le_bot_iff.1 h2
    obtain rfl := le_bot_iff.1 h1
    simp
  | coe c =>
    induction b with
    | top => exact absurd h2 (by simp)
    | bot => obtain rfl := le_bot_iff.1 h1; simp
    | coe b =>
      induction a with
      | top => exact absurd h1 (by simp)
      | bot => simp
      | coe a =>
        rw [← EReal.coe_sub, ← EReal.coe_sub, ← EReal.coe_sub, Ideal.exp2_coe, Ideal.exp2_coe, Ideal.exp2_coe, ← EReal.coe_mul]
        refine congrArg _ ?_
        show (2 : ℝ) ^ (a - b) * (2 : ℝ) ^ (b - c) = (2 : ℝ) ^ (a - c)
        rw [← Real.rpow_add (by norm_num)]
        congr 1
        ring

theorem add_mul' {a b c : EReal} (h : 0 ≤ c) (h' : c ≠ ⊤) : (a + b) * c = a * c + b * c := EReal.right_distrib_of_nonneg_of_ne_top h h' a b

theorem sum_mul' {ι : Type*} (t : Finset ι) (f : ι → EReal) {c : EReal} (h : 0 ≤ c) (h' : c ≠ ⊤) : (∑ i ∈ t, f i) * c = ∑ i ∈ t, f i * c := by
  classical
  induction t using Finset.induction_on with
  | empty => simp
  | insert i t hi ih => rw [Finset.sum_insert hi, Finset.sum_insert hi, add_mul' h h', ih]

/-- `s`, kept relative to the maximum `m`, stands for the first `n` logits' powers of two weighted by `g`. -/
def Sums (x g : ℕ → EReal) (n : ℕ) (m s : EReal) : Prop := ∀ M, m ≤ M → s * Ideal.exp2 (m - M) = ∑ i ∈ Finset.range n, Ideal.exp2 (x i - M) * g i

/-- The maximum with four more logits. -/
def max4 (m x0 x1 x2 x3 : EReal) : EReal := max (max (max (max m x0) x1) x2) x3

theorem sums_zero (x g : ℕ → EReal) (m : EReal) : Sums x g 0 m 0 := fun M _ => by simp

theorem sums_step {x g : ℕ → EReal} {n : ℕ} {m s : EReal} (H : Sums x g n m s) :
    Sums x g (n + 4) (max4 m (x n) (x (n + 1)) (x (n + 2)) (x (n + 3)))
      (s * Ideal.exp2 (m - max4 m (x n) (x (n + 1)) (x (n + 2)) (x (n + 3)))
        + Ideal.exp2 (x n - max4 m (x n) (x (n + 1)) (x (n + 2)) (x (n + 3))) * g n
        + Ideal.exp2 (x (n + 1) - max4 m (x n) (x (n + 1)) (x (n + 2)) (x (n + 3))) * g (n + 1)
        + Ideal.exp2 (x (n + 2) - max4 m (x n) (x (n + 1)) (x (n + 2)) (x (n + 3))) * g (n + 2)
        + Ideal.exp2 (x (n + 3) - max4 m (x n) (x (n + 1)) (x (n + 2)) (x (n + 3))) * g (n + 3)) := by
  intro M hM
  have hm : m ≤ max4 m (x n) (x (n + 1)) (x (n + 2)) (x (n + 3)) := by simp [max4]
  have h0 : x n ≤ max4 m (x n) (x (n + 1)) (x (n + 2)) (x (n + 3)) := by simp [max4]
  have h1 : x (n + 1) ≤ max4 m (x n) (x (n + 1)) (x (n + 2)) (x (n + 3)) := by simp [max4]
  have h2 : x (n + 2) ≤ max4 m (x n) (x (n + 1)) (x (n + 2)) (x (n + 3)) := by simp [max4]
  have h3 : x (n + 3) ≤ max4 m (x n) (x (n + 1)) (x (n + 2)) (x (n + 3)) := by simp [max4]
  generalize max4 m (x n) (x (n + 1)) (x (n + 2)) (x (n + 3)) = m' at *
  have p := exp2_nonneg (m' - M)
  have q := exp2_ne_top (sub_ne_top hM)
  have e : ∀ a b : EReal, a ≤ m' → Ideal.exp2 (a - m') * b * Ideal.exp2 (m' - M) = Ideal.exp2 (a - M) * b := fun a b h => by
    rw [mul_right_comm, exp2_chain h hM]
  rw [add_mul' p q, add_mul' p q, add_mul' p q, add_mul' p q, e _ _ h0, e _ _ h1, e _ _ h2, e _ _ h3, mul_assoc, exp2_chain hm hM, H M (hm.trans hM)]
  rw [Finset.sum_range_succ _ (n + 3), Finset.sum_range_succ _ (n + 2), Finset.sum_range_succ _ (n + 1), Finset.sum_range_succ _ n]

theorem sup_step (x : ℕ → EReal) (n : ℕ) : max4 ((Finset.range n).sup x) (x n) (x (n + 1)) (x (n + 2)) (x (n + 3)) = (Finset.range (n + 4)).sup x := by
  have h : ∀ k, (Finset.range (k + 1)).sup x = max ((Finset.range k).sup x) (x k) := fun k => by
    rw [Finset.range_add_one, Finset.sup_insert, sup_comm]
  rw [h (n + 3), h (n + 2), h (n + 1), h n]
  rfl

/-! ### A shard's end -/

/-- Column `128 i + p`. -/
def colOf (i : Fin 256) (p : Fin 128) : Fin 32768 := ⟨128 * i.val + p.val, by omega⟩

theorem sum_cols (f : Fin 32768 → EReal) : ∑ p : Fin 128, ∑ i : Fin 256, f (colOf i p) = ∑ k, f k := by
  rw [Finset.sum_comm, ← Finset.sum_product', Finset.univ_product_univ]
  refine Fintype.sum_equiv (finProdFinEquiv (m := 256) (n := 128)) _ _ fun u => congrArg f (Fin.ext ?_)
  show 128 * u.1.val + u.2.val = u.2.val + 128 * u.1.val
  omega

theorem sup_cols (f : Fin 32768 → EReal) : (Finset.univ.sup fun p : Fin 128 => Finset.univ.sup fun i : Fin 256 => f (colOf i p)) = Finset.univ.sup f := by
  refine le_antisymm (Finset.sup_le fun p _ => Finset.sup_le fun i _ => Finset.le_sup (Finset.mem_univ _)) (Finset.sup_le fun k _ => ?_)
  have e : f k = f (colOf ⟨k.val / 128, by omega⟩ ⟨k.val % 128, by omega⟩) := congrArg f (Fin.ext (by show k.val = 128 * (k.val / 128) + k.val % 128; omega))
  rw [e]
  exact (Finset.le_sup (f := fun i : Fin 256 => f (colOf i ⟨k.val % 128, by omega⟩)) (Finset.mem_univ _)).trans
    (Finset.le_sup (f := fun p : Fin 128 => Finset.univ.sup fun i : Fin 256 => f (colOf i p)) (Finset.mem_univ _))

theorem sup_range (n : ℕ) (x : ℕ → EReal) : (Finset.range n).sup x = Finset.univ.sup fun i : Fin n => x i.val := by
  refine le_antisymm (Finset.sup_le fun k hk => ?_) (Finset.sup_le fun i _ => Finset.le_sup (Finset.mem_range.2 i.isLt))
  exact Finset.le_sup (f := fun i : Fin n => x i.val) (Finset.mem_univ ⟨k, Finset.mem_range.1 hk⟩)

/-- The lanes' sums brought to the shard's maximum. -/
theorem shard_sum (z g : Fin 32768 → EReal) (x d : Fin 128 → ℕ → EReal) (m s : Fin 128 → EReal)
    (hx : ∀ p (i : Fin 256), x p i.val = z (colOf i p)) (hd : ∀ p (i : Fin 256), d p i.val = g (colOf i p))
    (hm : ∀ p, m p = (Finset.range 256).sup (x p)) (hs : ∀ p, Sums (x p) (d p) 256 (m p) (s p)) :
    Finset.univ.sup m = Finset.univ.sup z ∧
      ∑ p, s p * Ideal.exp2 (m p - Finset.univ.sup m) = ∑ k, Ideal.exp2 (z k - Finset.univ.sup z) * g k := by
  have h : Finset.univ.sup m = Finset.univ.sup z := by
    rw [← sup_cols z]
    refine congrArg _ (funext fun p => ?_)
    rw [hm, sup_range]
    exact congrArg _ (funext fun i => hx p i)
  refine ⟨h, ?_⟩
  rw [← sum_cols fun k => Ideal.exp2 (z k - Finset.univ.sup z) * g k]
  refine Finset.sum_congr rfl fun p _ => ?_
  rw [hs p _ (Finset.le_sup (Finset.mem_univ p)), Finset.sum_range, h]
  exact Finset.sum_congr rfl fun i _ => by rw [hx, hd]

/-! ### Natural exponentials -/

/-- The logarithm of two. -/
def l2 : EReal := ((Real.log 2 : ℝ) : EReal)

theorem l2_pos : (0 : ℝ) < Real.log 2 := Real.log_pos (by norm_num)
theorem l2_nonneg : (0 : EReal) ≤ l2 := EReal.coe_nonneg.2 l2_pos.le
theorem l2_ne_top : l2 ≠ ⊤ := EReal.coe_ne_top _
theorem l2_inv : (((Real.log 2)⁻¹ : ℝ) : EReal) * l2 = 1 := by
  rw [l2, ← EReal.coe_mul, inv_mul_cancel₀ l2_pos.ne']; rfl

theorem sub_mul' (a b : EReal) : a * l2 - b * l2 = (a - b) * l2 := by
  rw [sub_eq_add_neg, sub_eq_add_neg, add_mul' l2_nonneg l2_ne_top, EReal.neg_mul]

theorem exp_scaled (a : EReal) : Ideal.exp (a * l2) = Ideal.exp2 a := by
  induction a with
  | bot => rw [l2, EReal.bot_mul_coe_of_pos l2_pos]; simp
  | top => rw [l2, EReal.top_mul_coe_of_pos l2_pos]; simp
  | coe a =>
    rw [l2, ← EReal.coe_mul, Ideal.exp_coe, Ideal.exp2_coe]
    refine congrArg _ ?_
    show Real.exp (a * Real.log 2) = (2 : ℝ) ^ a
    rw [Real.rpow_def_of_pos (by norm_num), mul_comm]

theorem sup_scaled {ι : Type*} [Fintype ι] (z : ι → EReal) [Nonempty ι] : (Finset.univ.sup fun k => z k * l2) = Finset.univ.sup z * l2 := by
  obtain ⟨k, _, hk⟩ := Finset.exists_mem_eq_sup (Finset.univ : Finset ι) Finset.univ_nonempty z
  refine le_antisymm (Finset.sup_le fun j _ => mul_le_mul_of_nonneg_right (Finset.le_sup (Finset.mem_univ j)) l2_nonneg) ?_
  rw [hk]
  exact Finset.le_sup (f := fun k => z k * l2) (Finset.mem_univ k)

theorem exps_scaled (z M : EReal) : Ideal.exp (z * l2 - M * l2) = Ideal.exp2 (z - M) := by rw [sub_mul', exp_scaled]

/-- The shard's logsumexp. -/
theorem lse_scaled (M s : EReal) : (M + Ideal.log s * (((Real.log 2)⁻¹ : ℝ) : EReal)) * l2 = M * l2 + Ideal.log s := by
  rw [add_mul' l2_nonneg l2_ne_top, mul_assoc, l2_inv, mul_one]

theorem div_scaled (a s : EReal) : Ideal.div a s * l2 = Ideal.div (a * l2) s := by
  unfold Ideal.div
  by_cases h : s = 0
  · rw [if_pos h, if_pos h]
    have e : 0 < a * l2 ↔ 0 < a := by
      induction a with
      | bot => rw [l2, EReal.bot_mul_coe_of_pos l2_pos]
      | top => rw [l2, EReal.top_mul_coe_of_pos l2_pos]
      | coe a =>
        rw [l2, ← EReal.coe_mul, EReal.coe_pos, EReal.coe_pos]
        exact mul_pos_iff_of_pos_right l2_pos
    by_cases h' : 0 < a
    · rw [if_pos h', if_pos (e.2 h'), l2, EReal.top_mul_coe_of_pos l2_pos]
    · rw [if_neg h', if_neg (fun h => h' (e.1 h)), l2, EReal.bot_mul_coe_of_pos l2_pos]
  · rw [if_neg h, if_neg h, mul_right_comm]

/-- What the reference sums. -/
theorem sum_scaled {ι : Type*} [Fintype ι] (z y : ι → EReal) (M : EReal) :
    ∑ k, Ideal.exp (z k * l2 - M * l2) * (z k * l2 - y k * l2) = (∑ k, Ideal.exp2 (z k - M) * (z k - y k)) * l2 := by
  rw [sum_mul' _ _ l2_nonneg l2_ne_top]
  exact Finset.sum_congr rfl fun k _ => by rw [exps_scaled, sub_mul', mul_assoc]

/-- The running greatest of finitely many numbers from -infinity is their supremum. -/
theorem fold_max {n : ℕ} (f : Fin n → EReal) : Finset.fold max ⊥ f Finset.univ = Finset.univ.sup f := rfl

end Cert.Fold
-- ==== Proof.Value.Pow.lean ====
/-
  The quantiser's scale of one token, as a number.

  The kernel counts the powers of two `2 ^ (k - 127)`, `1 ≤ k ≤ 255`, that are at most the token's greatest magnitude
  over 448, and builds the scale and its inverse from the count, as words. The plain quantiser takes the least power
  above it, and divides by it. Below `2 ^ 126` the two agree.
-/
module

public import proofs.«01_k».proof.Proof.Value.Fold
public import Idealize.ShloMosaic.Lib.Pointwise

@[expose] public section

set_option maxRecDepth 16384

noncomputable section

namespace Cert.Fold

open Idealize.ShloMosaic

/-- The power of two whose word has the biased exponent `k`. -/
def pw (k : ℕ) : EReal := (((2 : ℝ) ^ ((k : ℤ) - 127) : ℝ) : EReal)

theorem pw_pos (k : ℕ) : (0 : EReal) < pw k := EReal.coe_pos.2 (by positivity)

/-- The word of biased exponent `x` and mantissa zero. -/
abbrev expWord (x : BitVec 32) : BitVec 32 := IntOp.shli ArithUnit.vector x 23#32

theorem pw_le {k l : ℕ} (h : k ≤ l) : pw k ≤ pw l :=
  EReal.coe_le_coe_iff.2 (zpow_le_zpow_right₀ (by norm_num) (by omega))
theorem pw_lt {k l : ℕ} (h : k < l) : pw k < pw l :=
  EReal.coe_lt_coe_iff.2 (zpow_lt_zpow_right₀ (by norm_num) (by omega))

theorem field_sign : ∀ k : Fin 256, ((expWord (BitVec.ofNat 32 k.val)).extractLsb' 31 1 == 1#1) = false := by decide
theorem field_exp : ∀ k : Fin 256, ((expWord (BitVec.ofNat 32 k.val)).extractLsb' 23 8).toNat = k.val := by decide
theorem field_frac : ∀ k : Fin 256, ((expWord (BitVec.ofNat 32 k.val)).extractLsb' 0 23).toNat = 0 := by decide

theorem ieee_word (w : BitVec 32) (k : ℕ) (h1 : (w.extractLsb' 31 1 == 1#1) = false) (h2 : (w.extractLsb' 23 8).toNat = k) (h3 : (w.extractLsb' 0 23).toNat = 0) :
    Ideal.ofBits .f32 w = if k = 255 then ⊤ else if k = 0 then 0 else pw k := by
  simp only [Ideal.ofBits, Ideal.ieee]
  rw [h1, h2, h3]
  by_cases hk : k = 255
  · simp [hk]
  · by_cases h0 : k = 0
    · simp [h0]
    · simp only [hk, h0, if_false, pw, Nat.reducePow, Nat.reduceSub]
      congr 1
      rw [show ((k : ℤ) - 127) = 23 + ((k : ℤ) - (2 ^ 7 - 1) - (23 : ℕ)) by push_cast; ring, zpow_add₀ (by norm_num)]
      norm_num

theorem ofBits_word {k : ℕ} (h : 1 ≤ k) (h' : k ≤ 254) : Ideal.ofBits .f32 (expWord (BitVec.ofNat 32 k)) = pw k := by
  rw [ieee_word _ k (field_sign ⟨k, by omega⟩) (field_exp ⟨k, by omega⟩) (field_frac ⟨k, by omega⟩), if_neg (by omega), if_neg (by omega)]

theorem ofBits_top : Ideal.ofBits .f32 (expWord (BitVec.ofNat 32 255)) = ⊤ := by
  rw [ieee_word _ 255 (field_sign ⟨255, by omega⟩) (field_exp ⟨255, by omega⟩) (field_frac ⟨255, by omega⟩), if_pos rfl]

/-- Below `2 ^ 126` the powers at most `x` are the first `n`, for some `n`. -/
theorem threshold (x : EReal) (hx : x < pw 253) : ∃ n ≤ 252, ∀ k, 1 ≤ k → (pw k ≤ x ↔ k ≤ n) := by
  classical
  refine ⟨Nat.findGreatest (fun k => pw k ≤ x) 252, Nat.findGreatest_le 252, fun k hk => ⟨fun h => ?_, fun h => ?_⟩⟩
  · have : k ≤ 252 := by
      by_contra hc
      exact absurd (lt_of_lt_of_le hx ((pw_le (by omega)).trans h)) (lt_irrefl _)
    exact Nat.le_findGreatest this h
  · generalize hm : Nat.findGreatest (fun k => pw k ≤ x) 252 = m at h
    exact (pw_le h).trans (Nat.findGreatest_of_ne_zero hm (by omega))

theorem count_lt (n : ℕ) (hn : n ≤ 252) : (Finset.univ.filter fun x : Fin 255 => x.val + 1 ≤ n).card = n := by
  rw [← Fintype.card_subtype]
  let e : {x : Fin 255 // x.val + 1 ≤ n} ≃ Fin n :=
    ⟨fun x => ⟨x.1.val, x.2⟩, fun i => ⟨⟨i.val, by omega⟩, i.2⟩, fun _ => rfl, fun _ => rfl⟩
  rw [Fintype.card_congr e, Fintype.card_fin]

theorem fold_addi {ι : Type*} (s : Finset ι) (p : ι → Prop) [DecidablePred p] :
    s.fold IntOp.addi (0#32) (fun x => BitVec.setWidth 32 (BitVec.ofBool (decide (p x)))) = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (fun hm => ha (Finset.mem_filter.1 hm).1), decide_eq_true h]
      show 1#32 + _ = _
      rw [Nat.add_comm, BitVec.ofNat_add]
    · rw [if_neg h, decide_eq_false h]
      show 0#32 + _ = _
      rw [BitVec.zero_add]

/-- The kernel's exponent, scale and inverse from a token's greatest magnitude. -/
def kExp (a : EReal) : BitVec 32 :=
  if a = 0 then 0#32
  else IntOp.subi (Finset.fold IntOp.addi (0#32) (fun x : Fin 255 => BitVec.setWidth 32 (BitVec.ofBool (decide
    (Ideal.ofBits .f32 (expWord (IntOp.addi (BitVec.ofNat 32 x.val) 1#32)) ≤ a * Ideal.ofBits .f32 991054117#32)))) Finset.univ) 126#32
def kScale (a : EReal) : EReal := Ideal.ofBits .f32 (expWord (IntOp.addi (kExp a) 127#32))
def kInv (a : EReal) : EReal := Ideal.ofBits .f32 (expWord (IntOp.subi 127#32 (kExp a)))

/-- The power of two whose exponent is `x - 126`. -/
abbrev expOf (x : Fin 253) : EReal := Ideal.exp2 (((IntOp.subi (BitVec.ofNat 32 x.val) 126#32).toInt : ℝ) : EReal)

theorem expOf_int : ∀ x : Fin 253, (IntOp.subi (BitVec.ofNat 32 x.val) 126#32).toInt = (x.val : ℤ) - 126 := by decide

theorem expOf_eq (x : Fin 253) : expOf x = pw (x.val + 1) := by
  rw [expOf, expOf_int, Ideal.exp2_coe, pw]
  refine congrArg _ ?_
  show (2 : ℝ) ^ (((x.val : ℤ) - 126 : ℤ) : ℝ) = _
  rw [Real.rpow_intCast]
  congr 1
  push_cast
  ring

/-- The plain quantiser's scale. -/
def rScale (a : EReal) : EReal :=
  if a = 0 then 1
  else Finset.fold min (Ideal.ofBits .f32 2139095040#32) (fun x : Fin 253 =>
    if a * Ideal.ofBits .f32 991054117#32 < expOf x then expOf x
    else Ideal.ofBits .f32 2139095040#32) Finset.univ

theorem addi_ofNat (a b : ℕ) : IntOp.addi (BitVec.ofNat 32 a) (BitVec.ofNat 32 b) = BitVec.ofNat 32 (a + b) := (BitVec.ofNat_add a b).symm

theorem ofBits_inf : Ideal.ofBits .f32 2139095040#32 = ⊤ := by simp [Ideal.ofBits, Ideal.ieee]
theorem ofBits_448inv : Ideal.ofBits .f32 991054117#32 = ((9586981 * (2 : ℝ) ^ (-32 : ℤ) : ℝ) : EReal) := by
  simp [Ideal.ofBits, Ideal.ieee, -EReal.coe_mul]
theorem ofBits_maxBf16 : Ideal.ofBits .bf16 0x7F7F#16 = ((255 * (2 : ℝ) ^ (120 : ℤ) : ℝ) : EReal) := by
  simp [Ideal.ofBits, Ideal.ieee, -EReal.coe_mul]

theorem small_of_le {a : EReal} (h : a ≤ Ideal.ofBits .bf16 0x7F7F#16) : a * Ideal.ofBits .f32 991054117#32 < pw 253 := by
  rw [ofBits_448inv]
  rw [ofBits_maxBf16] at h
  refine lt_of_le_of_lt (mul_le_mul_of_nonneg_right h (EReal.coe_nonneg.2 (by positivity))) ?_
  rw [← EReal.coe_mul, pw, EReal.coe_lt_coe_iff]
  norm_num

/-- What the count says of both: the scale is the `n + 1`-st power, or the token is zero. -/
theorem scales {a : EReal} (h : a ≤ Ideal.ofBits .bf16 0x7F7F#16) : ∃ n ≤ 252, kScale a = pw (n + 1) ∧ kInv a = pw (253 - n) ∧ rScale a = pw (n + 1) := by
  by_cases h0 : a = 0
  · refine ⟨126, by norm_num, ?_, ?_, ?_⟩
    · rw [kScale, kExp, if_pos h0]; exact ofBits_word (k := 127) (by norm_num) (by norm_num)
    · rw [kInv, kExp, if_pos h0]; exact ofBits_word (k := 127) (by norm_num) (by norm_num)
    · rw [rScale, if_pos h0, pw]; norm_num
  · obtain ⟨n, hn, H⟩ := threshold _ (small_of_le h)
    have hc : kExp a = IntOp.subi (BitVec.ofNat 32 n) 126#32 := by
      rw [kExp, if_neg h0, fold_addi]
      refine congrArg (fun c => IntOp.subi (BitVec.ofNat 32 c) 126#32) ?_
      refine Eq.trans (congrArg Finset.card (Finset.filter_congr fun x _ => ?_)) (count_lt n hn)
      rw [addi_ofNat x.val 1]
      by_cases hx : x.val + 1 ≤ 254
      · rw [ofBits_word (by omega) hx]
        exact H _ (by omega)
      · rw [show x.val + 1 = 255 by omega, ofBits_top]
        exact ⟨fun ht => absurd (lt_of_lt_of_le (small_of_le h) (le_top.trans ht)) (lt_irrefl _), fun ht => by omega⟩
    refine ⟨n, hn, ?_, ?_, ?_⟩
    · rw [kScale, hc, show IntOp.addi (IntOp.subi (BitVec.ofNat 32 n) 126#32) 127#32 = BitVec.ofNat 32 (n + 1) from ?_]
      · exact ofBits_word (by omega) (by omega)
      · show BitVec.ofNat 32 n - 126#32 + 127#32 = BitVec.ofNat 32 (n + 1)
        rw [BitVec.ofNat_add]
        generalize BitVec.ofNat 32 n = y
        rw [BitVec.sub_eq_add_neg, BitVec.add_assoc]
        rfl
    · rw [kInv, hc, show IntOp.subi 127#32 (IntOp.subi (BitVec.ofNat 32 n) 126#32) = BitVec.ofNat 32 (253 - n) from ?_]
      · exact ofBits_word (by omega) (by omega)
      · show 127#32 - (BitVec.ofNat 32 n - 126#32) = BitVec.ofNat 32 (253 - n)
        apply BitVec.eq_of_toNat_eq
        simp only [BitVec.toNat_sub, BitVec.toNat_ofNat]
        omega
    · rw [rScale, if_neg h0]
      have hlt : ∀ k, 1 ≤ k → (a * Ideal.ofBits .f32 991054117#32 < pw k ↔ n < k) := fun k hk => by
        rw [← not_le, H k hk, not_le]
      simp only [expOf_eq, ofBits_inf]
      show Finset.univ.inf (fun x : Fin 253 => if a * Ideal.ofBits .f32 991054117#32 < pw (x.val + 1) then pw (x.val + 1) else ⊤) = pw (n + 1)
      refine le_antisymm ((Finset.inf_le (Finset.mem_univ (⟨n, by omega⟩ : Fin 253))).trans ?_) (Finset.le_inf fun x _ => ?_)
      · rw [if_pos ((hlt (n + 1) (by omega)).2 (by omega))]
      · by_cases hx : n < x.val + 1
        · rw [if_pos ((hlt _ (by omega)).2 hx)]
          exact pw_le hx
        · rw [if_neg fun hc => hx ((hlt _ (by omega)).1 hc)]
          exact le_top

theorem scale_eq {a : EReal} (h : a ≤ Ideal.ofBits .bf16 0x7F7F#16) : kScale a = rScale a := by
  obtain ⟨n, _, h1, _, h3⟩ := scales h
  rw [h1, h3]
theorem inv_eq {a : EReal} (h : a ≤ Ideal.ofBits .bf16 0x7F7F#16) : kInv a = Ideal.div 1 (rScale a) := by
  obtain ⟨n, hn, _, h2, h3⟩ := scales h
  rw [h2, h3]
  unfold Ideal.div
  rw [if_neg (pw_pos _).ne', one_mul, pw, pw, ← EReal.coe_inv, ← zpow_neg]
  congr 2
  push_cast [show n ≤ 253 by omega]
  ring

end Cert.Fold
-- ==== Proof.Value.Row.lean ====
/-
  One half tile of the accumulation, read at a row and a lane: the running maximum, sum and weighted difference after four
  more logits of the lane.
-/
module

public import proofs.«01_k».proof.Proof.KernelIdeal.Seq
public import proofs.«01_k».proof.Proof.Value.Fold
public import Idealize.ShloMosaic.Lib.Pointwise

@[expose] public section

set_option maxRecDepth 16384

noncomputable section

namespace Cert.KernelIdeal.Body

open Cert.KernelIdeal Cert.KernelIdeal.Gen Cert.Common Cert.Fold
open Idealize.ShloMosaic Idealize.ShloMosaic.VecWindow

theorem w8_apply (x : Vec Ideal S256x128 .f32) (r : Fin 32) (y : Fin 8) (p : Fin 128) : w8 x r (ix2 y p) = x (ix2 (⟨8 * r.val + y.val, by omega⟩ : Fin 256) p) :=
  congrArg x (funext fun d => match d with
    | ⟨0, _⟩ => Fin.ext (by show 8 * r.val + 1 * y.val = 8 * r.val + y.val; omega)
    | ⟨1, _⟩ => Fin.ext (by show 0 + 1 * p.val = p.val; omega))
theorem wScale_apply (x : Vec Ideal S1x1024 .f32) (n : Fin 2) (l : Fin 4) (p : Fin 128) :
    wScale x n l (ix2 (0 : Fin 1) p) = x (ix2 (0 : Fin 1) (⟨512 * n.val + 128 * l.val + p.val, by omega⟩ : Fin 1024)) :=
  congrArg x (funext fun d => match d with
    | ⟨0, _⟩ => Fin.ext (by show 0 + 1 * 0 = 0; omega)
    | ⟨1, _⟩ => Fin.ext (by show 512 * n.val + 128 * l.val + 1 * p.val = 512 * n.val + 128 * l.val + p.val; omega))
theorem rowsWT_apply (w : Vec Ideal S1024x2560 .fp8e4m3) (n : Fin 2) (j : Fin 512) (d : Fin 2560) :
    window w ![512 * n.val, 0] S512x2560.size (inbWT n) (ix2 j d) = w (ix2 (⟨512 * n.val + j.val, by omega⟩ : Fin 1024) d) :=
  congrArg w (funext fun e => match e with
    | ⟨0, _⟩ => Fin.ext (by show 512 * n.val + 1 * j.val = 512 * n.val + j.val; omega)
    | ⟨1, _⟩ => Fin.ext (by show 0 + 1 * d.val = d.val; omega))
theorem rowsWS_apply (w : Vec Ideal S1024x1152 .fp8e4m3) (n : Fin 2) (j : Fin 512) (d : Fin 1152) :
    window w ![512 * n.val, 0] S512x1152.size (inbWS n) (ix2 j d) = w (ix2 (⟨512 * n.val + j.val, by omega⟩ : Fin 1024) d) :=
  congrArg w (funext fun e => match e with
    | ⟨0, _⟩ => Fin.ext (by show 512 * n.val + 1 * j.val = 512 * n.val + j.val; omega)
    | ⟨1, _⟩ => Fin.ext (by show 0 + 1 * d.val = d.val; omega))

/-- The base-2 logit of a token and a row of a weight tile, as the kernel scales it, on the lane of that row. -/
def zOf {D : Nat} (codes : (⟨2, ![256, D]⟩ : Shape).Idx → EReal) (w : (⟨2, ![1024, D]⟩ : Shape).Idx → EReal) (tok : S256x128.Idx → EReal) (ws : S1x1024.Idx → EReal)
    (b : Fin 256) (p : Fin 128) (j : Fin 1024) : EReal :=
  (∑ d : Fin D, codes (ix2 b d) * w (ix2 j d)) * tok (ix2 b p) * ws (ix2 (0 : Fin 1) j)

theorem logitT_apply (ct : Vec Ideal S256x2560 .fp8e4m3) (w : Vec Ideal S1024x2560 .fp8e4m3) (tok : Vec Ideal S256x128 .f32) (ws : Vec Ideal S1x1024 .f32)
    (n : Fin 2) (l : Fin 4) (r : Fin 32) (y : Fin 8) (p : Fin 128) :
    logit (accT ct (window w ![512 * n.val, 0] S512x2560.size (inbWT n))) r l (w8 tok r) (wScale ws n l) (ix2 y p)
      = zOf ct w tok ws (⟨8 * r.val + y.val, by omega⟩ : Fin 256) p (⟨512 * n.val + 128 * l.val + p.val, by omega⟩ : Fin 1024) := by
  pointwise [logit, accT]
  rw [w8_apply, wScale_apply]
  unfold zOf
  congr 2
  refine Finset.sum_congr rfl fun d _ => congrArg _ ((rowsWT_apply w n _ d).trans ?_)
  exact congrArg (fun j => w (ix2 j d)) (Fin.ext (by show 512 * n.val + (128 * l.val + p.val) = 512 * n.val + 128 * l.val + p.val; omega))
theorem logitS_apply (cs : Vec Ideal S256x1152 .fp8e4m3) (w : Vec Ideal S1024x1152 .fp8e4m3) (tok : Vec Ideal S256x128 .f32) (ws : Vec Ideal S1x1024 .f32)
    (n : Fin 2) (l : Fin 4) (r : Fin 32) (y : Fin 8) (p : Fin 128) :
    logit (accS cs (window w ![512 * n.val, 0] S512x1152.size (inbWS n))) r l (w8 tok r) (wScale ws n l) (ix2 y p)
      = zOf cs w tok ws (⟨8 * r.val + y.val, by omega⟩ : Fin 256) p (⟨512 * n.val + 128 * l.val + p.val, by omega⟩ : Fin 1024) := by
  pointwise [logit, accS]
  rw [w8_apply, wScale_apply]
  unfold zOf
  congr 2
  refine Finset.sum_congr rfl fun d _ => congrArg _ ((rowsWS_apply w n _ d).trans ?_)
  exact congrArg (fun j => w (ix2 j d)) (Fin.ext (by show 512 * n.val + (128 * l.val + p.val) = 512 * n.val + 128 * l.val + p.val; omega))

/-! ### The five arrays after half a tile -/

/-- The five running arrays, numbered. -/
def arr (i : Fin 5) (A : Acc Ideal) : S256x128.Idx → EReal :=
  match i with
  | 0 => A.m
  | 1 => A.s
  | 2 => A.a
  | 3 => A.ms
  | 4 => A.ss

/-- What a block of rows computes of four logits of each model for each array, -/
def newBlk (i : Fin 5) (m s a ms ss x0 x1 x2 x3 y0 y1 y2 y3 : FVec Ideal S8x128 .f32) : FVec Ideal S8x128 .f32 :=
  match i with
  | 0 => newM m x0 x1 x2 x3
  | 1 => newS m s x0 x1 x2 x3
  | 2 => newA m a x0 x1 x2 x3 y0 y1 y2 y3
  | 3 => newM ms y0 y1 y2 y3
  | 4 => newS ms ss y0 y1 y2 y3
/-- and one lane of a row. -/
def newLane (i : Fin 5) (m s a ms ss x0 x1 x2 x3 y0 y1 y2 y3 : EReal) : EReal :=
  match i with
  | 0 => max4 m x0 x1 x2 x3
  | 1 => s * Ideal.exp2 (m - max4 m x0 x1 x2 x3) + Ideal.exp2 (x0 - max4 m x0 x1 x2 x3) + Ideal.exp2 (x1 - max4 m x0 x1 x2 x3)
      + Ideal.exp2 (x2 - max4 m x0 x1 x2 x3) + Ideal.exp2 (x3 - max4 m x0 x1 x2 x3)
  | 2 => a * Ideal.exp2 (m - max4 m x0 x1 x2 x3) + Ideal.exp2 (x0 - max4 m x0 x1 x2 x3) * (x0 - y0) + Ideal.exp2 (x1 - max4 m x0 x1 x2 x3) * (x1 - y1)
      + Ideal.exp2 (x2 - max4 m x0 x1 x2 x3) * (x2 - y2) + Ideal.exp2 (x3 - max4 m x0 x1 x2 x3) * (x3 - y3)
  | 3 => max4 ms y0 y1 y2 y3
  | 4 => ss * Ideal.exp2 (ms - max4 ms y0 y1 y2 y3) + Ideal.exp2 (y0 - max4 ms y0 y1 y2 y3) + Ideal.exp2 (y1 - max4 ms y0 y1 y2 y3)
      + Ideal.exp2 (y2 - max4 ms y0 y1 y2 y3) + Ideal.exp2 (y3 - max4 ms y0 y1 y2 y3)

theorem newBlk_apply (i : Fin 5) (m s a ms ss x0 x1 x2 x3 y0 y1 y2 y3 : FVec Ideal S8x128 .f32) (j : S8x128.Idx) :
    shapeCast S8x128 (newBlk i m s a ms ss x0 x1 x2 x3 y0 y1 y2 y3) shapeCasts_S8x128_S8x128 j
      = newLane i (m j) (s j) (a j) (ms j) (ss j) (x0 j) (x1 j) (x2 j) (x3 j) (y0 j) (y1 j) (y2 j) (y3 j) := by
  idx_vars j
  fin_cases i <;> pointwise [newBlk, newM, newS, newA, newLane, max4] <;> rfl

section
variable (wt ws : Vec Ideal S1x1024 .f32) (tT tS : Vec Ideal S256x128 .f32) (n : Fin 2) (at' as' : FVec Ideal S256x512 .f32)

/-- The block a step of the rows writes. -/
def blkOf (i : Fin 5) (r : Fin 32) (A : Acc Ideal) : FVec Ideal S8x128 .f32 :=
  newBlk i (w8 A.m r) (w8 A.s r) (w8 A.a r) (w8 A.ms r) (w8 A.ss r)
    (logit at' r 0 (w8 tT r) (wScale wt n 0)) (logit at' r 1 (w8 tT r) (wScale wt n 1)) (logit at' r 2 (w8 tT r) (wScale wt n 2)) (logit at' r 3 (w8 tT r) (wScale wt n 3))
    (logit as' r 0 (w8 tS r) (wScale ws n 0)) (logit as' r 1 (w8 tS r) (wScale ws n 1)) (logit as' r 2 (w8 tS r) (wScale ws n 2)) (logit as' r 3 (w8 tS r) (wScale ws n 3))

theorem w8_congr {x x' : Vec Ideal S256x128 .f32} (r : Fin 32) (h : ∀ y : S256x128.Idx, InRows 8 r.val y → x y = x' y) : w8 x r = w8 x' r := funext fun j => by
  idx_vars j
  rw [w8_apply, w8_apply]
  exact h _ (inRows 8 r.val (by decide) _ (by show (8 * r.val + j0.val) / 8 = r.val; omega))

theorem rows_apply (A : Acc Ideal) (i : Fin 5) (r : Fin 32) (y : S256x128.Idx) (hy : InRows 8 r.val y) :
    arr i (iter (rowStep wt ws tT tS n at' as') A 32) y
      = shapeCast S8x128 (blkOf wt ws tT tS n at' as' i r A) shapeCasts_S8x128_S8x128 (Rect.unitLocal (s := S256x128) (off := ![8 * r.val, 0]) (size := S8x128.size) y hy) := by
  refine iter_blocks (ι := Fin 5) (s := S256x128) arr (rowStep wt ws tT tS n at' as') (fun r => ![8 * r.val, 0]) S8x128.size
    (fun i r A => shapeCast S8x128 (blkOf wt ws tT tS n at' as' i r A) shapeCasts_S8x128_S8x128) ?_ ?_ (fun r r' y => rows_apart 8 r r' y) A r i y hy
  · intro i r A
    fin_cases i <;> rfl
  · intro r A A' h i
    show shapeCast S8x128 (blkOf wt ws tT tS n at' as' i r A) _ = shapeCast S8x128 (blkOf wt ws tT tS n at' as' i r A') _
    unfold blkOf
    rw [w8_congr (x := A.m) (x' := A'.m) r (h 0), w8_congr (x := A.s) (x' := A'.s) r (h 1), w8_congr (x := A.a) (x' := A'.a) r (h 2),
      w8_congr (x := A.ms) (x' := A'.ms) r (h 3), w8_congr (x := A.ss) (x' := A'.ss) r (h 4)]

end

/-- Half a tile, at a row and a lane. -/
theorem half_apply (ct : Vec Ideal S256x2560 .fp8e4m3) (cs : Vec Ideal S256x1152 .fp8e4m3) (w : Vec Ideal S1024x2560 .fp8e4m3) (u : Vec Ideal S1024x1152 .fp8e4m3)
    (wt ws : Vec Ideal S1x1024 .f32) (tT tS : Vec Ideal S256x128 .f32) (n : Fin 2) (A : Acc Ideal) (i : Fin 5) (b : Fin 256) (p : Fin 128)
    (x y : Fin 4 → EReal) (hx : ∀ l : Fin 4, x l = zOf ct w tT wt b p (⟨512 * n.val + 128 * l.val + p.val, by omega⟩ : Fin 1024))
    (hy : ∀ l : Fin 4, y l = zOf cs u tS ws b p (⟨512 * n.val + 128 * l.val + p.val, by omega⟩ : Fin 1024)) :
    arr i (halfStep ct cs w u wt ws tT tS n A) (ix2 b p)
      = newLane i (A.m (ix2 b p)) (A.s (ix2 b p)) (A.a (ix2 b p)) (A.ms (ix2 b p)) (A.ss (ix2 b p)) (x 0) (x 1) (x 2) (x 3) (y 0) (y 1) (y 2) (y 3) := by
  have hr : InRows 8 (⟨b.val / 8, by omega⟩ : Fin 32).val (ix2 b p) := inRows 8 _ (by decide) _ rfl
  have hl : Rect.unitLocal (s := S256x128) (off := ![8 * (b.val / 8), 0]) (size := S8x128.size) (ix2 b p) hr = ix2 (⟨b.val % 8, by omega⟩ : Fin 8) p := funext fun d => match d with
    | ⟨0, _⟩ => Fin.ext (by show b.val - 8 * (b.val / 8) = b.val % 8; omega)
    | ⟨1, _⟩ => Fin.ext (by show p.val - 0 = p.val; omega)
  have hb : (⟨8 * (⟨b.val / 8, by omega⟩ : Fin 32).val + (⟨b.val % 8, by omega⟩ : Fin 8).val, by omega⟩ : Fin 256) = b := Fin.ext (by show 8 * (b.val / 8) + b.val % 8 = b.val; omega)
  refine (rows_apply wt ws tT tS n _ _ A i ⟨b.val / 8, by omega⟩ (ix2 b p) hr).trans ?_
  refine (congrArg _ hl).trans ?_
  have eT : ∀ l : Fin 4, x l = logit (accT ct (window w ![512 * n.val, 0] S512x2560.size (inbWT n))) ⟨b.val / 8, by omega⟩ l (w8 tT ⟨b.val / 8, by omega⟩) (wScale wt n l) (ix2 (⟨b.val % 8, by omega⟩ : Fin 8) p) := fun l =>
    (hx l).trans ((congrArg (fun b => zOf ct w tT wt b p _) hb.symm).trans (logitT_apply ct w tT wt n l _ _ p).symm)
  have eS : ∀ l : Fin 4, y l = logit (accS cs (window u ![512 * n.val, 0] S512x1152.size (inbWS n))) ⟨b.val / 8, by omega⟩ l (w8 tS ⟨b.val / 8, by omega⟩) (wScale ws n l) (ix2 (⟨b.val % 8, by omega⟩ : Fin 8) p) := fun l =>
    (hy l).trans ((congrArg (fun b => zOf cs u tS ws b p _) hb.symm).trans (logitS_apply cs u tS ws n l _ _ p).symm)
  have e8 : ∀ X : Vec Ideal S256x128 .f32, X (ix2 b p) = w8 X ⟨b.val / 8, by omega⟩ (ix2 (⟨b.val % 8, by omega⟩ : Fin 8) p) := fun X =>
    (congrArg (fun b => X (ix2 b p)) hb.symm).trans (w8_apply X _ _ p).symm
  rw [eT 0, eT 1, eT 2, eT 3, eS 0, eS 1, eS 2, eS 3, e8 A.m, e8 A.s, e8 A.a, e8 A.ms, e8 A.ss]
  exact newBlk_apply i _ _ _ _ _ _ _ _ _ _ _ _ _ _

end Cert.KernelIdeal.Body
-- ==== Proof.Value.Lanes.lean ====
/-
  The running arrays at Ideal, lane by lane: after `n` of a shard's logits on a lane, the maximum is their supremum and the
  sums stand for all of them; and what the shard's end makes of the lanes.
-/
module

public import proofs.«01_k».proof.Proof.Value.Row

@[expose] public section

set_option maxRecDepth 16384

noncomputable section

namespace Cert.KernelIdeal.Body

open Cert.KernelIdeal Cert.KernelIdeal.Gen Cert.Common Cert.Fold
open Idealize.ShloMosaic Idealize.ShloMosaic.VecWindow

/-- A word's value decided by its fields. -/
theorem ofBits_negInf : Ideal.ofBits .f32 0xFF800000#32 = ⊥ := by
  simp [Ideal.ofBits, Ideal.ieee]

theorem negInf_apply (j : S256x128.Idx) : (negInf (F := Ideal)) j = (⊥ : EReal) := ofBits_negInf
theorem zeros_apply (j : S256x128.Idx) : (zeros (F := Ideal)) j = (0 : EReal) := by
  show Ideal.ofBits .f32 0x00000000#32 = 0
  pointwise

theorem cLn2_eq : (cLn2 : Ideal .f32) = l2 := rfl
theorem cLog2e_eq : (cLog2e : Ideal .f32) = (((Real.log 2)⁻¹ : ℝ) : EReal) := rfl
theorem cTemp_eq : (cTemp : Ideal .f32) = (((Real.log 2)⁻¹ * 2⁻¹ : ℝ) : EReal) := rfl

variable (I : Fin cfg0.N → In Ideal)

/-- The step that sees a lane's `i`-th logit of a shard, and the row of that step's tile it is. -/
def stepOf (c : Fin 4) (i : ℕ) : Fin cfg0.N := ⟨(32 * c.val + i / 8) % 128, by rw [N0]; exact Nat.mod_lt _ (by decide)⟩
def rowOf (i : ℕ) (p : Fin 128) : Fin 1024 := ⟨128 * (i % 8) + p.val, by omega⟩
/-- The teacher's logits a lane sees, and the student's. -/
def xs (c : Fin 4) (b : Fin 256) (p : Fin 128) (i : ℕ) : EReal := zOf (XT I).ct (I (stepOf c i)).w (XT I).tT (I (stepOf c i)).wt b p (rowOf i p)
def ys (c : Fin 4) (b : Fin 256) (p : Fin 128) (i : ℕ) : EReal := zOf (YS I).cs (I (stepOf c i)).u (YS I).tS (I (stepOf c i)).ws b p (rowOf i p)

/-- The running arrays hold the lane's first `n` logits. -/
structure LaneInv (c : Fin 4) (b : Fin 256) (p : Fin 128) (n : ℕ) (A : Acc Ideal) : Prop where
  m : A.m (ix2 b p) = (Finset.range n).sup (xs I c b p)
  s : Sums (xs I c b p) (fun _ => 1) n (A.m (ix2 b p)) (A.s (ix2 b p))
  a : Sums (xs I c b p) (fun i => xs I c b p i - ys I c b p i) n (A.m (ix2 b p)) (A.a (ix2 b p))
  ms : A.ms (ix2 b p) = (Finset.range n).sup (ys I c b p)
  ss : Sums (ys I c b p) (fun _ => 1) n (A.ms (ix2 b p)) (A.ss (ix2 b p))

theorem lane_reset (c : Fin 4) (b : Fin 256) (p : Fin 128) : LaneInv I c b p 0 resetAcc where
  m := negInf_apply (ix2 b p)
  s := by
    rw [show (resetAcc (F := Ideal)).s (ix2 b p) = (0 : EReal) from zeros_apply (ix2 b p)]
    exact sums_zero _ _ _
  a := by
    rw [show (resetAcc (F := Ideal)).a (ix2 b p) = (0 : EReal) from zeros_apply (ix2 b p)]
    exact sums_zero _ _ _
  ms := negInf_apply (ix2 b p)
  ss := by
    rw [show (resetAcc (F := Ideal)).ss (ix2 b p) = (0 : EReal) from zeros_apply (ix2 b p)]
    exact sums_zero _ _ _

theorem step_at (c : Fin 4) (τ : ℕ) (t : Fin cfg0.N) (ht : t.val = 32 * c.val + τ) (k : Fin 2) (l : Fin 4) (n : ℕ) (hn : n = 8 * τ + 4 * k.val + l.val) (hτ : τ < 32) (p : Fin 128) :
    stepOf c n = t ∧ rowOf n p = (⟨512 * k.val + 128 * l.val + p.val, by omega⟩ : Fin 1024) := by
  have h1 : n / 8 = τ := by omega
  have h2 : n % 8 = 4 * k.val + l.val := by omega
  exact ⟨Fin.ext (by show (32 * c.val + n / 8) % 128 = t.val; rw [h1, ht]; omega), Fin.ext (by show 128 * (n % 8) + p.val = 512 * k.val + 128 * l.val + p.val; omega)⟩

/-- Half a tile takes the lane four logits on. -/
theorem lane_half (c : Fin 4) (b : Fin 256) (p : Fin 128) (τ : ℕ) (hτ : τ < 32) (t : Fin cfg0.N) (ht : t.val = 32 * c.val + τ) (k : Fin 2) (A : Acc Ideal) (n : ℕ)
    (hn : n = 8 * τ + 4 * k.val) (H : LaneInv I c b p n A) :
    LaneInv I c b p (n + 4) (halfStep (XT I).ct (YS I).cs (I t).w (I t).u (I t).wt (I t).ws (XT I).tT (YS I).tS k A) := by
  have hx : ∀ l : Fin 4, xs I c b p (n + l.val) = zOf (XT I).ct (I t).w (XT I).tT (I t).wt b p (⟨512 * k.val + 128 * l.val + p.val, by omega⟩ : Fin 1024) := fun l => by
    obtain ⟨h1, h2⟩ := step_at c τ t ht k l (n + l.val) (by omega) hτ p
    unfold xs
    rw [h1, h2]
  have hy : ∀ l : Fin 4, ys I c b p (n + l.val) = zOf (YS I).cs (I t).u (YS I).tS (I t).ws b p (⟨512 * k.val + 128 * l.val + p.val, by omega⟩ : Fin 1024) := fun l => by
    obtain ⟨h1, h2⟩ := step_at c τ t ht k l (n + l.val) (by omega) hτ p
    unfold ys
    rw [h1, h2]
  have h := fun i => half_apply (XT I).ct (YS I).cs (I t).w (I t).u (I t).wt (I t).ws (XT I).tT (YS I).tS k A i b p _ _ hx hy
  have h0 := h 0
  have h1 := h 1
  have h2 := h 2
  have h3 := h 3
  have h4 := h 4
  simp only [arr, newLane] at h0 h1 h2 h3 h4
  have fs := sums_step H.s
  have fa := sums_step H.a
  have fss := sums_step H.ss
  simp only [mul_one] at fs fss
  have e0 : max4 (A.m (ix2 b p)) (xs I c b p n) (xs I c b p (n + 1)) (xs I c b p (n + 2)) (xs I c b p (n + 3)) = (Finset.range (n + 4)).sup (xs I c b p) := by
    rw [H.m]; exact sup_step _ _
  have e3 : max4 (A.ms (ix2 b p)) (ys I c b p n) (ys I c b p (n + 1)) (ys I c b p (n + 2)) (ys I c b p (n + 3)) = (Finset.range (n + 4)).sup (ys I c b p) := by
    rw [H.ms]; exact sup_step _ _
  exact
    { m := h0.trans e0
      s := by rw [h0, h1]; exact fs
      a := by rw [h0, h2]; exact fa
      ms := h3.trans e3
      ss := by rw [h3, h4]; exact fss }

/-- A shard's steps. -/
theorem lane_shard (c : Fin 4) (b : Fin 256) (p : Fin 128) (τ : ℕ) (hτ : τ < 32) : LaneInv I c b p (8 * (τ + 1)) (accAt I (32 * c.val + τ + 1)) := by
  have step : ∀ τ, τ < 32 → (0 < τ → LaneInv I c b p (8 * τ) (accAt I (32 * c.val + τ))) → LaneInv I c b p (8 * (τ + 1)) (accAt I (32 * c.val + τ + 1)) := by
    intro τ hτ ih
    have ht : 32 * c.val + τ < cfg0.N := by rw [N0]; omega
    rw [show accAt I (32 * c.val + τ + 1) = _ from accAt_succ I ⟨32 * c.val + τ, ht⟩]
    unfold stepA
    have h0 : LaneInv I c b p (8 * τ) (if atStart (cfg0.grid.coords ⟨32 * c.val + τ, ht⟩) = 1#1 then resetAcc else accAt I (32 * c.val + τ)) := by
      by_cases h : τ = 0
      · rw [if_pos ((atStart_iff _).2 (by rw [coords_val]; show (32 * c.val + τ) % 32 = 0; omega)), h]
        exact lane_reset I c b p
      · rw [if_neg (fun h' => h (by have := (atStart_iff _).1 h'; rw [coords_val] at this; change (32 * c.val + τ) % 32 = 0 at this; omega))]
        exact ih (Nat.pos_of_ne_zero h)
    have h1 := lane_half I c b p τ hτ ⟨32 * c.val + τ, ht⟩ rfl 0 _ _ rfl h0
    exact lane_half I c b p τ hτ ⟨32 * c.val + τ, ht⟩ rfl 1 _ _ rfl h1
  induction τ with
  | zero => exact step 0 hτ (fun h => absurd h (lt_irrefl 0))
  | succ τ ih => exact step (τ + 1) hτ (fun _ => ih (by omega))

/-! ### The shard's end, at a row -/

theorem w64_apply (x : Vec Ideal S256x128 .f32) (r : Fin 4) (y : Fin 64) (p : Fin 128) : w64 x r (ix2 y p) = x (ix2 (⟨64 * r.val + y.val, by omega⟩ : Fin 256) p) :=
  congrArg x (funext fun d => match d with
    | ⟨0, _⟩ => Fin.ext (by show 64 * r.val + 1 * y.val = 64 * r.val + y.val; omega)
    | ⟨1, _⟩ => Fin.ext (by show 0 + 1 * p.val = p.val; omega))

theorem rowMax_apply (m : Vec Ideal S64x128 .f32) (y : Fin 64) : rowMax m (ix2 y (0 : Fin 1)) = Finset.univ.sup fun p : Fin 128 => m (ix2 y p) := by
  pointwise [rowMax]
  rw [show Ideal.ofBits .f32 4286578688#32 = ⊥ from ofBits_negInf]
  rfl

theorem rowSum_apply (m m' s : Vec Ideal S64x128 .f32) (y : Fin 64) :
    rowSum m m' s (ix2 y (0 : Fin 1)) = ∑ p : Fin 128, s (ix2 y p) * Ideal.exp2 (m' (ix2 y p) - Finset.univ.sup fun p : Fin 128 => m (ix2 y p)) := by
  have e := rowMax_apply m y
  pointwise [rowSum]
  rw [e]
  rfl

theorem lseCol_apply (m s : FVec Ideal S64x1 .f32) (j : S64x1.Idx) : lseCol m s j = (m j + Ideal.log (s j) * (((Real.log 2)⁻¹ : ℝ) : EReal)) * l2 := rfl
theorem quotCol_apply (a s : FVec Ideal S64x1 .f32) (j : S64x1.Idx) : quotCol a s j = Ideal.div (a j) (s j) * l2 := rfl

/-- The base-2 logits of a token over a shard's columns, of the teacher and of the student. -/
def zT (c : Fin 4) (b : Fin 256) (k : Fin 32768) : EReal :=
  zOf (XT I).ct (I ⟨32 * c.val + k.val / 1024, by rw [N0]; omega⟩).w (XT I).tT (I ⟨32 * c.val + k.val / 1024, by rw [N0]; omega⟩).wt b
    (⟨k.val % 128, by omega⟩ : Fin 128) (⟨k.val % 1024, by omega⟩ : Fin 1024)
def zS (c : Fin 4) (b : Fin 256) (k : Fin 32768) : EReal :=
  zOf (YS I).cs (I ⟨32 * c.val + k.val / 1024, by rw [N0]; omega⟩).u (YS I).tS (I ⟨32 * c.val + k.val / 1024, by rw [N0]; omega⟩).ws b
    (⟨k.val % 128, by omega⟩ : Fin 128) (⟨k.val % 1024, by omega⟩ : Fin 1024)

theorem col_at (c : Fin 4) (i : Fin 256) (p : Fin 128) :
    stepOf c i.val = ⟨32 * c.val + (colOf i p).val / 1024, by rw [N0]; omega⟩ ∧ p = (⟨(colOf i p).val % 128, by omega⟩ : Fin 128) ∧ rowOf i.val p = (⟨(colOf i p).val % 1024, by omega⟩ : Fin 1024) := by
  have h : (colOf i p).val = 128 * i.val + p.val := rfl
  refine ⟨Fin.ext ?_, Fin.ext ?_, Fin.ext ?_⟩
  · show (32 * c.val + i.val / 8) % 128 = 32 * c.val + (128 * i.val + p.val) / 1024
    omega
  · show p.val = (128 * i.val + p.val) % 128
    omega
  · show 128 * (i.val % 8) + p.val = (128 * i.val + p.val) % 1024
    omega

theorem xs_col (c : Fin 4) (b : Fin 256) (p : Fin 128) (i : Fin 256) : xs I c b p i.val = zT I c b (colOf i p) := by
  obtain ⟨h1, h2, h3⟩ := col_at c i p
  unfold xs zT
  rw [h1, h3, ← h2]
theorem ys_col (c : Fin 4) (b : Fin 256) (p : Fin 128) (i : Fin 256) : ys I c b p i.val = zS I c b (colOf i p) := by
  obtain ⟨h1, h2, h3⟩ := col_at c i p
  unfold ys zS
  rw [h1, h3, ← h2]

/-- The columns a shard's end writes, against the shard's logits in the natural base. -/
theorem colVal_shard (c : Fin 4) (b : Fin 256) :
    colVal (accAt I (32 * (c.val + 1))) 0 ⟨b.val / 64, by omega⟩ (ix2 (⟨b.val % 64, by omega⟩ : Fin 64) (0 : Fin 1))
        = (Finset.univ.sup fun k => zT I c b k * l2) + Ideal.log (∑ k, Ideal.exp (zT I c b k * l2 - Finset.univ.sup fun k => zT I c b k * l2))
    ∧ colVal (accAt I (32 * (c.val + 1))) 1 ⟨b.val / 64, by omega⟩ (ix2 (⟨b.val % 64, by omega⟩ : Fin 64) (0 : Fin 1))
        = (Finset.univ.sup fun k => zS I c b k * l2) + Ideal.log (∑ k, Ideal.exp (zS I c b k * l2 - Finset.univ.sup fun k => zS I c b k * l2))
    ∧ colVal (accAt I (32 * (c.val + 1))) 2 ⟨b.val / 64, by omega⟩ (ix2 (⟨b.val % 64, by omega⟩ : Fin 64) (0 : Fin 1))
        = Ideal.div (∑ k, Ideal.exp (zT I c b k * l2 - Finset.univ.sup fun k => zT I c b k * l2) * (zT I c b k * l2 - zS I c b k * l2))
            (∑ k, Ideal.exp (zT I c b k * l2 - Finset.univ.sup fun k => zT I c b k * l2)) := by
  have H : ∀ p, LaneInv I c b p 256 (accAt I (32 * (c.val + 1))) := fun p => lane_shard I c b p 31 (by decide)
  have hb : (⟨64 * (⟨b.val / 64, by omega⟩ : Fin 4).val + (⟨b.val % 64, by omega⟩ : Fin 64).val, by omega⟩ : Fin 256) = b := Fin.ext (by show 64 * (b.val / 64) + b.val % 64 = b.val; omega)
  have e64 : ∀ X : Vec Ideal S256x128 .f32, (fun p : Fin 128 => w64 X ⟨b.val / 64, by omega⟩ (ix2 (⟨b.val % 64, by omega⟩ : Fin 64) p)) = fun p => X (ix2 b p) := fun X =>
    funext fun p => (w64_apply X _ _ p).trans (congrArg (fun b => X (ix2 b p)) hb)
  have e64' : ∀ (X : Vec Ideal S256x128 .f32) (p : Fin 128), w64 X ⟨b.val / 64, by omega⟩ (ix2 (⟨b.val % 64, by omega⟩ : Fin 64) p) = X (ix2 b p) := fun X p => congrFun (e64 X) p
  generalize accAt I (32 * (c.val + 1)) = A at H
  have hT := shard_sum (zT I c b) (fun _ => 1) (xs I c b) (fun _ _ => 1) (fun p => A.m (ix2 b p)) (fun p => A.s (ix2 b p)) (xs_col I c b) (fun _ _ => rfl) (fun p => (H p).m) (fun p => (H p).s)
  have hA := shard_sum (zT I c b) (fun k => zT I c b k - zS I c b k) (xs I c b) (fun p i => xs I c b p i - ys I c b p i) (fun p => A.m (ix2 b p)) (fun p => A.a (ix2 b p)) (xs_col I c b)
    (fun p i => by rw [xs_col, ys_col]) (fun p => (H p).m) (fun p => (H p).a)
  have hS := shard_sum (zS I c b) (fun _ => 1) (ys I c b) (fun _ _ => 1) (fun p => A.ms (ix2 b p)) (fun p => A.ss (ix2 b p)) (ys_col I c b) (fun _ _ => rfl) (fun p => (H p).ms) (fun p => (H p).ss)
  simp only [mul_one] at hT hS
  have uT : ∀ z : Fin 32768 → EReal, (∑ k, Ideal.exp (z k * l2 - Finset.univ.sup fun k => z k * l2)) = ∑ k, Ideal.exp2 (z k - Finset.univ.sup z) := fun z =>
    Finset.sum_congr rfl fun k _ => by rw [sup_scaled, exps_scaled]
  refine ⟨?_, ?_, ?_⟩
  · show lseCol _ _ _ = _
    rw [lseCol_apply, rowMax_apply, rowSum_apply, lse_scaled, uT, sup_scaled]
    simp only [e64']
    rw [hT.2, hT.1]
  · show lseCol _ _ _ = _
    rw [lseCol_apply, rowMax_apply, rowSum_apply, lse_scaled, uT, sup_scaled]
    simp only [e64']
    rw [hS.2, hS.1]
  · show quotCol _ _ _ = _
    rw [quotCol_apply, rowSum_apply, rowSum_apply, div_scaled, uT, sup_scaled, sum_scaled]
    simp only [e64']
    rw [hT.2, hA.2]

end Cert.KernelIdeal.Body
-- ==== Proof.Value.Quant.lean ====
/-
  The quantised activations, read at an index: the kernel's codes, scales and token scales are the reference's.
-/
module

public import proofs.«01_k».proof.Proof.KernelIdeal.Seq
public import proofs.«01_k».proof.Proof.Gen.ReferenceIdeal.Frame
public import proofs.«01_k».proof.Proof.Value.Pow
public import proofs.«01_k».proof.Proof.Value.Lanes

@[expose] public section

set_option maxRecDepth 16384

noncomputable section

namespace Cert.KernelIdeal.Body

open Cert.KernelIdeal Cert.KernelIdeal.Gen Cert.Common Cert.Fold
open Idealize.ShloMosaic Idealize.ShloMosaic.VecWindow

/-- A token's greatest magnitude. -/
def absMax {D : ℕ} (v : Fin D → EReal) : EReal :=
  Finset.fold max (Ideal.ofBits .f32 4286578688#32) (fun x => (FloatOps.absf (φ := .f32) (F := Ideal) (v x : Ideal .f32) : EReal)) Finset.univ

theorem absMax_le {D : ℕ} (v : Fin D → EReal) (B : EReal) (h : ∀ x, (FloatOps.absf (φ := .f32) (F := Ideal) (v x : Ideal .f32) : EReal) ≤ B) : absMax v ≤ B := by
  unfold absMax
  rw [ofBits_negInf, fold_max]
  exact Finset.sup_le fun x _ => h x

/-- The clipped code of a number, over a scale's inverse. -/
def code (v inv : EReal) : EReal := min (Ideal.ofBits .f32 1138753536#32) (max (Ideal.ofBits .f32 3286237184#32) (v * inv))

theorem qExp_apply (a : FVec Ideal S32x1 .f32) (r : Fin 32) : qExp a (ix2 r (0 : Fin 1)) = kExp (a (ix2 r (0 : Fin 1))) := by
  pointwise [qExp]
  rfl
theorem qScale_apply (a : FVec Ideal S32x1 .f32) (r : Fin 32) : qScale a (ix2 r (0 : Fin 1)) = kScale (a (ix2 r (0 : Fin 1))) := by
  have e := qExp_apply a r
  pointwise [qScale]
  rw [e]
  rfl
theorem qInv_apply (a : FVec Ideal S32x1 .f32) (r : Fin 32) : qInv a (ix2 r (0 : Fin 1)) = kInv (a (ix2 r (0 : Fin 1))) := by
  have e := qExp_apply a r
  pointwise [qInv]
  rw [e]
  rfl
theorem qTok_apply (v : FVec Ideal S32x1 .f32) (r : Fin 32) (p : Fin 128) : qTok v (ix2 r p) = v (ix2 r (0 : Fin 1)) * (((Real.log 2)⁻¹ * 2⁻¹ : ℝ) : EReal) := by
  pointwise [qTok]
  rw [cTemp_eq]
theorem aT_apply (v : Vec Ideal S32x2560 .bf16) (r : Fin 32) : aT v (ix2 r (0 : Fin 1)) = absMax fun d : Fin 2560 => v (ix2 r d) := by
  pointwise [aT, vT]
  rfl
theorem aS_apply (v : Vec Ideal S32x1152 .bf16) (r : Fin 32) : aS v (ix2 r (0 : Fin 1)) = absMax fun d : Fin 1152 => v (ix2 r d) := by
  pointwise [aS, vS]
  rfl
theorem codesT_apply (v : Vec Ideal S32x2560 .bf16) (r : Fin 32) (d : Fin 2560) : codesT v (ix2 r d) = code (v (ix2 r d)) (kInv (absMax fun d : Fin 2560 => v (ix2 r d))) := by
  have e := (qInv_apply (aT v) r).trans (congrArg kInv (aT_apply v r))
  pointwise [codesT, vT]
  rw [e]
  rfl
theorem codesS_apply (v : Vec Ideal S32x1152 .bf16) (r : Fin 32) (d : Fin 1152) : codesS v (ix2 r d) = code (v (ix2 r d)) (kInv (absMax fun d : Fin 1152 => v (ix2 r d))) := by
  have e := (qInv_apply (aS v) r).trans (congrArg kInv (aS_apply v r))
  pointwise [codesS, vS]
  rw [e]
  rfl

/-! ### The reference -/

open Cert.ReferenceIdeal.Gen (k0_pay1 k0_pay2 k0_pay3 k0_pay4 k0_pay5 k0_pay6 k0_pay7 k0_pay8)

/-- The exponents before their offset. -/
abbrev exps : IVec Cert.ReferenceIdeal.S1x253 32 := iota .tc Cert.ReferenceIdeal.S1x253 32 [1] Cert.ReferenceIdeal.Gen.iota_S1x253_d1_w32

theorem refScaleT (h : Vec Ideal S256x2560 .bf16) (b : Fin 256) : k0_pay2 h (ix2 b (0 : Fin 1)) = rScale (absMax fun d : Fin 2560 => h (ix2 b d)) := by
  pointwise [k0_pay2, k0_pay1]
  rfl
theorem refCodesT (h : Vec Ideal S256x2560 .bf16) (b : Fin 256) (d : Fin 2560) :
    k0_pay3 h (ix2 b d) = code (h (ix2 b d)) (Ideal.div 1 (rScale (absMax fun d : Fin 2560 => h (ix2 b d)))) := by
  have e := refScaleT h b
  pointwise [k0_pay3, k0_pay1]
  rw [e]
  rfl
theorem refMaxS (h : Vec Ideal S256x1152 .bf16) (b : Fin 256) : k0_pay5 h (ix2 b (0 : Fin 1)) = absMax fun d : Fin 1152 => h (ix2 b d) := by
  pointwise [k0_pay5, k0_pay4]
  rfl
theorem refScaleS (h : Vec Ideal S256x1152 .bf16) (b : Fin 256) : k0_pay7 (k0_pay5 h) (k0_pay6 h) exps (ix2 b (0 : Fin 1)) = rScale (absMax fun d : Fin 1152 => h (ix2 b d)) := by
  rw [← refMaxS h b]
  unfold k0_pay6
  generalize k0_pay5 h = a
  pointwise [k0_pay7]
  rfl
theorem refCodesS (h : Vec Ideal S256x1152 .bf16) (b : Fin 256) (d : Fin 1152) :
    k0_pay8 (k0_pay4 h) (k0_pay5 h) (k0_pay6 h) exps (ix2 b d) = code (h (ix2 b d)) (Ideal.div 1 (rScale (absMax fun d : Fin 1152 => h (ix2 b d)))) := by
  rw [← refScaleS h b]
  unfold k0_pay8
  generalize k0_pay7 (k0_pay5 h) (k0_pay6 h) exps = s
  pointwise [k0_pay4]
  rfl

/-! ### The blocks of 32 rows -/

/-- Where row `b` lies in its block of 32. -/
theorem local32 {C : ℕ} (b : Fin 256) (d : Fin C) (hy : InRows 32 (blk (ix2 b d)).val (ix2 b d)) :
    Rect.unitLocal (s := (⟨2, ![256, C]⟩ : Shape)) (off := ![32 * (blk (ix2 b d)).val, 0]) (size := ![32, C]) (ix2 b d) hy = ix2 (⟨b.val % 32, by omega⟩ : Fin 32) d :=
  funext fun a => match a with
    | ⟨0, _⟩ => Fin.ext (by show b.val - 32 * (b.val / 32) = b.val % 32; omega)
    | ⟨1, _⟩ => Fin.ext (by show d.val - 0 = d.val; omega)

theorem rowsT_apply (h : Vec Ideal S256x2560 .bf16) (b : Fin 256) {C : ℕ} (p : Fin C) (d : Fin 2560) :
    rowsT h (blk (ix2 b p)) (ix2 (⟨b.val % 32, by omega⟩ : Fin 32) d) = h (ix2 b d) :=
  congrArg h (funext fun a => match a with
    | ⟨0, _⟩ => Fin.ext (by show 32 * (b.val / 32) + 1 * (b.val % 32) = b.val; omega)
    | ⟨1, _⟩ => Fin.ext (by show 0 + 1 * d.val = d.val; omega))
theorem rowsS_apply (h : Vec Ideal S256x1152 .bf16) (b : Fin 256) {C : ℕ} (p : Fin C) (d : Fin 1152) :
    rowsS h (blk (ix2 b p)) (ix2 (⟨b.val % 32, by omega⟩ : Fin 32) d) = h (ix2 b d) :=
  congrArg h (funext fun a => match a with
    | ⟨0, _⟩ => Fin.ext (by show 32 * (b.val / 32) + 1 * (b.val % 32) = b.val; omega)
    | ⟨1, _⟩ => Fin.ext (by show 0 + 1 * d.val = d.val; omega))

/-- No activation is larger than the largest finite bf16. -/
def Bounded {s : Shape} (h : FVec Ideal s .bf16) : Prop := ∀ i, (FloatOps.absf (φ := .f32) (F := Ideal) (h i : Ideal .f32) : EReal) ≤ Ideal.ofBits .bf16 0x7F7F#16

section Teacher
variable (h : Vec Ideal S256x2560 .bf16) (hb : Bounded (s := S256x2560) h)
include hb

theorem boundT (b : Fin 256) : absMax (fun d : Fin 2560 => h (ix2 b d)) ≤ Ideal.ofBits .bf16 0x7F7F#16 := absMax_le _ _ fun d => hb (ix2 b d)

theorem qT_ct (b : Fin 256) (d : Fin 2560) : (qT h).ct (ix2 b d) = k0_pay3 h (ix2 b d) := by
  refine (quantT_ct h _ _ (ix2 b d) (in_blk _)).trans ((congrArg _ (local32 b d _)).trans ((codesT_apply _ _ d).trans ?_))
  simp only [rowsT_apply]
  rw [refCodesT, inv_eq (boundT h hb b)]
theorem qT_st (b : Fin 256) : (qT h).st (ix2 b (0 : Fin 1)) = k0_pay2 h (ix2 b (0 : Fin 1)) := by
  refine (quantT_st h _ _ (ix2 b (0 : Fin 1)) (in_blk _)).trans ((congrArg _ (local32 b (0 : Fin 1) _)).trans ((qScale_apply _ _).trans ?_))
  rw [aT_apply]
  simp only [rowsT_apply]
  rw [refScaleT, scale_eq (boundT h hb b)]
theorem qT_tT (b : Fin 256) (p : Fin 128) : (qT h).tT (ix2 b p) = k0_pay2 h (ix2 b (0 : Fin 1)) * (((Real.log 2)⁻¹ * 2⁻¹ : ℝ) : EReal) := by
  refine (quantT_tT h _ _ (ix2 b p) (in_blk _)).trans ((congrArg _ (local32 b p _)).trans ((qTok_apply _ _ p).trans ?_))
  rw [qScale_apply, aT_apply]
  simp only [rowsT_apply]
  rw [refScaleT, scale_eq (boundT h hb b)]
end Teacher

section Student
variable (h : Vec Ideal S256x1152 .bf16) (hb : Bounded (s := S256x1152) h)
include hb

theorem boundS (b : Fin 256) : absMax (fun d : Fin 1152 => h (ix2 b d)) ≤ Ideal.ofBits .bf16 0x7F7F#16 := absMax_le _ _ fun d => hb (ix2 b d)

theorem qS_cs (b : Fin 256) (d : Fin 1152) : (qS h).cs (ix2 b d) = k0_pay8 (k0_pay4 h) (k0_pay5 h) (k0_pay6 h) exps (ix2 b d) := by
  refine (quantS_cs h _ _ (ix2 b d) (in_blk _)).trans ((congrArg _ (local32 b d _)).trans ((codesS_apply _ _ d).trans ?_))
  simp only [rowsS_apply]
  rw [refCodesS, inv_eq (boundS h hb b)]
theorem qS_ss (b : Fin 256) : (qS h).ss (ix2 b (0 : Fin 1)) = k0_pay7 (k0_pay5 h) (k0_pay6 h) exps (ix2 b (0 : Fin 1)) := by
  refine (quantS_ss h _ _ (ix2 b (0 : Fin 1)) (in_blk _)).trans ((congrArg _ (local32 b (0 : Fin 1) _)).trans ((qScale_apply _ _).trans ?_))
  rw [aS_apply]
  simp only [rowsS_apply]
  rw [refScaleS, scale_eq (boundS h hb b)]
theorem qS_tS (b : Fin 256) (p : Fin 128) : (qS h).tS (ix2 b p) = k0_pay7 (k0_pay5 h) (k0_pay6 h) exps (ix2 b (0 : Fin 1)) * (((Real.log 2)⁻¹ * 2⁻¹ : ℝ) : EReal) := by
  refine (quantS_tS h _ _ (ix2 b p) (in_blk _)).trans ((congrArg _ (local32 b p _)).trans ((qTok_apply _ _ p).trans ?_))
  rw [qScale_apply, aS_apply]
  simp only [rowsS_apply]
  rw [refScaleS, scale_eq (boundS h hb b)]
end Student

end Cert.KernelIdeal.Body
-- ==== Proof.Value.Ref.lean ====
/-
  The reference's payloads read at an index.
-/
module

public import proofs.«01_k».proof.Proof.Gen.ReferenceIdeal.Frame
public import proofs.«01_k».proof.Proof.Value.Fold
public import Idealize.ShloMosaic.Lib.Pointwise

@[expose] public section

set_option maxRecDepth 16384

noncomputable section

namespace Cert.ReferenceIdeal.Read

open Cert.ReferenceIdeal Cert.ReferenceIdeal.Gen Cert.Fold
open Idealize.ShloMosaic

theorem ofBits_negInf : Ideal.ofBits .f32 4286578688#32 = ⊥ := by
  simp [Ideal.ofBits, Ideal.ieee]
theorem ofBits_two : Ideal.ofBits .f32 0x40000000#32 = ((2 : ℝ) : EReal) := by
  simp [Ideal.ofBits, Ideal.ieee, -EReal.coe_mul]; norm_num

theorem logitsT_apply (s : FVec Ideal S256x1 .f32) (ct : FVec Ideal S256x2560 .fp8e4m3) (w : Vec Ideal S131072x2560 .fp8e4m3) (ws : Vec Ideal S1x131072 .f32)
    (b : Fin 256) (c : Fin 4) (k : Fin 32768) :
    k0_pay9 s ct w ws (ix3 b c k) = Ideal.div ((∑ d, ct (ix2 b d) * w (ix2 (⟨32768 * c.val + k.val, by omega⟩ : Fin 131072) d)) * s (ix2 b (0 : Fin 1)) * ws (ix2 (0 : Fin 1) (⟨32768 * c.val + k.val, by omega⟩ : Fin 131072))) ((2 : ℝ) : EReal) := by
  pointwise [k0_pay9]
  rw [ofBits_two]
  simp only [Nat.mul_comm c.val]

theorem maxT_apply (z : FVec Ideal S256x4x32768 .f32) (b : Fin 256) (c : Fin 4) : k0_pay13 z (ix3 b c (0 : Fin 1)) = Finset.univ.sup fun k : Fin 32768 => z (ix3 b c k) := by
  pointwise [k0_pay13]
  rw [ofBits_negInf, fold_max]
theorem expT_apply (z : FVec Ideal S256x4x32768 .f32) (b : Fin 256) (c : Fin 4) (k : Fin 32768) :
    k0_pay14 z (ix3 b c k) = Ideal.exp (z (ix3 b c k) - Finset.univ.sup fun k : Fin 32768 => z (ix3 b c k)) := by
  have e := maxT_apply z b c
  pointwise [k0_pay14]
  rw [e]
theorem sumT_apply (z : FVec Ideal S256x4x32768 .f32) (b : Fin 256) (c : Fin 4) :
    k0_pay15 z (ix2 b c) = ∑ k, Ideal.exp (z (ix3 b c k) - Finset.univ.sup fun k : Fin 32768 => z (ix3 b c k)) := by
  pointwise [k0_pay15]
  exact Finset.sum_congr rfl fun k _ => expT_apply z b c k
/-- A maximum with a trailing unit axis, plus a logarithm, at a position. -/
theorem lse_read (M : FVec Ideal S256x4x1 .f32) (L : FVec Ideal S256x4 .f32) (b : Fin 256) (c : Fin 4) :
    (addf (shapeCast S256x4 M shapeCasts_S256x4x1_S256x4) (log L)) (ix2 b c) = M (ix3 b c (0 : Fin 1)) + Ideal.log (L (ix2 b c)) := by
  pointwise

theorem lseT_apply (z : FVec Ideal S256x4x32768 .f32) (b : Fin 256) (c : Fin 4) :
    k0_pay16 z (ix2 b c) = (Finset.univ.sup fun k : Fin 32768 => z (ix3 b c k)) + Ideal.log (∑ k, Ideal.exp (z (ix3 b c k) - Finset.univ.sup fun k : Fin 32768 => z (ix3 b c k))) := by
  have e : k0_pay16 z (ix2 b c) = k0_pay13 z (ix3 b c (0 : Fin 1)) + Ideal.log (k0_pay15 z (ix2 b c)) := lse_read _ _ b c
  exact e.trans (congrArg₂ (fun x y => x + Ideal.log y) (maxT_apply z b c) (sumT_apply z b c))

theorem quot_apply (s : FVec Ideal S256x1 .f32) (v : FVec Ideal S1x131072 .f32) (a : FVec Ideal S256x131072 .f32) (z : FVec Ideal S256x4x32768 .f32)
    (b : Fin 256) (c : Fin 4) :
    k0_pay17 s z v a (ix2 b c) = Ideal.div (∑ k, Ideal.exp (z (ix3 b c k) - Finset.univ.sup fun k : Fin 32768 => z (ix3 b c k)) * (z (ix3 b c k) - k0_pay12 s v a (ix3 b c k)))
      (∑ k, Ideal.exp (z (ix3 b c k) - Finset.univ.sup fun k : Fin 32768 => z (ix3 b c k))) := by
  rw [← sumT_apply z b c]
  have e : (∑ k, Ideal.exp (z (ix3 b c k) - Finset.univ.sup fun k : Fin 32768 => z (ix3 b c k)) * (z (ix3 b c k) - k0_pay12 s v a (ix3 b c k)))
      = ∑ k, k0_pay14 z (ix3 b c k) * (z (ix3 b c k) - k0_pay12 s v a (ix3 b c k)) :=
    Finset.sum_congr rfl fun k _ => by rw [expT_apply]
  rw [e]
  unfold k0_pay17
  generalize k0_pay14 z = E
  generalize k0_pay15 z = L
  generalize k0_pay12 s v a = y
  pointwise

theorem logitsS_apply (s : FVec Ideal S256x1 .f32) (h : FVec Ideal S256x1152 .f32) (p q : FVec Ideal S256x1 .f32) (e : IVec S1x253 32) (w : Vec Ideal S131072x1152 .fp8e4m3) (ws : Vec Ideal S1x131072 .f32)
    (b : Fin 256) (c : Fin 4) (k : Fin 32768) :
    k0_pay12 s (k0_pay10 ws) (k0_pay11 h p q e w) (ix3 b c k) = Ideal.div ((∑ d, k0_pay8 h p q e (ix2 b d) * w (ix2 (⟨32768 * c.val + k.val, by omega⟩ : Fin 131072) d)) * s (ix2 b (0 : Fin 1)) * ws (ix2 (0 : Fin 1) (⟨32768 * c.val + k.val, by omega⟩ : Fin 131072))) ((2 : ℝ) : EReal) := by
  unfold k0_pay11
  generalize k0_pay8 h p q e = cs
  pointwise [k0_pay12, k0_pay10]
  rw [ofBits_two]
  simp only [Nat.mul_comm c.val]

/-- Adding the logarithm before or after the trailing unit axis is dropped is the same. -/
theorem lse_flat (M L : FVec Ideal S256x4 .f32) :
    shapeCast S256x4 (addf (shapeCast S256x4x1 M shapeCasts_S256x4_S256x4x1) (log (shapeCast S256x4x1 L shapeCasts_S256x4_S256x4x1)) : FVec Ideal S256x4x1 .f32) shapeCasts_S256x4x1_S256x4
      = addf (shapeCast S256x4 (shapeCast S256x4x1 M shapeCasts_S256x4_S256x4x1 : FVec Ideal S256x4x1 .f32) shapeCasts_S256x4x1_S256x4) (log L) := by
  funext i
  idx_vars i
  pointwise

theorem pay18_eq (s : FVec Ideal S256x1 .f32) (v : FVec Ideal S1x131072 .f32) (a : FVec Ideal S256x131072 .f32) :
    k0_pay18 s v a = k0_pay16 (k0_pay12 s v a) := by
  unfold k0_pay18 k0_pay16 k0_pay15 k0_pay14 k0_pay13
  generalize k0_pay12 s v a = z
  exact lse_flat _ _

theorem lseS_apply (s : FVec Ideal S256x1 .f32) (v : FVec Ideal S1x131072 .f32) (a : FVec Ideal S256x131072 .f32)
    (b : Fin 256) (c : Fin 4) :
    k0_pay18 s v a (ix2 b c) = (Finset.univ.sup fun k : Fin 32768 => k0_pay12 s v a (ix3 b c k)) + Ideal.log (∑ k, Ideal.exp (k0_pay12 s v a (ix3 b c k) - Finset.univ.sup fun k : Fin 32768 => k0_pay12 s v a (ix3 b c k))) :=
  (congrFun (pay18_eq s v a) (ix2 b c)).trans (lseT_apply _ b c)

end Cert.ReferenceIdeal.Read
-- ==== Proof.Value.Logits.lean ====
/-
  The kernel's results are the reference's expressions of whole arrays, given that its blocks are the blocks of those
  arrays and that the activations are bounded.
-/
module

public import proofs.«01_k».proof.Proof.Value.Quant
public import proofs.«01_k».proof.Proof.Value.Ref

@[expose] public section

set_option maxRecDepth 16384

noncomputable section

namespace Cert.KernelIdeal.Body

open Cert.KernelIdeal Cert.KernelIdeal.Gen Cert.Common Cert.Fold
open Idealize.ShloMosaic Idealize.ShloMosaic.VecWindow
open Cert.ReferenceIdeal.Gen (k0_pay2 k0_pay3 k0_pay4 k0_pay5 k0_pay6 k0_pay7 k0_pay8 k0_pay9 k0_pay10 k0_pay11 k0_pay12 k0_pay16 k0_pay17 k0_pay18 k0_pay19 k0_pay20 k0_pay21 k0_pay22 k0_pay23 k0_pay24 k0_pay25 k0_pay26)
open Cert.ReferenceIdeal.Read

/-- The whole arrays the blocks come from. -/
structure Arrays where
  h1 : Vec Ideal S256x2560 .bf16
  h2 : Vec Ideal S256x1152 .bf16
  w : Vec Ideal S131072x2560 .fp8e4m3
  wt : Vec Ideal S1x131072 .f32
  u : Vec Ideal S131072x1152 .fp8e4m3
  ws : Vec Ideal S1x131072 .f32

theorem col_lt (t : Fin cfg0.N) (j : Fin 1024) : 1024 * t.val + j.val < 131072 := by
  have h : t.val < 128 := lt_of_lt_of_eq t.isLt N0
  omega

/-- Step `t` sees rows `1024 t …` of the weights. -/
structure Blocks (I : Fin cfg0.N → In Ideal) (X : Arrays) : Prop where
  h1 : (I t0).h1 = X.h1
  h2 : (I t0).h2 = X.h2
  w : ∀ t j (d : Fin 2560), (I t).w (ix2 j d) = X.w (ix2 (⟨1024 * t.val + j.val, col_lt t j⟩ : Fin 131072) d)
  wt : ∀ t j, (I t).wt (ix2 (0 : Fin 1) j) = X.wt (ix2 (0 : Fin 1) (⟨1024 * t.val + j.val, col_lt t j⟩ : Fin 131072))
  u : ∀ t j (d : Fin 1152), (I t).u (ix2 j d) = X.u (ix2 (⟨1024 * t.val + j.val, col_lt t j⟩ : Fin 131072) d)
  ws : ∀ t j, (I t).ws (ix2 (0 : Fin 1) j) = X.ws (ix2 (0 : Fin 1) (⟨1024 * t.val + j.val, col_lt t j⟩ : Fin 131072))

namespace Arrays
variable (X : Arrays)
/-- The reference's codes, scales and logits. -/
def ct := k0_pay3 (F := Ideal) X.h1
def st := k0_pay2 (F := Ideal) X.h1
def cs := k0_pay8 (F := Ideal) (k0_pay4 X.h2) (k0_pay5 X.h2) (k0_pay6 X.h2) exps
def ss := k0_pay7 (F := Ideal) (k0_pay5 X.h2) (k0_pay6 X.h2) exps
def lT := k0_pay9 (F := Ideal) X.st X.ct X.w X.wt
/-- The student's weight scales and products. -/
def sc := k0_pay10 (F := Ideal) X.ws
def prod := k0_pay11 (F := Ideal) (k0_pay4 X.h2) (k0_pay5 X.h2) (k0_pay6 X.h2) exps X.u
def lS := k0_pay12 (F := Ideal) X.ss X.sc X.prod
def lseT := k0_pay16 (F := Ideal) X.lT
def lseS := k0_pay18 (F := Ideal) X.ss X.sc X.prod
def diff := k0_pay17 (F := Ideal) X.ss X.lT X.sc X.prod
end Arrays

theorem scaled_logit (S s w : EReal) : S * (s * (((Real.log 2)⁻¹ * 2⁻¹ : ℝ) : EReal)) * w * l2 = Ideal.div (S * s * w) ((2 : ℝ) : EReal) := by
  unfold Ideal.div
  rw [if_neg (by rw [← EReal.coe_zero, EReal.coe_eq_coe_iff]; norm_num), ← EReal.coe_inv]
  have h : (((Real.log 2)⁻¹ * 2⁻¹ : ℝ) : EReal) * l2 = ((2⁻¹ : ℝ) : EReal) := by
    rw [l2, ← EReal.coe_mul, mul_right_comm, inv_mul_cancel₀ l2_pos.ne', one_mul]
  rw [← h]
  ac_rfl

section
variable {I : Fin cfg0.N → In Ideal} {X : Arrays} (hX : Blocks I X) (hT : Bounded (s := S256x2560) X.h1) (hS : Bounded (s := S256x1152) X.h2)
include hX

include hT in
theorem zT_eq (c : Fin 4) (b : Fin 256) (k : Fin 32768) : zT I c b k * l2 = X.lT (ix3 b c k) := by
  have hk : (⟨1024 * (32 * c.val + k.val / 1024) + k.val % 1024, by omega⟩ : Fin 131072) = ⟨32768 * c.val + k.val, by omega⟩ := Fin.ext (by show 1024 * (32 * c.val + k.val / 1024) + k.val % 1024 = 32768 * c.val + k.val; omega)
  have hb : Bounded (s := S256x2560) (I t0).h1 := by rw [hX.h1]; exact hT
  unfold zT zOf XT Arrays.lT Arrays.st Arrays.ct
  rw [logitsT_apply, qT_tT _ hb, scaled_logit, hX.wt, hX.h1]
  simp only [hX.w, qT_ct _ hT]
  rw [hk]

include hS in
theorem zS_eq (c : Fin 4) (b : Fin 256) (k : Fin 32768) : zS I c b k * l2 = X.lS (ix3 b c k) := by
  have hk : (⟨1024 * (32 * c.val + k.val / 1024) + k.val % 1024, by omega⟩ : Fin 131072) = ⟨32768 * c.val + k.val, by omega⟩ := Fin.ext (by show 1024 * (32 * c.val + k.val / 1024) + k.val % 1024 = 32768 * c.val + k.val; omega)
  have hb : Bounded (s := S256x1152) (I t0).h2 := by rw [hX.h2]; exact hS
  unfold zS zOf YS Arrays.lS Arrays.sc Arrays.prod Arrays.ss
  rw [logitsS_apply, qS_tS _ hb, scaled_logit, hX.ws, hX.h2]
  simp only [hX.u, qS_cs _ hS]
  rw [hk]

include hT in
theorem planeT (x0 : Vec Ideal S3x256x128 .f32) : plane (colsAt I x0 128) 0 = X.lseT := funext fun j => by
  idx_vars j
  rw [plane_apply, colsAt_apply, (colVal_shard I _ _).1, Arrays.lseT, lseT_apply]
  simp only [zT_eq hX hT]
include hS in
theorem planeS (x0 : Vec Ideal S3x256x128 .f32) : plane (colsAt I x0 128) 1 = X.lseS := funext fun j => by
  idx_vars j
  rw [plane_apply, colsAt_apply, (colVal_shard I _ _).2.1, Arrays.lseS, lseS_apply]
  simp only [zS_eq hX hS]
  rfl
include hT hS in
theorem planeA (x0 : Vec Ideal S3x256x128 .f32) : plane (colsAt I x0 128) 2 = X.diff := funext fun j => by
  idx_vars j
  rw [plane_apply, colsAt_apply, (colVal_shard I _ _).2.2, Arrays.diff, quot_apply]
  simp only [zT_eq hX hT, zS_eq hX hS]
  rfl

end

/-- The kernel's six result arrays in terms of the three shard arrays. -/
theorem lastOut_arrays (x : Vec Ideal S3x256x128 .f32) (a b d : FVec Ideal S256x4 .f32) (ha : plane x 0 = a) (hb : plane x 1 = b) (hd : plane x 2 = d) :
    (lastOut x).kl = klOf a b d ∧ (lastOut x).lt = lessVocab (lseSh a) ∧ (lastOut x).ls = lessVocab (lseSh b)
      ∧ (lastOut x).sht = lessShard a ∧ (lastOut x).shs = lessShard b ∧ (lastOut x).sha = d := by
  subst ha hb hd
  exact ⟨rfl, rfl, rfl, rfl, rfl, rfl⟩

theorem pay19_eq (z : FVec Ideal Cert.ReferenceIdeal.S256x4x32768 .f32) : k0_pay19 z = lseSh (k0_pay16 z) := by
  unfold k0_pay19 lseSh
  generalize k0_pay16 z = x
  rfl
theorem pay20_eq (s : FVec Ideal S256x1 .f32) (v : FVec Ideal S1x131072 .f32) (a : FVec Ideal Cert.ReferenceIdeal.S256x131072 .f32) :
    k0_pay20 s v a = lseSh (k0_pay18 (F := Ideal) s v a) := by
  unfold k0_pay20 lseSh
  generalize k0_pay18 (F := Ideal) s v a = x
  rfl
theorem pay22_eq (z : FVec Ideal Cert.ReferenceIdeal.S256x4x32768 .f32) (y d : FVec Ideal S256x4 .f32) :
    k0_pay22 d (lseSh (k0_pay16 z)) (lseSh y) (k0_pay21 z) = klOf (k0_pay16 z) y d := by
  unfold k0_pay22 k0_pay21 klOf
  rw [pay19_eq]
theorem pay23_eq (x : FVec Ideal S256x1 .f32) : k0_pay23 x = lessVocab x := rfl
theorem pay24_eq (x : FVec Ideal S256x1 .f32) : k0_pay24 x = lessVocab x := rfl
theorem pay25_eq (x : FVec Ideal S256x4 .f32) : k0_pay25 x = lessShard x := rfl
theorem pay26_eq (x : FVec Ideal S256x4 .f32) : k0_pay26 x = lessShard x := rfl

namespace Arrays
variable (X : Arrays)
/-- The reference's row statistics. -/
def tL := k0_pay19 (F := Ideal) X.lT
def sL := k0_pay20 (F := Ideal) X.ss X.sc X.prod
/-- The reference's first result. -/
def kl := k0_pay22 (F := Ideal) X.diff X.tL X.sL (k0_pay21 X.lT)
end Arrays

section
variable {I : Fin cfg0.N → In Ideal} {X : Arrays} (hX : Blocks I X) (hT : Bounded (s := S256x2560) X.h1) (hS : Bounded (s := S256x1152) X.h2)
include hX hT hS

/-- The six arrays the last step writes are the reference's. -/
theorem results_eq : (outAll I).kl = X.kl ∧ (outAll I).lt = k0_pay23 X.tL ∧ (outAll I).ls = k0_pay24 X.sL
    ∧ (outAll I).sht = k0_pay25 X.lseT ∧ (outAll I).shs = k0_pay26 X.lseS ∧ (outAll I).sha = X.diff := by
  have hs : X.sL = lseSh X.lseS := pay20_eq _ _ _
  have ht : X.tL = lseSh X.lseT := pay19_eq _
  obtain ⟨h1, h2, h3, h4, h5, h6⟩ := lastOut_arrays (colsAt I (constant (F := Ideal) S3x256x128 .f32 0x00000000#32 : FVec Ideal S3x256x128 .f32) 128) _ _ _ (planeT hX hT _) (planeS hX hS _) (planeA hX hT hS _)
  refine ⟨h1.trans ?_, h2.trans ?_, h3.trans ?_, h4.trans (pay25_eq _).symm, h5.trans (pay26_eq _).symm, h6⟩
  · rw [Arrays.kl, ht, hs]; exact (pay22_eq _ _ _).symm
  · rw [ht]; exact (pay23_eq _).symm
  · rw [hs]; exact (pay24_eq _).symm

omit hS in
/-- The codes and scales the first step writes are the reference's. -/
theorem quantT_eq : (XT I).ct = X.ct ∧ (XT I).st = X.st := by
  unfold XT
  rw [hX.h1]
  refine ⟨funext fun j => ?_, funext fun j => ?_⟩
  · idx_vars j
    exact qT_ct _ hT _ _
  · rw [show j = ix2 (j 0) (0 : Fin 1) from funext fun d => match d with | ⟨0, _⟩ => rfl | ⟨1, _⟩ => Subsingleton.elim (α := Fin 1) _ _]
    exact qT_st _ hT _
omit hT in
theorem quantS_eq : (YS I).cs = X.cs ∧ (YS I).ss = X.ss := by
  unfold YS
  rw [hX.h2]
  refine ⟨funext fun j => ?_, funext fun j => ?_⟩
  · idx_vars j
    exact qS_cs _ hS _ _
  · rw [show j = ix2 (j 0) (0 : Fin 1) from funext fun d => match d with | ⟨0, _⟩ => rfl | ⟨1, _⟩ => Subsingleton.elim (α := Fin 1) _ _]
    exact qS_ss _ hS _
end

end Cert.KernelIdeal.Body
-- ==== Proof.Value.Arrays.lean ====
/-
  What the kernel's pipeline reads and leaves: its blocks are blocks of the arrays the host prepares, its result arrays
  are what the last step left.
-/
module

public import proofs.«01_k».proof.Proof.Value.Logits
public import proofs.«01_k».proof.Proof.KernelIdeal.Frame
public import Idealize.ShloMosaic.Lib.Pipeline.ValueKit

@[expose] public section

set_option maxRecDepth 16384

noncomputable section

namespace Cert.KernelIdeal.Body

open Cert.KernelIdeal Cert.KernelIdeal.Gen Cert.Common Cert.Fold
open Idealize.ShloMosaic Idealize.ShloMosaic.VecWindow Idealize.SL.Sem
open Cert.ReferenceIdeal.Gen (k0_pay23 k0_pay24 k0_pay25 k0_pay26)

variable (m : (ℓ : Loc nD τ sig) → Buf (Elt Ideal) ℓ)

/-- The arrays the region finds. -/
def arrays (c : Dev nD) : Arrays :=
  ⟨V m c main_v0, V m c main_v1, V m c main_arg2, V m c main_v2, V m c main_arg4, V m c main_v3⟩

theorem V_v0 (c : Dev nD) : V m c main_v0 = shapeCast S256x2560 (m ((c.tc : Thread nD τ).loc main_arg0) : Vec Ideal S2x128x2560 .bf16) shapeCasts_S2x128x2560_S256x2560 := by
  show StableHlo.after hostOps0 _ _ = _
  after_results
  rfl
theorem V_v1 (c : Dev nD) : V m c main_v1 = shapeCast S256x1152 (m ((c.tc : Thread nD τ).loc main_arg1) : Vec Ideal S2x128x1152 .bf16) shapeCasts_S2x128x1152_S256x1152 := by
  show StableHlo.after hostOps0 _ _ = _
  after_results
  rfl
theorem V_v2 (c : Dev nD) : V m c main_v2 = shapeCast S1x131072 (m ((c.tc : Thread nD τ).loc main_arg3) : Vec Ideal S131072 .f32) shapeCasts_S131072_S1x131072 := by
  show StableHlo.after hostOps0 _ _ = _
  after_results
  rfl
theorem V_v3 (c : Dev nD) : V m c main_v3 = shapeCast S1x131072 (m ((c.tc : Thread nD τ).loc main_arg5) : Vec Ideal S131072 .f32) shapeCasts_S131072_S1x131072 := by
  show StableHlo.after hostOps0 _ _ = _
  after_results
  rfl

theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = t.val := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = t.val := by decide +kernel

theorem blocks (c : Dev nD) : Blocks (inp m c) (arrays m c) where
  h1 := by
    funext j
    show iblk m c 0 t0 j = V m c main_v0 j
    unfold iblk
    blk_simp
    refine congrArg _ (funext fun a => match a with | ⟨0, _⟩ => Fin.ext ?_ | ⟨1, _⟩ => Fin.ext ?_)
    · show win0_0.index t0 0 * 256 + 1 * (j 0).val = (j 0).val
      rw [(index0 _).1]; omega
    · show win0_0.index t0 1 * 2560 + 1 * (j 1).val = (j 1).val
      rw [(index0 _).2]; omega
  h2 := by
    funext j
    show iblk m c 1 t0 j = V m c main_v1 j
    unfold iblk
    blk_simp
    refine congrArg _ (funext fun a => match a with | ⟨0, _⟩ => Fin.ext ?_ | ⟨1, _⟩ => Fin.ext ?_)
    · show win0_1.index t0 0 * 256 + 1 * (j 0).val = (j 0).val
      rw [(index1 _).1]; omega
    · show win0_1.index t0 1 * 1152 + 1 * (j 1).val = (j 1).val
      rw [(index1 _).2]; omega
  w := fun t j d => by
    show iblk m c 2 t (ix2 j d) = V m c main_arg2 _
    unfold iblk
    blk_simp
    refine congrArg _ (funext fun a => match a with | ⟨0, _⟩ => Fin.ext ?_ | ⟨1, _⟩ => Fin.ext ?_)
    · show win0_2.index t 0 * 1024 + 1 * j.val = 1024 * t.val + j.val
      rw [(index2 t).1]; omega
    · show win0_2.index t 1 * 2560 + 1 * d.val = d.val
      rw [(index2 t).2]; omega
  wt := fun t j => by
    show iblk m c 3 t (ix2 0 j) = V m c main_v2 _
    unfold iblk
    blk_simp
    refine congrArg _ (funext fun a => match a with | ⟨0, _⟩ => Subsingleton.elim (α := Fin 1) _ _ | ⟨1, _⟩ => Fin.ext ?_)
    show win0_3.index t 1 * 1024 + 1 * j.val = 1024 * t.val + j.val
    rw [(index3 t).2]; omega
  u := fun t j d => by
    show iblk m c 4 t (ix2 j d) = V m c main_arg4 _
    unfold iblk
    blk_simp
    refine congrArg _ (funext fun a => match a with | ⟨0, _⟩ => Fin.ext ?_ | ⟨1, _⟩ => Fin.ext ?_)
    · show win0_4.index t 0 * 1024 + 1 * j.val = 1024 * t.val + j.val
      rw [(index4 t).1]; omega
    · show win0_4.index t 1 * 1152 + 1 * d.val = d.val
      rw [(index4 t).2]; omega
  ws := fun t j => by
    show iblk m c 5 t (ix2 0 j) = V m c main_v3 _
    unfold iblk
    blk_simp
    refine congrArg _ (funext fun a => match a with | ⟨0, _⟩ => Subsingleton.elim (α := Fin 1) _ _ | ⟨1, _⟩ => Fin.ext ?_)
    show win0_5.index t 1 * 1024 + 1 * j.val = 1024 * t.val + j.val
    rw [(index5 t).2]; omega

/-- The last step. -/
def tL : Fin cfg0.N := ⟨127, by rw [N0]; omega⟩

theorem arr6 (c : Dev nD) : (dats m 0 c).arrAt 6 cfg0.N = (outAll (inp m c)).kl :=
  (dats m 0 c).arrAt_eq_of_after_last 6 tL (by decide +kernel) _ fun j => rfl
theorem arr7 (c : Dev nD) : (dats m 0 c).arrAt 7 cfg0.N = (outAll (inp m c)).lt :=
  (dats m 0 c).arrAt_eq_of_after_last 7 tL (by decide +kernel) _ fun j => rfl
theorem arr8 (c : Dev nD) : (dats m 0 c).arrAt 8 cfg0.N = (outAll (inp m c)).ls :=
  (dats m 0 c).arrAt_eq_of_after_last 8 tL (by decide +kernel) _ fun j => rfl
theorem arr9 (c : Dev nD) : (dats m 0 c).arrAt 9 cfg0.N = (outAll (inp m c)).sht :=
  (dats m 0 c).arrAt_eq_of_after_last 9 tL (by decide +kernel) _ fun j => rfl
theorem arr10 (c : Dev nD) : (dats m 0 c).arrAt 10 cfg0.N = (outAll (inp m c)).shs :=
  (dats m 0 c).arrAt_eq_of_after_last 10 tL (by decide +kernel) _ fun j => rfl
theorem arr11 (c : Dev nD) : (dats m 0 c).arrAt 11 cfg0.N = (outAll (inp m c)).sha :=
  (dats m 0 c).arrAt_eq_of_after_last 11 tL (by decide +kernel) _ fun j => rfl
theorem arr12 (c : Dev nD) : (dats m 0 c).arrAt 12 cfg0.N = (XT (inp m c)).ct :=
  (dats m 0 c).arrAt_eq_of_after_last 12 tL (by decide +kernel) _ fun j => rfl
theorem arr13 (c : Dev nD) : (dats m 0 c).arrAt 13 cfg0.N = (XT (inp m c)).st :=
  (dats m 0 c).arrAt_eq_of_after_last 13 tL (by decide +kernel) _ fun j => rfl
theorem arr14 (c : Dev nD) : (dats m 0 c).arrAt 14 cfg0.N = (YS (inp m c)).cs :=
  (dats m 0 c).arrAt_eq_of_after_last 14 tL (by decide +kernel) _ fun j => rfl
theorem arr15 (c : Dev nD) : (dats m 0 c).arrAt 15 cfg0.N = (YS (inp m c)).ss :=
  (dats m 0 c).arrAt_eq_of_after_last 15 tL (by decide +kernel) _ fun j => rfl

/-- Both activations are bounded. -/
def Finite (c : Dev nD) : Prop := Bounded (s := S256x2560) (arrays m c).h1 ∧ Bounded (s := S256x1152) (arrays m c).h2

/-- A run leaves the reference's expressions of the arrays the region finds in the ten results, and keeps the arguments. -/
theorem run_values (ρ : Dev nD → PrngReg) (hf : ∀ c, Finite m c) :
    θ_run defs (onTc (τ := τ) (main (F := Ideal))) ⟨m, fun _ => 0, ρ⟩ fun r => ∀ c : Dev nD,
      r.2.mem ((c.tc : Thread nD τ).loc main_v4_0) = (arrays m c).kl
      ∧ r.2.mem ((c.tc : Thread nD τ).loc main_v4_1) = k0_pay23 (arrays m c).tL
      ∧ r.2.mem ((c.tc : Thread nD τ).loc main_v4_2) = k0_pay24 (arrays m c).sL
      ∧ r.2.mem ((c.tc : Thread nD τ).loc main_v4_3) = k0_pay25 (arrays m c).lseT
      ∧ r.2.mem ((c.tc : Thread nD τ).loc main_v4_4) = k0_pay26 (arrays m c).lseS
      ∧ r.2.mem ((c.tc : Thread nD τ).loc main_v4_5) = (arrays m c).diff
      ∧ r.2.mem ((c.tc : Thread nD τ).loc main_v4_6) = (arrays m c).ct
      ∧ r.2.mem ((c.tc : Thread nD τ).loc main_v4_7) = (arrays m c).st
      ∧ r.2.mem ((c.tc : Thread nD τ).loc main_v4_8) = (arrays m c).cs
      ∧ r.2.mem ((c.tc : Thread nD τ).loc main_v4_9) = (arrays m c).ss
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨hT, hS⟩ := hf c
    obtain ⟨e6, e7, e8, e9, e10, e11⟩ := results_eq (blocks m c) hT hS
    obtain ⟨e12, e13⟩ := quantT_eq (blocks m c) hT
    obtain ⟨e14, e15⟩ := quantS_eq (blocks m c) hS
    exact ⟨((h c).1 6).trans ((arr6 m c).trans e6), ((h c).1 7).trans ((arr7 m c).trans e7), ((h c).1 8).trans ((arr8 m c).trans e8),
      ((h c).1 9).trans ((arr9 m c).trans e9), ((h c).1 10).trans ((arr10 m c).trans e10), ((h c).1 11).trans ((arr11 m c).trans e11),
      ((h c).1 12).trans ((arr12 m c).trans e12), ((h c).1 13).trans ((arr13 m c).trans e13), ((h c).1 14).trans ((arr14 m c).trans e14),
      ((h c).1 15).trans ((arr15 m c).trans e15),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Body
-- ==== Proof.Value.RefArrays.lean ====
/-
  What the reference leaves: its single step holds the whole arrays, so its results are its expressions of them.
-/
module

public import proofs.«01_k».proof.Proof.Value.Logits
public import proofs.«01_k».proof.Proof.Gen.ReferenceIdeal.Frame
public import Idealize.ShloMosaic.Lib.Pipeline.ValueKit

@[expose] public section

set_option maxRecDepth 16384

noncomputable section

namespace Cert.ReferenceIdeal.Read

open Cert.ReferenceIdeal Cert.ReferenceIdeal.Gen Cert.Common Cert.Fold
open Idealize.ShloMosaic Idealize.ShloMosaic.VecWindow Idealize.SL.Sem
open Cert.KernelIdeal.Body (Arrays)

variable (m : (ℓ : Loc nD τ sig) → Buf (Elt Ideal) ℓ)

/-- The arrays the region finds. -/
def arrays (c : Dev nD) : Arrays :=
  ⟨V m c main_v0, V m c main_v1, V m c main_arg2, V m c main_v2, V m c main_arg4, V m c main_v3⟩

theorem V_v0 (c : Dev nD) : V m c main_v0 = shapeCast S256x2560 (m ((c.tc : Thread nD τ).loc main_arg0) : Vec Ideal S2x128x2560 .bf16) shapeCasts_S2x128x2560_S256x2560 := by
  show StableHlo.after hostOps0 _ _ = _
  after_results
  rfl
theorem V_v1 (c : Dev nD) : V m c main_v1 = shapeCast S256x1152 (m ((c.tc : Thread nD τ).loc main_arg1) : Vec Ideal S2x128x1152 .bf16) shapeCasts_S2x128x1152_S256x1152 := by
  show StableHlo.after hostOps0 _ _ = _
  after_results
  rfl
theorem V_v2 (c : Dev nD) : V m c main_v2 = shapeCast S1x131072 (m ((c.tc : Thread nD τ).loc main_arg3) : Vec Ideal S131072 .f32) shapeCasts_S131072_S1x131072 := by
  show StableHlo.after hostOps0 _ _ = _
  after_results
  rfl
theorem V_v3 (c : Dev nD) : V m c main_v3 = shapeCast S1x131072 (m ((c.tc : Thread nD τ).loc main_arg5) : Vec Ideal S131072 .f32) shapeCasts_S131072_S1x131072 := by
  show StableHlo.after hostOps0 _ _ = _
  after_results
  rfl

/-- The one step. -/
def tOne : Fin cfg0.N := ⟨0, by decide⟩

theorem index0 : win0_0.index tOne 0 = 0 ∧ win0_0.index tOne 1 = 0 := by decide +kernel
theorem block0 (c : Dev nD) : iblk m c 0 tOne = V m c main_v0 := by
  funext j
  unfold iblk
  blk_simp
  refine congrArg _ (funext fun a => match a with | ⟨0, _⟩ => Fin.ext ?_ | ⟨1, _⟩ => Fin.ext ?_)
  · show win0_0.index tOne 0 * 256 + 1 * (j 0).val = (j 0).val
    rw [index0.1]; omega
  · show win0_0.index tOne 1 * 2560 + 1 * (j 1).val = (j 1).val
    rw [index0.2]; omega
theorem index1 : win0_1.index tOne 0 = 0 ∧ win0_1.index tOne 1 = 0 := by decide +kernel
theorem block1 (c : Dev nD) : iblk m c 1 tOne = V m c main_v1 := by
  funext j
  unfold iblk
  blk_simp
  refine congrArg _ (funext fun a => match a with | ⟨0, _⟩ => Fin.ext ?_ | ⟨1, _⟩ => Fin.ext ?_)
  · show win0_1.index tOne 0 * 256 + 1 * (j 0).val = (j 0).val
    rw [index1.1]; omega
  · show win0_1.index tOne 1 * 1152 + 1 * (j 1).val = (j 1).val
    rw [index1.2]; omega
theorem index2 : win0_2.index tOne 0 = 0 ∧ win0_2.index tOne 1 = 0 := by decide +kernel
theorem block2 (c : Dev nD) : iblk m c 2 tOne = V m c main_arg2 := by
  funext j
  unfold iblk
  blk_simp
  refine congrArg _ (funext fun a => match a with | ⟨0, _⟩ => Fin.ext ?_ | ⟨1, _⟩ => Fin.ext ?_)
  · show win0_2.index tOne 0 * 131072 + 1 * (j 0).val = (j 0).val
    rw [index2.1]; omega
  · show win0_2.index tOne 1 * 2560 + 1 * (j 1).val = (j 1).val
    rw [index2.2]; omega
theorem index3 : win0_3.index tOne 0 = 0 ∧ win0_3.index tOne 1 = 0 := by decide +kernel
theorem block3 (c : Dev nD) : iblk m c 3 tOne = V m c main_v2 := by
  funext j
  unfold iblk
  blk_simp
  refine congrArg _ (funext fun a => match a with | ⟨0, _⟩ => Fin.ext ?_ | ⟨1, _⟩ => Fin.ext ?_)
  · show win0_3.index tOne 0 * 1 + 1 * (j 0).val = (j 0).val
    rw [index3.1]; omega
  · show win0_3.index tOne 1 * 131072 + 1 * (j 1).val = (j 1).val
    rw [index3.2]; omega
theorem index4 : win0_4.index tOne 0 = 0 ∧ win0_4.index tOne 1 = 0 := by decide +kernel
theorem block4 (c : Dev nD) : iblk m c 4 tOne = V m c main_arg4 := by
  funext j
  unfold iblk
  blk_simp
  refine congrArg _ (funext fun a => match a with | ⟨0, _⟩ => Fin.ext ?_ | ⟨1, _⟩ => Fin.ext ?_)
  · show win0_4.index tOne 0 * 131072 + 1 * (j 0).val = (j 0).val
    rw [index4.1]; omega
  · show win0_4.index tOne 1 * 1152 + 1 * (j 1).val = (j 1).val
    rw [index4.2]; omega
theorem index5 : win0_5.index tOne 0 = 0 ∧ win0_5.index tOne 1 = 0 := by decide +kernel
theorem block5 (c : Dev nD) : iblk m c 5 tOne = V m c main_v3 := by
  funext j
  unfold iblk
  blk_simp
  refine congrArg _ (funext fun a => match a with | ⟨0, _⟩ => Fin.ext ?_ | ⟨1, _⟩ => Fin.ext ?_)
  · show win0_5.index tOne 0 * 1 + 1 * (j 0).val = (j 0).val
    rw [index5.1]; omega
  · show win0_5.index tOne 1 * 131072 + 1 * (j 1).val = (j 1).val
    rw [index5.2]; omega

theorem zero2 : (![0, 0] : Fin 2 → ℕ) = fun _ => 0 := funext fun a => by fin_cases a <;> rfl

theorem ld0 (x : Vec Ideal S256x2560 .bf16) : View.ld x r0_0 = x := View.ld_unit_zero (S := S256x2560) zero2 _ x
theorem ld1 (x : Vec Ideal S256x1152 .bf16) : View.ld x r0_1 = x := View.ld_unit_zero (S := S256x1152) zero2 _ x
theorem ld2 (x : Vec Ideal S131072x2560 .fp8e4m3) : View.ld x r0_2 = x := View.ld_unit_zero (S := S131072x2560) zero2 _ x
theorem ld3 (x : Vec Ideal S1x131072 .f32) : View.ld x r0_3 = x := View.ld_unit_zero (S := S1x131072) zero2 _ x
theorem ld4 (x : Vec Ideal S131072x1152 .fp8e4m3) : View.ld x r0_4 = x := View.ld_unit_zero (S := S131072x1152) zero2 _ x

section
variable (X : Arrays)
theorem out6 : out0_6 X.h1 X.h2 X.w X.wt X.u X.ws = X.kl := by
  unfold_out out0_6
  refine (View.canon_unit_zero zero2 _ _).trans ?_
  simp only [ld0, ld1, ld2, ld3, ld4]
  rfl
theorem out7 : out0_7 X.h1 X.h2 X.w X.wt X.u X.ws = k0_pay23 X.tL := by
  unfold_out out0_7
  refine (View.canon_unit_zero zero2 _ _).trans ?_
  simp only [ld0, ld1, ld2, ld3, ld4]
  rfl
theorem out8 : out0_8 X.h1 X.h2 X.w X.wt X.u X.ws = k0_pay24 X.sL := by
  unfold_out out0_8
  refine (View.canon_unit_zero zero2 _ _).trans ?_
  simp only [ld0, ld1, ld2, ld3, ld4]
  rfl
theorem out9 : out0_9 X.h1 X.h2 X.w X.wt X.u X.ws = k0_pay25 X.lseT := by
  unfold_out out0_9
  refine (View.canon_unit_zero zero2 _ _).trans ?_
  simp only [ld0, ld1, ld2, ld3, ld4]
  rfl
theorem out10 : out0_10 X.h1 X.h2 X.w X.wt X.u X.ws = k0_pay26 X.lseS := by
  unfold_out out0_10
  refine (View.canon_unit_zero zero2 _ _).trans ?_
  simp only [ld0, ld1, ld2, ld3, ld4]
  rfl
theorem out11 : out0_11 X.h1 X.h2 X.w X.wt X.u X.ws = X.diff := by
  unfold_out out0_11
  refine (View.canon_unit_zero zero2 _ _).trans ?_
  simp only [ld0, ld1, ld2, ld3, ld4]
  rfl
theorem out12 : out0_12 X.h1 X.h2 X.w X.wt X.u X.ws = X.ct := by
  unfold_out out0_12
  refine (View.canon_unit_zero zero2 _ _).trans ?_
  simp only [ld0, ld1, ld2, ld3, ld4]
  rfl
theorem out13 : out0_13 X.h1 X.h2 X.w X.wt X.u X.ws = X.st := by
  unfold_out out0_13
  refine (View.canon_unit_zero zero2 _ _).trans ?_
  simp only [ld0, ld1, ld2, ld3, ld4]
  rfl
theorem out14 : out0_14 X.h1 X.h2 X.w X.wt X.u X.ws = X.cs := by
  unfold_out out0_14
  refine (View.canon_unit_zero zero2 _ _).trans ?_
  simp only [ld0, ld1, ld2, ld3, ld4]
  rfl
theorem out15 : out0_15 X.h1 X.h2 X.w X.wt X.u X.ws = X.ss := by
  unfold_out out0_15
  refine (View.canon_unit_zero zero2 _ _).trans ?_
  simp only [ld0, ld1, ld2, ld3, ld4]
  rfl
end

theorem last6 (c : Dev nD) : (dats m 0 c).arrAt 6 cfg0.N = (dats m 0 c).after 6 tOne :=
  (dats m 0 c).arrAt_eq_of_after_last 6 tOne (by decide +kernel) ((dats m 0 c).after 6 tOne) fun j => rfl
theorem last7 (c : Dev nD) : (dats m 0 c).arrAt 7 cfg0.N = (dats m 0 c).after 7 tOne :=
  (dats m 0 c).arrAt_eq_of_after_last 7 tOne (by decide +kernel) ((dats m 0 c).after 7 tOne) fun j => rfl
theorem last8 (c : Dev nD) : (dats m 0 c).arrAt 8 cfg0.N = (dats m 0 c).after 8 tOne :=
  (dats m 0 c).arrAt_eq_of_after_last 8 tOne (by decide +kernel) ((dats m 0 c).after 8 tOne) fun j => rfl
theorem last9 (c : Dev nD) : (dats m 0 c).arrAt 9 cfg0.N = (dats m 0 c).after 9 tOne :=
  (dats m 0 c).arrAt_eq_of_after_last 9 tOne (by decide +kernel) ((dats m 0 c).after 9 tOne) fun j => rfl
theorem last10 (c : Dev nD) : (dats m 0 c).arrAt 10 cfg0.N = (dats m 0 c).after 10 tOne :=
  (dats m 0 c).arrAt_eq_of_after_last 10 tOne (by decide +kernel) ((dats m 0 c).after 10 tOne) fun j => rfl
theorem last11 (c : Dev nD) : (dats m 0 c).arrAt 11 cfg0.N = (dats m 0 c).after 11 tOne :=
  (dats m 0 c).arrAt_eq_of_after_last 11 tOne (by decide +kernel) ((dats m 0 c).after 11 tOne) fun j => rfl
theorem last12 (c : Dev nD) : (dats m 0 c).arrAt 12 cfg0.N = (dats m 0 c).after 12 tOne :=
  (dats m 0 c).arrAt_eq_of_after_last 12 tOne (by decide +kernel) ((dats m 0 c).after 12 tOne) fun j => rfl
theorem last13 (c : Dev nD) : (dats m 0 c).arrAt 13 cfg0.N = (dats m 0 c).after 13 tOne :=
  (dats m 0 c).arrAt_eq_of_after_last 13 tOne (by decide +kernel) ((dats m 0 c).after 13 tOne) fun j => rfl
theorem last14 (c : Dev nD) : (dats m 0 c).arrAt 14 cfg0.N = (dats m 0 c).after 14 tOne :=
  (dats m 0 c).arrAt_eq_of_after_last 14 tOne (by decide +kernel) ((dats m 0 c).after 14 tOne) fun j => rfl
theorem last15 (c : Dev nD) : (dats m 0 c).arrAt 15 cfg0.N = (dats m 0 c).after 15 tOne :=
  (dats m 0 c).arrAt_eq_of_after_last 15 tOne (by decide +kernel) ((dats m 0 c).after 15 tOne) fun j => rfl

theorem arr6 (c : Dev nD) : (dats m 0 c).arrAt 6 cfg0.N = (arrays m c).kl :=
  (last6 m c).trans ((after0_6 m c tOne).trans (by rw [block0, block1, block2, block3, block4, block5]; exact out6 (arrays m c)))
theorem arr7 (c : Dev nD) : (dats m 0 c).arrAt 7 cfg0.N = k0_pay23 (arrays m c).tL :=
  (last7 m c).trans ((after0_7 m c tOne).trans (by rw [block0, block1, block2, block3, block4, block5]; exact out7 (arrays m c)))
theorem arr8 (c : Dev nD) : (dats m 0 c).arrAt 8 cfg0.N = k0_pay24 (arrays m c).sL :=
  (last8 m c).trans ((after0_8 m c tOne).trans (by rw [block0, block1, block2, block3, block4, block5]; exact out8 (arrays m c)))
theorem arr9 (c : Dev nD) : (dats m 0 c).arrAt 9 cfg0.N = k0_pay25 (arrays m c).lseT :=
  (last9 m c).trans ((after0_9 m c tOne).trans (by rw [block0, block1, block2, block3, block4, block5]; exact out9 (arrays m c)))
theorem arr10 (c : Dev nD) : (dats m 0 c).arrAt 10 cfg0.N = k0_pay26 (arrays m c).lseS :=
  (last10 m c).trans ((after0_10 m c tOne).trans (by rw [block0, block1, block2, block3, block4, block5]; exact out10 (arrays m c)))
theorem arr11 (c : Dev nD) : (dats m 0 c).arrAt 11 cfg0.N = (arrays m c).diff :=
  (last11 m c).trans ((after0_11 m c tOne).trans (by rw [block0, block1, block2, block3, block4, block5]; exact out11 (arrays m c)))
theorem arr12 (c : Dev nD) : (dats m 0 c).arrAt 12 cfg0.N = (arrays m c).ct :=
  (last12 m c).trans ((after0_12 m c tOne).trans (by rw [block0, block1, block2, block3, block4, block5]; exact out12 (arrays m c)))
theorem arr13 (c : Dev nD) : (dats m 0 c).arrAt 13 cfg0.N = (arrays m c).st :=
  (last13 m c).trans ((after0_13 m c tOne).trans (by rw [block0, block1, block2, block3, block4, block5]; exact out13 (arrays m c)))
theorem arr14 (c : Dev nD) : (dats m 0 c).arrAt 14 cfg0.N = (arrays m c).cs :=
  (last14 m c).trans ((after0_14 m c tOne).trans (by rw [block0, block1, block2, block3, block4, block5]; exact out14 (arrays m c)))
theorem arr15 (c : Dev nD) : (dats m 0 c).arrAt 15 cfg0.N = (arrays m c).ss :=
  (last15 m c).trans ((after0_15 m c tOne).trans (by rw [block0, block1, block2, block3, block4, block5]; exact out15 (arrays m c)))

/-- A run leaves the reference's expressions of the arrays the region finds in the ten results, and keeps the arguments. -/
theorem run_values (ρ : Dev nD → PrngReg) :
    θ_run defs (onTc (τ := τ) (main (F := Ideal))) ⟨m, fun _ => 0, ρ⟩ fun r => ∀ c : Dev nD,
      r.2.mem ((c.tc : Thread nD τ).loc main_v4_0) = (arrays m c).kl
      ∧ r.2.mem ((c.tc : Thread nD τ).loc main_v4_1) = k0_pay23 (arrays m c).tL
      ∧ r.2.mem ((c.tc : Thread nD τ).loc main_v4_2) = k0_pay24 (arrays m c).sL
      ∧ r.2.mem ((c.tc : Thread nD τ).loc main_v4_3) = k0_pay25 (arrays m c).lseT
      ∧ r.2.mem ((c.tc : Thread nD τ).loc main_v4_4) = k0_pay26 (arrays m c).lseS
      ∧ r.2.mem ((c.tc : Thread nD τ).loc main_v4_5) = (arrays m c).diff
      ∧ r.2.mem ((c.tc : Thread nD τ).loc main_v4_6) = (arrays m c).ct
      ∧ r.2.mem ((c.tc : Thread nD τ).loc main_v4_7) = (arrays m c).st
      ∧ r.2.mem ((c.tc : Thread nD τ).loc main_v4_8) = (arrays m c).cs
      ∧ r.2.mem ((c.tc : Thread nD τ).loc main_v4_9) = (arrays m c).ss
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (arr6 m c),
      ((h c).1 7).trans (arr7 m c),
      ((h c).1 8).trans (arr8 m c),
      ((h c).1 9).trans (arr9 m c),
      ((h c).1 10).trans (arr10 m c),
      ((h c).1 11).trans (arr11 m c),
      ((h c).1 12).trans (arr12 m c),
      ((h c).1 13).trans (arr13 m c),
      ((h c).1 14).trans (arr14 m c),
      ((h c).1 15).trans (arr15 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.ReferenceIdeal.Read
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Value.Arrays
public import proofs.«01_k».proof.Proof.Value.RefArrays
public import Idealize.ShloMosaic.Adequacy
public import Idealize.ShloMosaic.Init

@[expose] public section

noncomputable section

namespace Cert.Proof

open Idealize.ShloMosaic Idealize.SL.Sem Cert.Kernel

/-- The shapes the precondition broadcasts its bound to. -/
theorem pre_facts : Cert.Pre_finite.Facts where
  bcast_S_S2x128x2560 := by decide
  bcast_S_S2x128x1152 := by decide

attribute [local instance] Cert.Kernel.Gen.facts Cert.KernelIdeal.Gen.facts Cert.ReferenceIdeal.Gen.facts pre_facts

/-- A comparison that holds is an inequality. -/
theorem le_of_cmpf {x y : EReal} (h : FloatOps.cmpf (F := Ideal) (φ := .bf16) .ole x y = 1#1) : x ≤ y := by
  by_contra hn
  have h' : BitVec.ofBool (decide (x ≤ y)) = 1#1 := h
  rw [decide_eq_false hn] at h'
  exact absurd h' (by decide)

/-- The precondition bounds the reshaped activations. -/
theorem finite_of_pre (m : (ℓ : Loc Cert.KernelIdeal.nD Cert.KernelIdeal.τ Cert.KernelIdeal.sig) → Buf (Elt Ideal) ℓ) (h : Cert.Pre_KernelIdeal_finite m)
    (c : Dev Cert.KernelIdeal.nD) : Cert.KernelIdeal.Body.Finite m c := by
  obtain ⟨h0, h1⟩ := h c
  refine ⟨fun i => ?_, fun i => ?_⟩
  · show FloatOps.absf (φ := .f32) (F := Ideal) (Cert.KernelIdeal.Gen.V m c Cert.KernelIdeal.main_v0 i) ≤ _
    rw [Cert.KernelIdeal.Body.V_v0]
    exact le_of_cmpf (congrFun h0 _)
  · show FloatOps.absf (φ := .f32) (F := Ideal) (Cert.KernelIdeal.Gen.V m c Cert.KernelIdeal.main_v1 i) ≤ _
    rw [Cert.KernelIdeal.Body.V_v1]
    exact le_of_cmpf (congrFun h1 _)

/-- Equal arguments give equal arrays. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Read.arrays m' c = Cert.KernelIdeal.Body.arrays m c := by
  obtain ⟨h0, h1, h2, h3, h4, h5⟩ := h
  unfold Cert.ReferenceIdeal.Read.arrays Cert.KernelIdeal.Body.arrays
  rw [Cert.ReferenceIdeal.Read.V_v0, Cert.ReferenceIdeal.Read.V_v1, Cert.ReferenceIdeal.Read.V_v2, Cert.ReferenceIdeal.Read.V_v3,
    Cert.ReferenceIdeal.Gen.V_main_arg2, Cert.ReferenceIdeal.Gen.V_main_arg4,
    Cert.KernelIdeal.Body.V_v0, Cert.KernelIdeal.Body.V_v1, Cert.KernelIdeal.Body.V_v2, Cert.KernelIdeal.Body.V_v3,
    Cert.KernelIdeal.Gen.V_main_arg2, Cert.KernelIdeal.Gen.V_main_arg4, h0, h1, h2, h3, h4, h5]

theorem algebraic : Cert.algebraic_KernelIdeal_ReferenceIdeal_pre_finite := by
  intro m g m' g' hp ha
  have hr := Cert.ReferenceIdeal.Read.run_values m' g'
  simp only [fun c => arrays_eq m m' c (ha c)] at hr
  exact ⟨_, _, _, _, _, _, _, _, _, _, Cert.KernelIdeal.Body.run_values m g (finite_of_pre m hp), hr⟩

theorem claim : Cert.Claim := ⟨Cert.Kernel.Gen.facts, Cert.KernelIdeal.Gen.facts, Cert.ReferenceIdeal.Gen.facts, pre_facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Gen.frame m ρ,
  fun m ρ _ => Cert.ReferenceIdeal.Gen.frame m ρ,
  ⟨IdealRules.named_const.statement Cert.KernelIdeal.κ "log2e_over_temp" .f32 0x3F38AA3B#32 (((Real.log 2)⁻¹ * 2⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩,
  algebraic⟩

end Cert.Proof

end
